-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![2048]⟩ ⟨1, ![8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![4, 1024, 2048]⟩ ⟨3, ![16, 1024, 2048]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 2048, 1024]⟩ ⟨3, ![16, 2048, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v208)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v208) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S1x2048 : Shape := ⟨2, ![1, 2048]⟩
abbrev S16 : Shape := ⟨1, ![16]⟩
abbrev S16x1 : Shape := ⟨2, ![16, 1]⟩
abbrev S16x2048 : Shape := ⟨2, ![16, 2048]⟩
abbrev S_ : Shape := ⟨0, ![]⟩

class Facts : Prop where
  bcast_S2048_S1x2048_1 : S2048.BroadcastsInDim S1x2048 (![1] : Fin 1 → Fin S1x2048.rank)
  bcast_S16_S16x1_0 : S16.BroadcastsInDim S16x1 (![0] : Fin 1 → Fin S16x1.rank)
  bcast_S1x2048_S16x2048_0_1 : S1x2048.BroadcastsInDim S16x2048 (![0, 1] : Fin 2 → Fin S16x2048.rank)
  bcast_S16x1_S16x2048_0_1 : S16x1.BroadcastsInDim S16x2048 (![0, 1] : Fin 2 → Fin S16x2048.rank)
  natLt_1_32 : 1 < 32
  reducesTo_S16x2048_S16_d1 : S16x2048.ReducesTo [1] S16
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S2048x1024 .bf16) (main_arg1 : IVec S2048 32) (main_arg2 : FVec F S4x1024x2048 .bf16) (main_arg3 : FVec F S4x2048x1024 .bf16) : IVec S_ 1 :=
  let main_v0 : IVec S1x2048 32 := broadcastInDim S1x2048 ![1] bcast_S2048_S1x2048_1 main_arg1
  let main_v1 : IVec S16 32 := iotaInDim S16 32 0
  let main_v2 : IVec S16x1 32 := broadcastInDim S16x1 ![0] bcast_S16_S16x1_0 main_v1
  let main_v3 : IVec S16x2048 32 := broadcastInDim S16x2048 ![0, 1] bcast_S1x2048_S16x2048_0_1 main_v0
  let main_v4 : IVec S16x2048 32 := broadcastInDim S16x2048 ![0, 1] bcast_S16x1_S16x2048_0_1 main_v2
  let main_v5 : IVec S16x2048 1 := cmpi .eq main_v3 main_v4
  let main_v6 : IVec S16x2048 32 := (extui 32 · natLt_1_32) main_v5
  let main_c : IVec S_ 32 := constantI S_ 32 0#32
  let main_v7 : IVec S16 32 := (fun x v => Host.reduce IntOp.addi x v reducesTo_S16x2048_S16_d1 h_S_) main_v6 main_c
  let main_c_0 : IVec S_ 32 := constantI S_ 32 192#32
  let main_v8 : IVec S16 32 := broadcastInDim S16 ![] bcast_S_S16 main_c_0
  let main_v9 : IVec S16 1 := cmpi .sle main_v7 main_v8
  let main_c_1 : IVec S_ 1 := constantI S_ 1 1#1
  let main_v10 : IVec S_ 1 := (fun x v => Host.reduce IntOp.andi x v reducesTo_S16_S_d0 h_S_) main_v9 main_c_1
  main_v10
-- ==== Pre_fits_ReferenceIdeal.lean ====
abbrev S8192x1024 : Shape := ⟨2, ![8192, 1024]⟩
abbrev S8192 : Shape := ⟨1, ![8192]⟩
abbrev S16x1024x2048 : Shape := ⟨3, ![16, 1024, 2048]⟩
abbrev S16x2048x1024 : Shape := ⟨3, ![16, 2048, 1024]⟩
abbrev S1x8192 : Shape := ⟨2, ![1, 8192]⟩
abbrev S16 : Shape := ⟨1, ![16]⟩
abbrev S16x1 : Shape := ⟨2, ![16, 1]⟩
abbrev S16x8192 : Shape := ⟨2, ![16, 8192]⟩
abbrev S_ : Shape := ⟨0, ![]⟩

class Facts : Prop where
  bcast_S8192_S1x8192_1 : S8192.BroadcastsInDim S1x8192 (![1] : Fin 1 → Fin S1x8192.rank)
  bcast_S16_S16x1_0 : S16.BroadcastsInDim S16x1 (![0] : Fin 1 → Fin S16x1.rank)
  bcast_S1x8192_S16x8192_0_1 : S1x8192.BroadcastsInDim S16x8192 (![0, 1] : Fin 2 → Fin S16x8192.rank)
  bcast_S16x1_S16x8192_0_1 : S16x1.BroadcastsInDim S16x8192 (![0, 1] : Fin 2 → Fin S16x8192.rank)
  natLt_1_32 : 1 < 32
  reducesTo_S16x8192_S16_d1 : S16x8192.ReducesTo [1] S16
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S8192x1024 .bf16) (main_arg1 : IVec S8192 32) (main_arg2 : FVec F S16x1024x2048 .bf16) (main_arg3 : FVec F S16x2048x1024 .bf16) : IVec S_ 1 :=
  let main_v0 : IVec S1x8192 32 := broadcastInDim S1x8192 ![1] bcast_S8192_S1x8192_1 main_arg1
  let main_v1 : IVec S16 32 := iotaInDim S16 32 0
  let main_v2 : IVec S16x1 32 := broadcastInDim S16x1 ![0] bcast_S16_S16x1_0 main_v1
  let main_v3 : IVec S16x8192 32 := broadcastInDim S16x8192 ![0, 1] bcast_S1x8192_S16x8192_0_1 main_v0
  let main_v4 : IVec S16x8192 32 := broadcastInDim S16x8192 ![0, 1] bcast_S16x1_S16x8192_0_1 main_v2
  let main_v5 : IVec S16x8192 1 := cmpi .eq main_v3 main_v4
  let main_v6 : IVec S16x8192 32 := (extui 32 · natLt_1_32) main_v5
  let main_c : IVec S_ 32 := constantI S_ 32 0#32
  let main_v7 : IVec S16 32 := (fun x v => Host.reduce IntOp.addi x v reducesTo_S16x8192_S16_d1 h_S_) main_v6 main_c
  let main_c_0 : IVec S_ 32 := constantI S_ 32 192#32
  let main_v8 : IVec S16 32 := broadcastInDim S16 ![] bcast_S_S16 main_c_0
  let main_v9 : IVec S16 1 := cmpi .sle main_v7 main_v8
  let main_c_1 : IVec S_ 1 := constantI S_ 1 1#1
  let main_v10 : IVec S_ 1 := (fun x v => Host.reduce IntOp.andi x v reducesTo_S16_S_d0 h_S_) main_v9 main_c_1
  main_v10
-- ==== Kernel.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S16x128 : Shape := ⟨2, ![16, 128]⟩
abbrev S8192x1024 : Shape := ⟨2, ![8192, 1024]⟩
abbrev S64x128 : Shape := ⟨2, ![64, 128]⟩
abbrev S3 : Shape := ⟨1, ![3]⟩
abbrev S_ : Shape := ⟨0, ![]⟩
abbrev S1 : Shape := ⟨1, ![1]⟩
abbrev S8192 : Shape := ⟨1, ![8192]⟩
abbrev S4 : Shape := ⟨1, ![4]⟩
abbrev S1x8192 : Shape := ⟨2, ![1, 8192]⟩
abbrev S4x1 : Shape := ⟨2, ![4, 1]⟩
abbrev S4x8192 : Shape := ⟨2, ![4, 8192]⟩
abbrev S4x768 : Shape := ⟨2, ![4, 768]⟩
abbrev S3072 : Shape := ⟨1, ![3072]⟩
abbrev S3072x1 : Shape := ⟨2, ![3072, 1]⟩
abbrev S1x1 : Shape := ⟨2, ![1, 1]⟩
abbrev S3072x1024 : Shape := ⟨2, ![3072, 1024]⟩
abbrev S4x768x1024 : Shape := ⟨3, ![4, 768, 1024]⟩
abbrev S4x768x2048 : Shape := ⟨3, ![4, 768, 2048]⟩
abbrev S4x768x1 : Shape := ⟨3, ![4, 768, 1]⟩
abbrev S3x2048x1024 : Shape := ⟨3, ![3, 2048, 1024]⟩
abbrev S1x2048x1024 : Shape := ⟨3, ![1, 2048, 1024]⟩

abbrev nBuf : Space → Nat
  | .hbm => 107
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048, .i32⟩
  | .hbm, ⟨2, _⟩ => ⟨S4x1024x2048, .bf16⟩
  | .hbm, ⟨3, _⟩ => ⟨S4x2048x1024, .bf16⟩
  | .hbm, ⟨4, _⟩ => ⟨S16x128, .i32⟩
  | .hbm, ⟨5, _⟩ => ⟨S8192x1024, .bf16⟩
  | .hbm, ⟨6, _⟩ => ⟨S64x128, .i32⟩
  | .hbm, ⟨7, _⟩ => ⟨S8192, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S_, .i32⟩
  | .hbm, ⟨19, _⟩ => ⟨S4, .i32⟩
  | .hbm, ⟨20, _⟩ => ⟨S4, .i32⟩
  | .hbm, ⟨21, _⟩ => ⟨S4, .i32⟩
  | .hbm, ⟨22, _⟩ => ⟨S1x8192, .i32⟩
  | .hbm, ⟨23, _⟩ => ⟨S4x1, .i32⟩
  | .hbm, ⟨24, _⟩ => ⟨S4x8192, .i32⟩
  | .hbm, ⟨25, _⟩ => ⟨S4x8192, .i32⟩
  | .hbm, ⟨26, _⟩ => ⟨S4x8192, .i1⟩
  | .hbm, ⟨27, _⟩ => ⟨S4x8192, .i32⟩
  | .hbm, ⟨28, _⟩ => ⟨S_, .i32⟩
  | .hbm, ⟨29, _⟩ => ⟨S4, .i32⟩
  | .hbm, ⟨30, _⟩ => ⟨S_, .i32⟩
  | .hbm, ⟨31, _⟩ => ⟨S4, .i32⟩
  | .hbm, ⟨32, _⟩ => ⟨S4, .i1⟩
  | .hbm, ⟨33, _⟩ => ⟨S_, .i32⟩
  | .hbm, ⟨34, _⟩ => ⟨S4, .i32⟩
  | .hbm, ⟨35, _⟩ => ⟨S4, .i32⟩
  | .hbm, ⟨36, _⟩ => ⟨S4, .i32⟩
  | .hbm, ⟨37, _⟩ => ⟨S4x1, .i32⟩
  | .hbm, ⟨38, _⟩ => ⟨S4x768, .i32⟩
  | .hbm, ⟨39, _⟩ => ⟨S_, .i32⟩
  | .hbm, ⟨40, _⟩ => ⟨S4, .i32⟩
  | .hbm, ⟨41, _⟩ => ⟨S4, .i1⟩
  | .hbm, ⟨42, _⟩ => ⟨S_, .i32⟩
  | .hbm, ⟨43, _⟩ => ⟨S4, .i32⟩
  | .hbm, ⟨44, _⟩ => ⟨S4, .i32⟩
  | .hbm, ⟨45, _⟩ => ⟨S4, .i32⟩
  | .hbm, ⟨46, _⟩ => ⟨S4x1, .i32⟩
  | .hbm, ⟨47, _⟩ => ⟨S4x768, .i32⟩
  | .hbm, ⟨48, _⟩ => ⟨S4x1, .i32⟩
  | .hbm, ⟨49, _⟩ => ⟨S4x768, .i32⟩
  | .hbm, ⟨50, _⟩ => ⟨S4x768, .i1⟩
  | .hbm, ⟨51, _⟩ => ⟨S3072, .i32⟩
  | .hbm, ⟨52, _⟩ => ⟨S_, .i32⟩
  | .hbm, ⟨53, _⟩ => ⟨S3072, .i32⟩
  | .hbm, ⟨54, _⟩ => ⟨S3072, .i1⟩
  | .hbm, ⟨55, _⟩ => ⟨S_, .i32⟩
  | .hbm, ⟨56, _⟩ => ⟨S3072, .i32⟩
  | .hbm, ⟨57, _⟩ => ⟨S3072, .i32⟩
  | .hbm, ⟨58, _⟩ => ⟨S3072, .i32⟩
  | .hbm, ⟨59, _⟩ => ⟨S3072x1, .i32⟩
  | .hbm, ⟨60, _⟩ => ⟨S1, .i32⟩
  | .hbm, ⟨61, _⟩ => ⟨S_, .i32⟩
  | .hbm, ⟨62, _⟩ => ⟨S3072x1, .i32⟩
  | .hbm, ⟨63, _⟩ => ⟨S3072x1, .i1⟩
  | .hbm, ⟨64, _⟩ => ⟨S1x1, .i32⟩
  | .hbm, ⟨65, _⟩ => ⟨S3072x1, .i32⟩
  | .hbm, ⟨66, _⟩ => ⟨S3072x1, .i1⟩
  | .hbm, ⟨67, _⟩ => ⟨S3072x1, .i1⟩
  | .hbm, ⟨68, _⟩ => ⟨S_, .i1⟩
  | .hbm, ⟨69, _⟩ => ⟨S3072, .i1⟩
  | .hbm, ⟨70, _⟩ => ⟨S3072x1024, .bf16⟩
  | .hbm, ⟨71, _⟩ => ⟨S3072x1024, .i1⟩
  | .hbm, ⟨72, _⟩ => ⟨S_, .bf16⟩
  | .hbm, ⟨73, _⟩ => ⟨S3072x1024, .bf16⟩
  | .hbm, ⟨74, _⟩ => ⟨S3072x1024, .bf16⟩
  | .hbm, ⟨75, _⟩ => ⟨S4x768x1024, .bf16⟩
  | .hbm, ⟨76, _⟩ => ⟨S4x768x2048, .f32⟩
  | .hbm, ⟨77, _⟩ => ⟨S_, .f32⟩
  | .hbm, ⟨78, _⟩ => ⟨S4x768x2048, .f32⟩
  | .hbm, ⟨79, _⟩ => ⟨S4x768x2048, .f32⟩
  | .hbm, ⟨80, _⟩ => ⟨S4x768x2048, .bf16⟩
  | .hbm, ⟨81, _⟩ => ⟨S4x768x1024, .f32⟩
  | .hbm, ⟨82, _⟩ => ⟨S4x768x1, .i1⟩
  | .hbm, ⟨83, _⟩ => ⟨S_, .f32⟩
  | .hbm, ⟨84, _⟩ => ⟨S_, .f32⟩
  | .hbm, ⟨85, _⟩ => ⟨S4x768x1024, .i1⟩
  | .hbm, ⟨86, _⟩ => ⟨S4x768x1024, .f32⟩
  | .hbm, ⟨87, _⟩ => ⟨S4x768x1024, .f32⟩
  | .hbm, ⟨88, _⟩ => ⟨S4x768x1024, .bf16⟩
  | .hbm, ⟨89, _⟩ => ⟨S_, .i32⟩
  | .hbm, ⟨90, _⟩ => ⟨S_, .i32⟩
  | .hbm, ⟨91, _⟩ => ⟨S4x768, .i32⟩
  | .hbm, ⟨92, _⟩ => ⟨S4x768, .i32⟩
  | .hbm, ⟨93, _⟩ => ⟨S_, .bf16⟩
  | .hbm, ⟨94, _⟩ => ⟨S8192x1024, .bf16⟩
  | .hbm, ⟨95, _⟩ => ⟨S3072, .i32⟩
  | .hbm, ⟨96, _⟩ => ⟨S3072x1024, .bf16⟩
  | .hbm, ⟨97, _⟩ => ⟨S_, .i32⟩
  | .hbm, ⟨98, _⟩ => ⟨S3072, .i32⟩
  | .hbm, ⟨99, _⟩ => ⟨S3072, .i1⟩
  | .hbm, ⟨100, _⟩ => ⟨S_, .i32⟩
  | .hbm, ⟨101, _⟩ => ⟨S3072, .i32⟩
  | .hbm, ⟨102, _⟩ => ⟨S3072, .i32⟩
  | .hbm, ⟨103, _⟩ => ⟨S3072, .i32⟩
  | .hbm, ⟨104, _⟩ => ⟨S3072x1, .i32⟩
  | .hbm, ⟨105, _⟩ => ⟨S8192x1024, .bf16⟩
  | .hbm, ⟨106, _⟩ => ⟨S2048x1024, .f32⟩
  | .local _ .vmem, ⟨0, _⟩ => ⟨S2048x1024, .bf16⟩
  | .local _ .vmem, ⟨1, _⟩ => ⟨S16x128, .i32⟩
  | .local _ .vmem, ⟨2, _⟩ => ⟨S8192x1024, .bf16⟩
  | .local _ .vmem, ⟨3, _⟩ => ⟨S64x128, .i32⟩
  | .local _ .vmem, ⟨4, _⟩ => ⟨S8192x1024, .bf16⟩
  | .local _ .vmem, ⟨5, _⟩ => ⟨S2048x1024, .f32⟩
  | .local _ .vmem, ⟨6, _⟩ => ⟨S3x2048x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => false
  | ⟨1, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 2 24 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_c : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_c : Ref sig .tc := ⟨.hbm, 52, rfl⟩
abbrev main_call0_v0 : Ref sig .tc := ⟨.hbm, 53, rfl⟩
abbrev main_call0_v1 : Ref sig .tc := ⟨.hbm, 54, rfl⟩
abbrev main_call0_c_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_c_1 : Ref sig .tc := ⟨.hbm, 60, rfl⟩
abbrev main_call0_c_2 : Ref sig .tc := ⟨.hbm, 61, rfl⟩
abbrev main_call0_v6 : Ref sig .tc := ⟨.hbm, 62, rfl⟩
abbrev main_call0_v7 : Ref sig .tc := ⟨.hbm, 63, rfl⟩
abbrev main_call0_v8 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_c_3 : Ref sig .tc := ⟨.hbm, 68, rfl⟩
abbrev main_call0_v12 : Ref sig .tc := ⟨.hbm, 69, rfl⟩
abbrev main_call0_v13 : Ref sig .tc := ⟨.hbm, 70, rfl⟩
abbrev main_call0_v14 : Ref sig .tc := ⟨.hbm, 71, rfl⟩
abbrev main_call0_cst : Ref sig .tc := ⟨.hbm, 72, rfl⟩
abbrev main_call0_v15 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_call1_cst : Ref sig .tc := ⟨.hbm, 77, rfl⟩
abbrev main_call1_v0 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v46 : Ref sig .tc := ⟨.hbm, 87, rfl⟩
abbrev main_v47 : Ref sig .tc := ⟨.hbm, 88, rfl⟩
abbrev main_c_7 : Ref sig .tc := ⟨.hbm, 89, rfl⟩
abbrev main_call3_v0 : Ref sig .tc := ⟨.hbm, 90, rfl⟩
abbrev main_call3_v1 : Ref sig .tc := ⟨.hbm, 91, rfl⟩
abbrev main_v48 : Ref sig .tc := ⟨.hbm, 92, rfl⟩
abbrev main_cst_8 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_c_9 : Ref sig .tc := ⟨.hbm, 97, rfl⟩
abbrev main_v52 : Ref sig .tc := ⟨.hbm, 98, rfl⟩
abbrev main_v53 : Ref sig .tc := ⟨.hbm, 99, rfl⟩
abbrev main_c_10 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 16
abbrev cc1_sem1_0 : DmaSem sig := 17
abbrev barrier0 : Sem sig := 0
abbrev barrier1 : Sem sig := 1

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v45 : BitVec 32 := Scalar.muli v2 c2048_i32
  let v46 : Index := Scalar.indexCast v45
  let c0_29 : Index := 0#32
  ![v46.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16_i32 : BitVec 32 := 16#32
  let v50 : BitVec 32 := Scalar.muli v2 c16_i32
  let v51 : Index := Scalar.indexCast v50
  let c0_32 : Index := 0#32
  ![v51.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_40 : BitVec 32 := 2048#32
  let v64 : BitVec 32 := Scalar.muli v2 c2048_i32_40
  let c0_i32_46 : BitVec 32 := 0#32
  ![v64.toNat, 0]
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_33 : BitVec 32 := 1#32
  let v53 : BitVec 32 := Scalar.addi v2 c1_i32_33
  let c4_i32_34 : BitVec 32 := 4#32
  let c0_i32_35 : BitVec 32 := 0#32
  let v54 : BitVec 1 := Scalar.cmpi .eq c4_i32_34 c0_i32_35
  let c1_i32_36 : BitVec 32 := 1#32
  let v55 : BitVec 32 := Scalar.select v54 c1_i32_36 c4_i32_34
  let v56 : BitVec 32 := Scalar.remsi v53 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let c1_i32_44 : BitVec 32 := 1#32
  let v66 : BitVec 32 := Scalar.muli v63 c1_i32_44
  let v67 : BitVec 32 := Scalar.addi c0_i32_45 v66
  v67.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16_i32_41 : BitVec 32 := 16#32
  let v65 : BitVec 32 := Scalar.muli v2 c16_i32_41
  let c0_i32_51 : BitVec 32 := 0#32
  ![v65.toNat, 0]
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_33 : BitVec 32 := 1#32
  let v53 : BitVec 32 := Scalar.addi v2 c1_i32_33
  let c4_i32_34 : BitVec 32 := 4#32
  let c0_i32_35 : BitVec 32 := 0#32
  let v54 : BitVec 1 := Scalar.cmpi .eq c4_i32_34 c0_i32_35
  let c1_i32_36 : BitVec 32 := 1#32
  let v55 : BitVec 32 := Scalar.select v54 c1_i32_36 c4_i32_34
  let v56 : BitVec 32 := Scalar.remsi v53 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let c1_i32_49 : BitVec 32 := 1#32
  let v73 : BitVec 32 := Scalar.muli v63 c1_i32_49
  let v74 : BitVec 32 := Scalar.addi c0_i32_50 v73
  v74.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_52 : BitVec 32 := 2#32
  let v80 : BitVec 32 := Scalar.addi v2 c2_i32_52
  let c4_i32_53 : BitVec 32 := 4#32
  let c0_i32_54 : BitVec 32 := 0#32
  let v81 : BitVec 1 := Scalar.cmpi .eq c4_i32_53 c0_i32_54
  let c1_i32_55 : BitVec 32 := 1#32
  let v82 : BitVec 32 := Scalar.select v81 c1_i32_55 c4_i32_53
  let v83 : BitVec 32 := Scalar.remsi v80 v82
  let c0_i32_57 : BitVec 32 := 0#32
  let v85 : BitVec 1 := Scalar.cmpi .slt v83 c0_i32_57
  let c0_i32_58 : BitVec 32 := 0#32
  let v86 : BitVec 1 := Scalar.cmpi .slt v82 c0_i32_58
  let v87 : BitVec 1 := Scalar.xori v85 v86
  let c0_i32_56 : BitVec 32 := 0#32
  let v84 : BitVec 1 := Scalar.cmpi .ne v83 c0_i32_56
  let v88 : BitVec 1 := Scalar.andi v87 v84
  let v89 : BitVec 32 := Scalar.addi v83 v82
  let v90 : BitVec 32 := Scalar.select v88 v89 v83
  let c1_i32_63 : BitVec 32 := 1#32
  let v93 : BitVec 32 := Scalar.muli v90 c1_i32_63
  let v94 : BitVec 32 := Scalar.addi c0_i32_64 v93
  v94.toNat
def k0_dev7 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_52 : BitVec 32 := 2#32
  let v80 : BitVec 32 := Scalar.addi v2 c2_i32_52
  let c4_i32_53 : BitVec 32 := 4#32
  let c0_i32_54 : BitVec 32 := 0#32
  let v81 : BitVec 1 := Scalar.cmpi .eq c4_i32_53 c0_i32_54
  let c1_i32_55 : BitVec 32 := 1#32
  let v82 : BitVec 32 := Scalar.select v81 c1_i32_55 c4_i32_53
  let v83 : BitVec 32 := Scalar.remsi v80 v82
  let c0_i32_57 : BitVec 32 := 0#32
  let v85 : BitVec 1 := Scalar.cmpi .slt v83 c0_i32_57
  let c0_i32_58 : BitVec 32 := 0#32
  let v86 : BitVec 1 := Scalar.cmpi .slt v82 c0_i32_58
  let v87 : BitVec 1 := Scalar.xori v85 v86
  let c0_i32_56 : BitVec 32 := 0#32
  let v84 : BitVec 1 := Scalar.cmpi .ne v83 c0_i32_56
  let v88 : BitVec 1 := Scalar.andi v87 v84
  let v89 : BitVec 32 := Scalar.addi v83 v82
  let v90 : BitVec 32 := Scalar.select v88 v89 v83
  let c1_i32_68 : BitVec 32 := 1#32
  let v100 : BitVec 32 := Scalar.muli v90 c1_i32_68
  let v101 : BitVec 32 := Scalar.addi c0_i32_69 v100
  v101.toNat
def k0_dev8 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_71 : BitVec 32 := 3#32
  let v107 : BitVec 32 := Scalar.addi v2 c3_i32_71
  let c4_i32_72 : BitVec 32 := 4#32
  let c0_i32_73 : BitVec 32 := 0#32
  let v108 : BitVec 1 := Scalar.cmpi .eq c4_i32_72 c0_i32_73
  let c1_i32_74 : BitVec 32 := 1#32
  let v109 : BitVec 32 := Scalar.select v108 c1_i32_74 c4_i32_72
  let v110 : BitVec 32 := Scalar.remsi v107 v109
  let c0_i32_76 : BitVec 32 := 0#32
  let v112 : BitVec 1 := Scalar.cmpi .slt v110 c0_i32_76
  let c0_i32_77 : BitVec 32 := 0#32
  let v113 : BitVec 1 := Scalar.cmpi .slt v109 c0_i32_77
  let v114 : BitVec 1 := Scalar.xori v112 v113
  let c0_i32_75 : BitVec 32 := 0#32
  let v111 : BitVec 1 := Scalar.cmpi .ne v110 c0_i32_75
  let v115 : BitVec 1 := Scalar.andi v114 v111
  let v116 : BitVec 32 := Scalar.addi v110 v109
  let v117 : BitVec 32 := Scalar.select v115 v116 v110
  let c1_i32_82 : BitVec 32 := 1#32
  let v120 : BitVec 32 := Scalar.muli v117 c1_i32_82
  let v121 : BitVec 32 := Scalar.addi c0_i32_83 v120
  v121.toNat
def k0_dev9 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_71 : BitVec 32 := 3#32
  let v107 : BitVec 32 := Scalar.addi v2 c3_i32_71
  let c4_i32_72 : BitVec 32 := 4#32
  let c0_i32_73 : BitVec 32 := 0#32
  let v108 : BitVec 1 := Scalar.cmpi .eq c4_i32_72 c0_i32_73
  let c1_i32_74 : BitVec 32 := 1#32
  let v109 : BitVec 32 := Scalar.select v108 c1_i32_74 c4_i32_72
  let v110 : BitVec 32 := Scalar.remsi v107 v109
  let c0_i32_76 : BitVec 32 := 0#32
  let v112 : BitVec 1 := Scalar.cmpi .slt v110 c0_i32_76
  let c0_i32_77 : BitVec 32 := 0#32
  let v113 : BitVec 1 := Scalar.cmpi .slt v109 c0_i32_77
  let v114 : BitVec 1 := Scalar.xori v112 v113
  let c0_i32_75 : BitVec 32 := 0#32
  let v111 : BitVec 1 := Scalar.cmpi .ne v110 c0_i32_75
  let v115 : BitVec 1 := Scalar.andi v114 v111
  let v116 : BitVec 32 := Scalar.addi v110 v109
  let v117 : BitVec 32 := Scalar.select v115 v116 v110
  let c1_i32_87 : BitVec 32 := 1#32
  let v127 : BitVec 32 := Scalar.muli v117 c1_i32_87
  let v128 : BitVec 32 := Scalar.addi c0_i32_88 v127
  v128.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

def k1_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k1_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k1_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k1_off1 (d0 : Dev nD) (c1_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c2048_i32 : BitVec 32 := 2048#32
  let v54 : BitVec 32 := Scalar.muli v53 c2048_i32
  let c0_i32_42 : BitVec 32 := 0#32
  ![v54.toNat, 0]
def k1_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_38 : BitVec 32 := 1#32
  let v55 : BitVec 32 := Scalar.muli v53 c1_i32_38
  let v56 : BitVec 32 := Scalar.addi c0_i32_39 v55
  v56.toNat
def k1_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_43 : BitVec 32 := 2#32
  let v64 : BitVec 32 := Scalar.addi v2 c2_i32_43
  let c4_i32_44 : BitVec 32 := 4#32
  let c0_i32_45 : BitVec 32 := 0#32
  let v65 : BitVec 1 := Scalar.cmpi .eq c4_i32_44 c0_i32_45
  let c1_i32_46 : BitVec 32 := 1#32
  let v66 : BitVec 32 := Scalar.select v65 c1_i32_46 c4_i32_44
  let v67 : BitVec 32 := Scalar.remsi v64 v66
  let c0_i32_48 : BitVec 32 := 0#32
  let v69 : BitVec 1 := Scalar.cmpi .slt v67 c0_i32_48
  let c0_i32_49 : BitVec 32 := 0#32
  let v70 : BitVec 1 := Scalar.cmpi .slt v66 c0_i32_49
  let v71 : BitVec 1 := Scalar.xori v69 v70
  let c0_i32_47 : BitVec 32 := 0#32
  let v68 : BitVec 1 := Scalar.cmpi .ne v67 c0_i32_47
  let v72 : BitVec 1 := Scalar.andi v71 v68
  let v73 : BitVec 32 := Scalar.addi v67 v66
  let v74 : BitVec 32 := Scalar.select v72 v73 v67
  let c1_i32_54 : BitVec 32 := 1#32
  let v76 : BitVec 32 := Scalar.muli v74 c1_i32_54
  let v77 : BitVec 32 := Scalar.addi c0_i32_55 v76
  v77.toNat
def k1_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_59 : BitVec 32 := 3#32
  let v85 : BitVec 32 := Scalar.addi v2 c3_i32_59
  let c4_i32_60 : BitVec 32 := 4#32
  let c0_i32_61 : BitVec 32 := 0#32
  let v86 : BitVec 1 := Scalar.cmpi .eq c4_i32_60 c0_i32_61
  let c1_i32_62 : BitVec 32 := 1#32
  let v87 : BitVec 32 := Scalar.select v86 c1_i32_62 c4_i32_60
  let v88 : BitVec 32 := Scalar.remsi v85 v87
  let c0_i32_64 : BitVec 32 := 0#32
  let v90 : BitVec 1 := Scalar.cmpi .slt v88 c0_i32_64
  let c0_i32_65 : BitVec 32 := 0#32
  let v91 : BitVec 1 := Scalar.cmpi .slt v87 c0_i32_65
  let v92 : BitVec 1 := Scalar.xori v90 v91
  let c0_i32_63 : BitVec 32 := 0#32
  let v89 : BitVec 1 := Scalar.cmpi .ne v88 c0_i32_63
  let v93 : BitVec 1 := Scalar.andi v92 v89
  let v94 : BitVec 32 := Scalar.addi v88 v87
  let v95 : BitVec 32 := Scalar.select v93 v94 v88
  let c1_i32_70 : BitVec 32 := 1#32
  let v97 : BitVec 32 := Scalar.muli v95 c1_i32_70
  let v98 : BitVec 32 := Scalar.addi c0_i32_71 v97
  v98.toNat
def k1_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_120 : BitVec 32 := 2048#32
  let v142 : BitVec 32 := Scalar.muli v2 c2048_i32_120
  let v143 : Index := Scalar.indexCast v142
  let c0 : Index := 0#32
  ![v143.toNat, 0]
abbrev stage1_0 : Fin 1 → Memref sig .tc .vmem S8192x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S8192x1024 : Shape := ⟨2, ![8192, 1024]⟩
abbrev S8192 : Shape := ⟨1, ![8192]⟩
abbrev S16x1024x2048 : Shape := ⟨3, ![16, 1024, 2048]⟩
abbrev S16x2048x1024 : Shape := ⟨3, ![16, 2048, 1024]⟩
abbrev S_ : Shape := ⟨0, ![]⟩
abbrev S1x1024x2048 : Shape := ⟨3, ![1, 1024, 2048]⟩
abbrev S1024x2048 : Shape := ⟨2, ![1024, 2048]⟩
abbrev S8192x2048 : Shape := ⟨2, ![8192, 2048]⟩
abbrev S1x2048x1024 : Shape := ⟨3, ![1, 2048, 1024]⟩
abbrev S2048x1024 : Shape := ⟨2, ![2048, 1024]⟩
abbrev S8192x1 : Shape := ⟨2, ![8192, 1]⟩

abbrev nBuf : Space → Nat
  | .hbm => 262
  | .vmem => 0
  | .smem => 0
  | _ => 0

abbrev hbmTy0_0 (i : Nat) : BufTy := match i % 128 with
  | 0 => ⟨S8192x1024, .bf16⟩
  | 1 => ⟨S8192, .i32⟩
  | 2 => ⟨S16x1024x2048, .bf16⟩
  | 3 => ⟨S16x2048x1024, .bf16⟩
  | 4 => ⟨S_, .f32⟩
  | 5 => ⟨S8192x1024, .f32⟩
  | 6 => ⟨S1x1024x2048, .bf16⟩
  | 7 => ⟨S1024x2048, .bf16⟩
  | 8 => ⟨S8192x2048, .f32⟩
  | 9 => ⟨S_, .f32⟩
  | 10 => ⟨S8192x2048, .f32⟩
  | 11 => ⟨S8192x2048, .f32⟩
  | 12 => ⟨S1x2048x1024, .bf16⟩
  | 13 => ⟨S2048x1024, .bf16⟩
  | 14 => ⟨S2048x1024, .f32⟩
  | 15 => ⟨S8192x1024, .f32⟩
  | 16 => ⟨S_, .i32⟩
  | 17 => ⟨S8192, .i32⟩
  | 18 => ⟨S8192, .i1⟩
  | 19 => ⟨S8192x1, .i1⟩
  | 20 => ⟨S8192x1024, .i1⟩
  | 21 => ⟨S8192x1024, .f32⟩
  | 22 => ⟨S1x1024x2048, .bf16⟩
  | 23 => ⟨S1024x2048, .bf16⟩
  | 24 => ⟨S8192x2048, .f32⟩
  | 25 => ⟨S_, .f32⟩
  | 26 => ⟨S8192x2048, .f32⟩
  | 27 => ⟨S8192x2048, .f32⟩
  | 28 => ⟨S1x2048x1024, .bf16⟩
  | 29 => ⟨S2048x1024, .bf16⟩
  | 30 => ⟨S2048x1024, .f32⟩
  | 31 => ⟨S8192x1024, .f32⟩
  | 32 => ⟨S_, .i32⟩
  | 33 => ⟨S8192, .i32⟩
  | 34 => ⟨S8192, .i1⟩
  | 35 => ⟨S8192x1, .i1⟩
  | 36 => ⟨S8192x1024, .i1⟩
  | 37 => ⟨S8192x1024, .f32⟩
  | 38 => ⟨S1x1024x2048, .bf16⟩
  | 39 => ⟨S1024x2048, .bf16⟩
  | 40 => ⟨S8192x2048, .f32⟩
  | 41 => ⟨S_, .f32⟩
  | 42 => ⟨S8192x2048, .f32⟩
  | 43 => ⟨S8192x2048, .f32⟩
  | 44 => ⟨S1x2048x1024, .bf16⟩
  | 45 => ⟨S2048x1024, .bf16⟩
  | 46 => ⟨S2048x1024, .f32⟩
  | 47 => ⟨S8192x1024, .f32⟩
  | 48 => ⟨S_, .i32⟩
  | 49 => ⟨S8192, .i32⟩
  | 50 => ⟨S8192, .i1⟩
  | 51 => ⟨S8192x1, .i1⟩
  | 52 => ⟨S8192x1024, .i1⟩
  | 53 => ⟨S8192x1024, .f32⟩
  | 54 => ⟨S1x1024x2048, .bf16⟩
  | 55 => ⟨S1024x2048, .bf16⟩
  | 56 => ⟨S8192x2048, .f32⟩
  | 57 => ⟨S_, .f32⟩
  | 58 => ⟨S8192x2048, .f32⟩
  | 59 => ⟨S8192x2048, .f32⟩
  | 60 => ⟨S1x2048x1024, .bf16⟩
  | 61 => ⟨S2048x1024, .bf16⟩
  | 62 => ⟨S2048x1024, .f32⟩
  | 63 => ⟨S8192x1024, .f32⟩
  | 64 => ⟨S_, .i32⟩
  | 65 => ⟨S8192, .i32⟩
  | 66 => ⟨S8192, .i1⟩
  | 67 => ⟨S8192x1, .i1⟩
  | 68 => ⟨S8192x1024, .i1⟩
  | 69 => ⟨S8192x1024, .f32⟩
  | 70 => ⟨S1x1024x2048, .bf16⟩
  | 71 => ⟨S1024x2048, .bf16⟩
  | 72 => ⟨S8192x2048, .f32⟩
  | 73 => ⟨S_, .f32⟩
  | 74 => ⟨S8192x2048, .f32⟩
  | 75 => ⟨S8192x2048, .f32⟩
  | 76 => ⟨S1x2048x1024, .bf16⟩
  | 77 => ⟨S2048x1024, .bf16⟩
  | 78 => ⟨S2048x1024, .f32⟩
  | 79 => ⟨S8192x1024, .f32⟩
  | 80 => ⟨S_, .i32⟩
  | 81 => ⟨S8192, .i32⟩
  | 82 => ⟨S8192, .i1⟩
  | 83 => ⟨S8192x1, .i1⟩
  | 84 => ⟨S8192x1024, .i1⟩
  | 85 => ⟨S8192x1024, .f32⟩
  | 86 => ⟨S1x1024x2048, .bf16⟩
  | 87 => ⟨S1024x2048, .bf16⟩
  | 88 => ⟨S8192x2048, .f32⟩
  | 89 => ⟨S_, .f32⟩
  | 90 => ⟨S8192x2048, .f32⟩
  | 91 => ⟨S8192x2048, .f32⟩
  | 92 => ⟨S1x2048x1024, .bf16⟩
  | 93 => ⟨S2048x1024, .bf16⟩
  | 94 => ⟨S2048x1024, .f32⟩
  | 95 => ⟨S8192x1024, .f32⟩
  | 96 => ⟨S_, .i32⟩
  | 97 => ⟨S8192, .i32⟩
  | 98 => ⟨S8192, .i1⟩
  | 99 => ⟨S8192x1, .i1⟩
  | 100 => ⟨S8192x1024, .i1⟩
  | 101 => ⟨S8192x1024, .f32⟩
  | 102 => ⟨S1x1024x2048, .bf16⟩
  | 103 => ⟨S1024x2048, .bf16⟩
  | 104 => ⟨S8192x2048, .f32⟩
  | 105 => ⟨S_, .f32⟩
  | 106 => ⟨S8192x2048, .f32⟩
  | 107 => ⟨S8192x2048, .f32⟩
  | 108 => ⟨S1x2048x1024, .bf16⟩
  | 109 => ⟨S2048x1024, .bf16⟩
  | 110 => ⟨S2048x1024, .f32⟩
  | 111 => ⟨S8192x1024, .f32⟩
  | 112 => ⟨S_, .i32⟩
  | 113 => ⟨S8192, .i32⟩
  | 114 => ⟨S8192, .i1⟩
  | 115 => ⟨S8192x1, .i1⟩
  | 116 => ⟨S8192x1024, .i1⟩
  | 117 => ⟨S8192x1024, .f32⟩
  | 118 => ⟨S1x1024x2048, .bf16⟩
  | 119 => ⟨S1024x2048, .bf16⟩
  | 120 => ⟨S8192x2048, .f32⟩
  | 121 => ⟨S_, .f32⟩
  | 122 => ⟨S8192x2048, .f32⟩
  | 123 => ⟨S8192x2048, .f32⟩
  | 124 => ⟨S1x2048x1024, .bf16⟩
  | 125 => ⟨S2048x1024, .bf16⟩
  | 126 => ⟨S2048x1024, .f32⟩
  | 127 => ⟨S8192x1024, .f32⟩
  | _ => ⟨S8192x1024, .bf16⟩

abbrev hbmTy0_1 (i : Nat) : BufTy := match i % 128 with
  | 0 => ⟨S_, .i32⟩
  | 1 => ⟨S8192, .i32⟩
  | 2 => ⟨S8192, .i1⟩
  | 3 => ⟨S8192x1, .i1⟩
  | 4 => ⟨S8192x1024, .i1⟩
  | 5 => ⟨S8192x1024, .f32⟩
  | 6 => ⟨S1x1024x2048, .bf16⟩
  | 7 => ⟨S1024x2048, .bf16⟩
  | 8 => ⟨S8192x2048, .f32⟩
  | 9 => ⟨S_, .f32⟩
  | 10 => ⟨S8192x2048, .f32⟩
  | 11 => ⟨S8192x2048, .f32⟩
  | 12 => ⟨S1x2048x1024, .bf16⟩
  | 13 => ⟨S2048x1024, .bf16⟩
  | 14 => ⟨S2048x1024, .f32⟩
  | 15 => ⟨S8192x1024, .f32⟩
  | 16 => ⟨S_, .i32⟩
  | 17 => ⟨S8192, .i32⟩
  | 18 => ⟨S8192, .i1⟩
  | 19 => ⟨S8192x1, .i1⟩
  | 20 => ⟨S8192x1024, .i1⟩
  | 21 => ⟨S8192x1024, .f32⟩
  | 22 => ⟨S1x1024x2048, .bf16⟩
  | 23 => ⟨S1024x2048, .bf16⟩
  | 24 => ⟨S8192x2048, .f32⟩
  | 25 => ⟨S_, .f32⟩
  | 26 => ⟨S8192x2048, .f32⟩
  | 27 => ⟨S8192x2048, .f32⟩
  | 28 => ⟨S1x2048x1024, .bf16⟩
  | 29 => ⟨S2048x1024, .bf16⟩
  | 30 => ⟨S2048x1024, .f32⟩
  | 31 => ⟨S8192x1024, .f32⟩
  | 32 => ⟨S_, .i32⟩
  | 33 => ⟨S8192, .i32⟩
  | 34 => ⟨S8192, .i1⟩
  | 35 => ⟨S8192x1, .i1⟩
  | 36 => ⟨S8192x1024, .i1⟩
  | 37 => ⟨S8192x1024, .f32⟩
  | 38 => ⟨S1x1024x2048, .bf16⟩
  | 39 => ⟨S1024x2048, .bf16⟩
  | 40 => ⟨S8192x2048, .f32⟩
  | 41 => ⟨S_, .f32⟩
  | 42 => ⟨S8192x2048, .f32⟩
  | 43 => ⟨S8192x2048, .f32⟩
  | 44 => ⟨S1x2048x1024, .bf16⟩
  | 45 => ⟨S2048x1024, .bf16⟩
  | 46 => ⟨S2048x1024, .f32⟩
  | 47 => ⟨S8192x1024, .f32⟩
  | 48 => ⟨S_, .i32⟩
  | 49 => ⟨S8192, .i32⟩
  | 50 => ⟨S8192, .i1⟩
  | 51 => ⟨S8192x1, .i1⟩
  | 52 => ⟨S8192x1024, .i1⟩
  | 53 => ⟨S8192x1024, .f32⟩
  | 54 => ⟨S1x1024x2048, .bf16⟩
  | 55 => ⟨S1024x2048, .bf16⟩
  | 56 => ⟨S8192x2048, .f32⟩
  | 57 => ⟨S_, .f32⟩
  | 58 => ⟨S8192x2048, .f32⟩
  | 59 => ⟨S8192x2048, .f32⟩
  | 60 => ⟨S1x2048x1024, .bf16⟩
  | 61 => ⟨S2048x1024, .bf16⟩
  | 62 => ⟨S2048x1024, .f32⟩
  | 63 => ⟨S8192x1024, .f32⟩
  | 64 => ⟨S_, .i32⟩
  | 65 => ⟨S8192, .i32⟩
  | 66 => ⟨S8192, .i1⟩
  | 67 => ⟨S8192x1, .i1⟩
  | 68 => ⟨S8192x1024, .i1⟩
  | 69 => ⟨S8192x1024, .f32⟩
  | 70 => ⟨S1x1024x2048, .bf16⟩
  | 71 => ⟨S1024x2048, .bf16⟩
  | 72 => ⟨S8192x2048, .f32⟩
  | 73 => ⟨S_, .f32⟩
  | 74 => ⟨S8192x2048, .f32⟩
  | 75 => ⟨S8192x2048, .f32⟩
  | 76 => ⟨S1x2048x1024, .bf16⟩
  | 77 => ⟨S2048x1024, .bf16⟩
  | 78 => ⟨S2048x1024, .f32⟩
  | 79 => ⟨S8192x1024, .f32⟩
  | 80 => ⟨S_, .i32⟩
  | 81 => ⟨S8192, .i32⟩
  | 82 => ⟨S8192, .i1⟩
  | 83 => ⟨S8192x1, .i1⟩
  | 84 => ⟨S8192x1024, .i1⟩
  | 85 => ⟨S8192x1024, .f32⟩
  | 86 => ⟨S1x1024x2048, .bf16⟩
  | 87 => ⟨S1024x2048, .bf16⟩
  | 88 => ⟨S8192x2048, .f32⟩
  | 89 => ⟨S_, .f32⟩
  | 90 => ⟨S8192x2048, .f32⟩
  | 91 => ⟨S8192x2048, .f32⟩
  | 92 => ⟨S1x2048x1024, .bf16⟩
  | 93 => ⟨S2048x1024, .bf16⟩
  | 94 => ⟨S2048x1024, .f32⟩
  | 95 => ⟨S8192x1024, .f32⟩
  | 96 => ⟨S_, .i32⟩
  | 97 => ⟨S8192, .i32⟩
  | 98 => ⟨S8192, .i1⟩
  | 99 => ⟨S8192x1, .i1⟩
  | 100 => ⟨S8192x1024, .i1⟩
  | 101 => ⟨S8192x1024, .f32⟩
  | 102 => ⟨S1x1024x2048, .bf16⟩
  | 103 => ⟨S1024x2048, .bf16⟩
  | 104 => ⟨S8192x2048, .f32⟩
  | 105 => ⟨S_, .f32⟩
  | 106 => ⟨S8192x2048, .f32⟩
  | 107 => ⟨S8192x2048, .f32⟩
  | 108 => ⟨S1x2048x1024, .bf16⟩
  | 109 => ⟨S2048x1024, .bf16⟩
  | 110 => ⟨S2048x1024, .f32⟩
  | 111 => ⟨S8192x1024, .f32⟩
  | 112 => ⟨S_, .i32⟩
  | 113 => ⟨S8192, .i32⟩
  | 114 => ⟨S8192, .i1⟩
  | 115 => ⟨S8192x1, .i1⟩
  | 116 => ⟨S8192x1024, .i1⟩
  | 117 => ⟨S8192x1024, .f32⟩
  | 118 => ⟨S1x1024x2048, .bf16⟩
  | 119 => ⟨S1024x2048, .bf16⟩
  | 120 => ⟨S8192x2048, .f32⟩
  | 121 => ⟨S_, .f32⟩
  | 122 => ⟨S8192x2048, .f32⟩
  | 123 => ⟨S8192x2048, .f32⟩
  | 124 => ⟨S1x2048x1024, .bf16⟩
  | 125 => ⟨S2048x1024, .bf16⟩
  | 126 => ⟨S2048x1024, .f32⟩
  | 127 => ⟨S8192x1024, .f32⟩
  | _ => ⟨S8192x1024, .bf16⟩

abbrev hbmTy0_2 (i : Nat) : BufTy := match i % 128 with
  | 0 => ⟨S_, .i32⟩
  | 1 => ⟨S8192, .i32⟩
  | 2 => ⟨S8192, .i1⟩
  | 3 => ⟨S8192x1, .i1⟩
  | 4 => ⟨S8192x1024, .i1⟩
  | 5 => ⟨S8192x1024, .f32⟩
  | _ => ⟨S8192x1024, .bf16⟩

abbrev hbmTy (i : Nat) : BufTy := match i / 128 with
  | 0 => hbmTy0_0 i
  | 1 => hbmTy0_1 i
  | 2 => hbmTy0_2 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call1_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call2_v0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call3_v0 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c_8 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_call4_v0 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_9 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_c_10 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call5_v0 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_11 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_c_12 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_call6_v0 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_13 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_c_14 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_call7_v0 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_15 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_c_16 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_call8_v0 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_17 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_c_18 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_call9_v0 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_19 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_c_20 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_call10_v0 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_cst_21 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_c_22 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_call11_v0 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_cst_23 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_c_24 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_call12_v0 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_cst_25 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_c_26 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_call13_v0 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_cst_27 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_c_28 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_call14_v0 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_cst_29 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_c_30 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_call15_v0 : Ref sig .tc := ⟨.hbm, 260, rfl⟩
abbrev main_v208 : Ref sig .tc := ⟨.hbm, 261, rfl⟩

abbrev nD : Nat := 1
abbrev τ : Topo := Topo.v7x

variable {F : FTy → Type} [FloatOps F]
-- ==== Proof.Sched.lean ====
/-
  The protocol of the two kernels: an all-gather (call 0) and a reduce-scatter (call 1) over four devices.
  Written `pr j c` for the device `c + j + 1` around the ring of four (`j : Fin 3`).

  | cell of device `c` | who waits | who adds to it | how much | what the units hand over |
  |---|---|---|---|---|
  | barrier 0 | `c`, once, 3 units | each other device `p` signals 1 | 1 each | `p`'s landing blocks of both gathered arrays at block `c`; that `p`'s receive cells stand at round 0 |
  | x-send `j` | `c` | `c`'s own copy to `pr j c` | one x block | a third of the share of `c`'s own x |
  | x-recv `j` | `c` | the copy of the device `s` with `pr j s = c` | one x block | block `s` of `c`'s gathered array, holding `s`'s x |
  | a-send, a-recv `j` | likewise | likewise, for the assignments | | |
  | barrier 1 | `c`, once, 3 units | each other device `p` signals 1 | 1 each | `p`'s landing slot for `c`; that `p`'s receive cell stands at round 0 |
  | r-send `j` | `c` | `c`'s own copy to `pr j c` | one x block | block `pr j c` of `c`'s partial sums |
  | r-recv `j` | `c` | the copy of the device `s` with `pr j s = c` | one x block | slot `j` of `c`, holding block `c` of `s`'s partial sums |

  Every cell has one round. The order on each device: three signals, the barrier wait, all copies out, then the waits.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Regions
public import Idealize.ShloMosaic.Lib.Pipeline.RegionTalk
public import Idealize.ShloMosaic.Lib.Pipeline.Kit
public import Idealize.ShloMosaic.Lib.Ring.Trips
public import Idealize.ShloMosaic.Lib.Tactic

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3)

variable {F : FTy → Type} [FloatOps F]

/-! ## The resource algebra: the pipeline library's copy and the protocol's, whose duties are `Fin 3` -/

abbrev UU : Type := UR sig nD τ × Rounds.URounds (GSem nD τ sig) (Fin 3)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Fin 3)) (MT nD τ sig Unit (Elt F) ℕ UU ℕ) := embR

/-! ## Peers -/

/-- The device `j + 1` places on. -/
def pr (j : Fin 3) (c : Dev nD) : Dev nD := ⟨(c.val + j.val + 1) % 4, Nat.mod_lt _ (by decide)⟩

theorem pr_rev (j : Fin 3) (c : Dev nD) : pr j (pr j.rev c) = c := by revert j c; decide
theorem pr_rev' (j : Fin 3) (c : Dev nD) : pr j.rev (pr j c) = c := by revert j c; decide
theorem pr_ne (j : Fin 3) (c : Dev nD) : pr j c ≠ c := by revert j c; decide
theorem pr_inj (j k : Fin 3) (c : Dev nD) : pr j c = pr k c → j = k := by revert j k c; decide

/-! ## Cells -/

/-- A device's cells: two barriers, and three of each of six kinds of DMA semaphore (x-send, x-recv, a-send, a-recv,
    r-send, r-recv). -/
abbrev CIx : Type := Fin 2 ⊕ (Fin 6 × Fin 3)

def base : Fin 6 → ℕ := ![4, 7, 10, 13, 18, 21]
theorem base_lt (k : Fin 6) (j : Fin 3) : base k + j.val < 24 := by revert k j; decide

/-- The DMA semaphore of kind `k`, number `j`. -/
def dsem (k : Fin 6) (j : Fin 3) : DmaSem sig := ⟨base k + j.val, base_lt k j⟩
def bsem : Fin 2 → Sem sig := ![sig.barrier 0 rfl, sig.barrier 1 rfl]

def loc : CIx → SemLoc sig
  | .inl b => .reg (bsem b)
  | .inr (k, j) => .dma (dsem k j)

theorem loc_inj : Function.Injective loc := by
  have h : ∀ i i' : CIx, loc i = loc i' → i = i' := by decide +kernel
  exact fun i i' => h i i'

/-- Which of the protocol's cells a semaphore is. -/
def dec (s : SemLoc sig) : Option CIx :=
  if h : ∃ i, loc i = s then some h.choose else none

theorem dec_loc (i : CIx) : dec (loc i) = some i := by
  have h : ∃ i', loc i' = loc i := ⟨i, rfl⟩
  unfold dec
  rw [dif_pos h]
  exact congrArg some (loc_inj h.choose_spec)

theorem loc_of_dec {s : SemLoc sig} {i : CIx} (h : dec s = some i) : loc i = s := by
  unfold dec at h
  split at h
  · rename_i h'
    have := h'.choose_spec
    rw [Option.some.inj h] at this; exact this
  · cases h

/-- Cell `i` of device `c`. -/
abbrev cell (c : Dev nD) (i : CIx) : GSem nD τ sig := ((c : Thread nD τ), loc i)
abbrev bar (c : Dev nD) (b : Fin 2) : GSem nD τ sig := cell c (.inl b)
abbrev dma (c : Dev nD) (k : Fin 6) (j : Fin 3) : GSem nD τ sig := cell c (.inr (k, j))

theorem cell_inj {c c' : Dev nD} {i i' : CIx} : cell c i = cell c' i' ↔ c = c' ∧ i = i' := by
  constructor
  · intro h
    have h1 : (c : Thread nD τ) = (c' : Thread nD τ) := congrArg Prod.fst h
    have h2 : loc i = loc i' := congrArg Prod.snd h
    exact ⟨congrArg Prod.fst h1, loc_inj h2⟩
  · rintro ⟨rfl, rfl⟩; rfl

/-! ## Views -/

/-- Block `s` of the gathered array, and of the gathered assignments. -/
abbrev oxM (s : Dev nD) : Memref sig .tc .vmem S2048x1024 .bf16 :=
  (Memref.whole cc0_stg2_0).slice (Rect.unit (s := S8192x1024) (k0_off3 s) S2048x1024.size (k0_off3_inb s)) (fun _ => rfl)
abbrev oaM (s : Dev nD) : Memref sig .tc .vmem S16x128 .i32 :=
  (Memref.whole cc0_stg3_0).slice (Rect.unit (s := S64x128) (k0_off4 s) S16x128.size (k0_off4_inb s)) (fun _ => rfl)
abbrev xM : Memref sig .tc .vmem S2048x1024 .bf16 := Memref.whole cc0_stg0_0
abbrev aM : Memref sig .tc .vmem S16x128 .i32 := Memref.whole cc0_stg1_0

/-- The block of the partial sums that goes to device `pr j c`. -/
abbrev psM (c : Dev nD) (j : Fin 3) : Memref sig .tc .vmem S2048x1024 .bf16 :=
  (Memref.whole cc1_stg0_0).slice
    (Rect.unit (s := S8192x1024) (k1_off1 c (BitVec.ofNat 32 (1 + j.val))) S2048x1024.size (k1_off1_inb c j)) (fun _ => rfl)

/-- Slot `j` of the landing buffer. -/
abbrev slot0 : Memref sig .tc .vmem S2048x1024 .bf16 :=
  ((Memref.whole cc1_scratch0).slice (Rect.unit (s := S3x2048x1024) ![0, 0, 0] S1x2048x1024.size inb_S3x2048x1024_S1x2048x1024_0_0_0) (fun _ => rfl)).squeeze S2048x1024 squeezes_S1x2048x1024_S2048x1024
abbrev slot1 : Memref sig .tc .vmem S2048x1024 .bf16 :=
  ((Memref.whole cc1_scratch0).slice (Rect.unit (s := S3x2048x1024) ![1, 0, 0] S1x2048x1024.size inb_S3x2048x1024_S1x2048x1024_1_0_0) (fun _ => rfl)).squeeze S2048x1024 squeezes_S1x2048x1024_S2048x1024
abbrev slot2 : Memref sig .tc .vmem S2048x1024 .bf16 :=
  ((Memref.whole cc1_scratch0).slice (Rect.unit (s := S3x2048x1024) ![2, 0, 0] S1x2048x1024.size inb_S3x2048x1024_S1x2048x1024_2_0_0) (fun _ => rfl)).squeeze S2048x1024 squeezes_S1x2048x1024_S2048x1024

/-! ## Contents -/

/-- What the devices hold: x and the assignments at the gather, the partial sums at the scatter. -/
structure Inp (F : FTy → Type) where
  X : Dev nD → S2048x1024.Idx → Elt F .bf16
  A : Dev nD → S16x128.Idx → Elt F .i32
  P : Dev nD → S8192x1024.Idx → Elt F .bf16

variable (I : Inp F)

/-- The gathered array: row `i` is row `i mod 2048` of device `i / 2048`. -/
def agx : S8192x1024.Idx → Elt F .bf16 := fun i =>
  I.X ⟨(i 0).val / 2048, Nat.div_lt_of_lt_mul (i 0).isLt⟩ (Shape.pair ⟨(i 0).val % 2048, Nat.mod_lt _ (by decide)⟩ (i 1))
def aga : S64x128.Idx → Elt F .i32 := fun i =>
  I.A ⟨(i 0).val / 16, Nat.div_lt_of_lt_mul (i 0).isLt⟩ (Shape.pair ⟨(i 0).val % 16, Nat.mod_lt _ (by decide)⟩ (i 1))
/-- The landing buffer of device `c`: slot `j` holds block `c` of the partial sums of the device `pr j.rev c`. -/
def cmb (c : Dev nD) : S3x2048x1024.Idx → Elt F .bf16 := fun i =>
  I.P (pr (Fin.rev (i 0)) c) (Shape.pair ⟨2048 * c.val + (i 1).val, by have h1 : (i 1).val < 2048 := (i 1).isLt
                                                                       have h2 : c.val < 4 := c.isLt
                                                                       show _ < 8192; omega⟩ (i 2))

/-! ## Points-tos -/

/-- Block `s` of device `c`'s gathered array at contents `f`. -/
abbrev oxPts (c s : Dev nD) (f : S8192x1024.Idx → Elt F .bf16) : sProp 𝕄 :=
  (oxM s).view.loc (c : Thread nD τ) ↦[(oxM s).view.set]{fullShare} f
abbrev oaPts (c s : Dev nD) (f : S64x128.Idx → Elt F .i32) : sProp 𝕄 :=
  (oaM s).view.loc (c : Thread nD τ) ↦[(oaM s).view.set]{fullShare} f
/-- Part `j` of the share of device `c`'s own x. -/
abbrev xPts (c : Dev nD) (j : Fin 3) : sProp 𝕄 :=
  xM.view.loc (c : Thread nD τ) ↦[xM.view.set]{shares3 fullShare j} (I.X c)
abbrev aPts (c : Dev nD) (j : Fin 3) : sProp 𝕄 :=
  aM.view.loc (c : Thread nD τ) ↦[aM.view.set]{shares3 fullShare j} (I.A c)
abbrev psPts (c : Dev nD) (j : Fin 3) : sProp 𝕄 :=
  (psM c j).view.loc (c : Thread nD τ) ↦[(psM c j).view.set]{fullShare} (I.P c)
/-- Slot `j` of device `c` at contents `f`. -/
def slPts (c : Dev nD) (j : Fin 3) (f : S3x2048x1024.Idx → Elt F .bf16) : sProp 𝕄 :=
  match j with
  | 0 => slot0.view.loc (c : Thread nD τ) ↦[slot0.view.set]{fullShare} f
  | 1 => slot1.view.loc (c : Thread nD τ) ↦[slot1.view.set]{fullShare} f
  | 2 => slot2.view.loc (c : Thread nD τ) ↦[slot2.view.set]{fullShare} f

instance slPts_storable (c : Dev nD) (j : Fin 3) (f : S3x2048x1024.Idx → Elt F .bf16) :
    BI.Storable (upEmb : UEmb _ 𝕄) (slPts c j f) := by
  unfold slPts; split <;> infer_instance

/-! ## The schedule -/

abbrev NX : ℕ := (xM : Memref sig .tc .vmem S2048x1024 .bf16).view.dmaCredit
abbrev NA : ℕ := (aM : Memref sig .tc .vmem S16x128 .i32).view.dmaCredit
theorem NX_pos : 0 < NX := View.dmaCredit_pos _ (by decide)
theorem NA_pos : 0 < NA := View.dmaCredit_pos _ (by decide)

/-- Units of a copy of kind `k`. -/
def kN : Fin 6 → ℕ
  | 0 => NX
  | 1 => NX
  | 2 => NA
  | 3 => NA
  | 4 => NX
  | 5 => NX
theorem kN_pos (k : Fin 6) : 0 < kN k := by
  unfold kN; split
  exacts [NX_pos, NX_pos, NA_pos, NA_pos, NX_pos, NX_pos]

/-- Paid to device `c`'s first barrier by `pr d.rev c`. -/
def barPay0 (c : Dev nD) (d : Fin 3) : sProp 𝕄 :=
  iprop((∃ f, oxPts (pr d.rev c) c f) ∗ (∃ f, oaPts (pr d.rev c) c f)
    ∗ reached ER (dma (pr d.rev c) 1 d.rev) 0 ∗ reached ER (dma (pr d.rev c) 3 d.rev) 0)
/-- Paid to device `c`'s second barrier by `pr d.rev c`. -/
def barPay1 (c : Dev nD) (d : Fin 3) : sProp 𝕄 :=
  iprop((∃ f, slPts (pr d.rev c) d.rev f) ∗ reached ER (dma (pr d.rev c) 5 d.rev) 0)

def dmaPay (c : Dev nD) (k : Fin 6) (j : Fin 3) : sProp 𝕄 :=
  match k with
  | 0 => xPts I c j
  | 1 => oxPts c (pr j.rev c) (agx I)
  | 2 => aPts I c j
  | 3 => oaPts c (pr j.rev c) (aga I)
  | 4 => psPts I c j
  | 5 => slPts c j (cmb I c)

def pay (c : Dev nD) (i : Option CIx) (d : Fin 3) : sProp 𝕄 :=
  match i with
  | some (.inl 0) => barPay0 c d
  | some (.inl 1) => barPay1 c d
  | some (.inr (k, j)) => dmaPay I c k j
  | none => iprop(emp)

def dutiesOf : Option CIx → Finset (Fin 3)
  | some (.inl _) => Finset.univ
  | some (.inr _) => {0}
  | none => ∅
def amountOf : Option CIx → ℕ
  | some (.inr (k, _)) => kN k
  | _ => 1
theorem amountOf_pos (i : Option CIx) : 0 < amountOf i := by
  unfold amountOf; split; exacts [kN_pos _, Nat.one_pos]

def Rd : Rounds.Schedule (GSem nD τ sig) (Fin 3) 𝕄 where
  duties g r := if r = 0 ∧ g.1.2 = .tc then dutiesOf (dec g.2) else ∅
  unitless _ := False
  amount g _ _ := amountOf (dec g.2)
  payload g _ d := pay I g.1.1 (dec g.2) d
  amount_pos g _ _ _ := amountOf_pos _

instance dmaPay_storable (c : Dev nD) (k : Fin 6) (j : Fin 3) : BI.Storable (upEmb : UEmb _ 𝕄) (dmaPay I c k j) := by
  unfold dmaPay; split <;> infer_instance
instance Rd_payload_storable (g : GSem nD τ sig) (r : ℕ) (d : Fin 3) :
    BI.Storable (upEmb : UEmb _ 𝕄) ((Rd I).payload g r d) := by
  show BI.Storable upEmb (pay I g.1.1 (dec g.2) d)
  unfold pay barPay0 barPay1
  split <;> infer_instance

section Tables
variable (c : Dev nD)

theorem duties_bar (b : Fin 2) : (Rd I).duties (bar c b) 0 = Finset.univ := by
  show (if 0 = 0 ∧ (bar c b).1.2 = .tc then dutiesOf (dec (loc (.inl b))) else ∅) = _
  rw [dec_loc, if_pos ⟨rfl, rfl⟩]; rfl
theorem duties_dma (k : Fin 6) (j : Fin 3) : (Rd I).duties (dma c k j) 0 = {0} := by
  show (if 0 = 0 ∧ (dma c k j).1.2 = .tc then dutiesOf (dec (loc (.inr (k, j)))) else ∅) = _
  rw [dec_loc, if_pos ⟨rfl, rfl⟩]; rfl
theorem duties_later (g : GSem nD τ sig) : ∀ r, 1 ≤ r → (Rd I).duties g r = ∅ :=
  fun r hr => if_neg fun h => by omega
theorem amount_bar (b : Fin 2) (d : Fin 3) : (Rd I).amount (bar c b) 0 d = 1 := by
  show amountOf (dec (loc (.inl b))) = _
  rw [dec_loc]; rfl
theorem amount_dma (k : Fin 6) (j d : Fin 3) : (Rd I).amount (dma c k j) 0 d = kN k := by
  show amountOf (dec (loc (.inr (k, j)))) = _
  rw [dec_loc]; rfl
theorem payload_bar0 (d : Fin 3) : (Rd I).payload (bar c 0) 0 d = barPay0 c d := by
  show pay I c (dec (loc (.inl 0))) d = _
  rw [dec_loc]; rfl
theorem payload_bar1 (d : Fin 3) : (Rd I).payload (bar c 1) 0 d = barPay1 c d := by
  show pay I c (dec (loc (.inl 1))) d = _
  rw [dec_loc]; rfl
theorem payload_dma (k : Fin 6) (j d : Fin 3) : (Rd I).payload (dma c k j) 0 d = dmaPay I c k j := by
  show pay I c (dec (loc (.inr (k, j)))) d = _
  rw [dec_loc]; rfl
theorem expect_bar (b : Fin 2) : (Rd I).expect (bar c b) 0 = 3 := by
  unfold Schedule.expect Schedule.amountOf
  rw [duties_bar]
  rw [Finset.sum_congr rfl fun d _ => amount_bar I c b d]; rfl
theorem expect_dma (k : Fin 6) (j : Fin 3) : (Rd I).expect (dma c k j) 0 = kN k := by
  unfold Schedule.expect Schedule.amountOf
  rw [duties_dma, Finset.sum_singleton, amount_dma]
theorem rest_dma (k : Fin 6) (j : Fin 3) :
    bigSep ((Rd I).duties (dma c k j) 0 \ ∅) (fun u => (Rd I).payload (dma c k j) 0 u) = dmaPay I c k j := by
  rw [Finset.sdiff_empty, duties_dma, bigSep_singleton, payload_dma]
theorem rest_bar0 :
    bigSep ((Rd I).duties (bar c 0) 0 \ ∅) (fun u => (Rd I).payload (bar c 0) 0 u)
      = iprop(barPay0 c 0 ∗ barPay0 c 1 ∗ barPay0 c 2) := by
  rw [Finset.sdiff_empty, duties_bar, bigSep_congr (Ψ := fun d => barPay0 c d) fun d _ => payload_bar0 I c d]
  exact Ring.bigSep_fin3 _
theorem rest_bar1 :
    bigSep ((Rd I).duties (bar c 1) 0 \ ∅) (fun u => (Rd I).payload (bar c 1) 0 u)
      = iprop(barPay1 c 0 ∗ barPay1 c 1 ∗ barPay1 c 2) := by
  rw [Finset.sdiff_empty, duties_bar, bigSep_congr (Ψ := fun d => barPay1 c d) fun d _ => payload_bar1 I c d]
  exact Ring.bigSep_fin3 _

end Tables

/-! ## Levels and dues -/

def L (g : GSem nD τ sig) : Finset Unit := if g.1.2 = .tc then {()} else ∅
/-- Gather barrier 1, gather receives 2, scatter barrier 3, scatter receives 4, the rest 0. -/
def lvOf : Option CIx → ℕ
  | some (.inl 0) => 1
  | some (.inl 1) => 3
  | some (.inr (1, _)) => 2
  | some (.inr (3, _)) => 2
  | some (.inr (5, _)) => 4
  | _ => 0
def lv (g : GSem nD τ sig) (_ : Unit) : ℕ := lvOf (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : CIx) : lv (cell c i) () = lvOf (some i) := by
  show lvOf (dec (loc i)) = _
  rw [dec_loc]

/-- Everything owed is to a cell above level `n`. -/
def Above (n : ℕ) (O : CellTallies nD τ sig Unit) : Prop := ∀ g u, 0 < O g u → L g = {()} ∧ n < lv g u

theorem Above.zero (n : ℕ) : Above n 0 := fun _ _ h => absurd h (Nat.lt_irrefl 0)
theorem Above.add {n : ℕ} {O O' : CellTallies nD τ sig Unit} (h : Above n O) (h' : Above n O') : Above n (O + O') := by
  intro g u hg
  rcases Nat.eq_zero_or_pos (O g u) with h0 | h0
  · rcases Nat.eq_zero_or_pos (O' g u) with h1 | h1
    · exact absurd hg (by show ¬ 0 < O g u + O' g u; omega)
    · exact h' g u h1
  · exact h g u h0
theorem Above.tally {n : ℕ} (c : Dev nD) (i : CIx) (N : ℕ) (h : n < lvOf (some i)) : Above n (tallyAt (cell c i) () N) := by
  intro g u hg
  rw [tallyAt_apply] at hg
  by_cases h' : g = cell c i ∧ u = ()
  · rw [h'.1]; exact ⟨L_tc _ _, by rw [lv_cell]; exact h⟩
  · rw [if_neg h'] at hg; exact absurd hg (Nat.lt_irrefl 0)

theorem mayWait_of (c : Dev nD) (sm : SemLoc sig) (n : ℕ) (hn : lv ((c : Thread nD τ), sm) () ≤ n) {O : CellTallies nD τ sig Unit}
    (h : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [(h g u hg).1]; exact Finset.mem_singleton_self _)
    (fun p hp => by rw [Finset.mem_singleton.mp hp]; exact hn)
    (fun g u hg => (h g u hg).2)

/-- What remains owed over `D` in the gather once the signals are paid: the six copies, in the order they leave, the
    first outermost. -/
def agC2 (D : CellTallies nD τ sig Unit) (c : Dev nD) : CellTallies nD τ sig Unit :=
  (D + tallyAt (dma (pr 2 c) 3 2) () NA) + tallyAt (dma (pr 2 c) 1 2) () NX
def agC1 (D : CellTallies nD τ sig Unit) (c : Dev nD) : CellTallies nD τ sig Unit :=
  (agC2 D c + tallyAt (dma (pr 1 c) 3 1) () NA) + tallyAt (dma (pr 1 c) 1 1) () NX
def agC0 (D : CellTallies nD τ sig Unit) (c : Dev nD) : CellTallies nD τ sig Unit :=
  (agC1 D c + tallyAt (dma (pr 0 c) 3 0) () NA) + tallyAt (dma (pr 0 c) 1 0) () NX
def sigs (b : Fin 2) (D : CellTallies nD τ sig Unit) (c : Dev nD) : CellTallies nD τ sig Unit :=
  ((D + tallyAt (bar (pr 2 c) b) () 1) + tallyAt (bar (pr 1 c) b) () 1) + tallyAt (bar (pr 0 c) b) () 1
/-- All that the gather pays, over `D`. -/
def agO (D : CellTallies nD τ sig Unit) (c : Dev nD) : CellTallies nD τ sig Unit := sigs 0 (agC0 D c) c
def rsC (c : Dev nD) : CellTallies nD τ sig Unit :=
  ((0 + tallyAt (dma (pr 2 c) 5 2) () NX) + tallyAt (dma (pr 1 c) 5 1) () NX) + tallyAt (dma (pr 0 c) 5 0) () NX
/-- All that the scatter pays. -/
def rsO (c : Dev nD) : CellTallies nD τ sig Unit := sigs 1 (rsC c) c

theorem agO_add (D : CellTallies nD τ sig Unit) (c : Dev nD) : D + agO 0 c = agO D c := by
  unfold agO sigs agC0 agC1 agC2
  simp only [← add_assoc, add_zero]

theorem above_rsC (c : Dev nD) : Above 3 (rsC c) :=
  (((Above.zero 3).add (.tally _ _ _ (by decide))).add (.tally _ _ _ (by decide))).add (.tally _ _ _ (by decide))
theorem Above.mono {n n' : ℕ} (h : n ≤ n') {O : CellTallies nD τ sig Unit} (hO : Above n' O) : Above n O :=
  fun g u hg => ⟨(hO g u hg).1, lt_of_le_of_lt h (hO g u hg).2⟩
theorem above_rsO (c : Dev nD) : Above 2 (rsO c) :=
  (((above_rsC c).mono (by decide)).add (.tally _ _ _ (by decide))).add (.tally _ _ _ (by decide)) |>.add (.tally _ _ _ (by decide))
theorem above_agC0 {D : CellTallies nD τ sig Unit} (hD : Above 1 D) (c : Dev nD) : Above 1 (agC0 D c) := by
  unfold agC0 agC1 agC2
  exact ((((((hD.add (.tally _ _ _ (by decide))).add (.tally _ _ _ (by decide))).add (.tally _ _ _ (by decide))).add
    (.tally _ _ _ (by decide))).add (.tally _ _ _ (by decide))).add (.tally _ _ _ (by decide)))
theorem above_agO {D : CellTallies nD τ sig Unit} (hD : Above 1 D) (c : Dev nD) : Above 0 (agO D c) := by
  unfold agO sigs
  exact ((((above_agC0 hD c).mono (by decide)).add (.tally _ _ _ (by decide))).add (.tally _ _ _ (by decide))).add (.tally _ _ _ (by decide))

/-! ## Records every device shares -/

/-- Every cell's invariant, at the names `K` the launch allocated them at. -/
def invs (K : GSem nD τ sig → ℕ) : sProp 𝕄 :=
  bigSep Finset.univ fun p : Dev nD × CIx => cellInv ER (Rd I) (K (cell p.1 p.2)) (cell p.1 p.2)
/-- Round 0 of every barrier is reached. -/
def rbars : sProp (MT nD τ sig Unit (Elt F) ℕ UU ℕ) :=
  bigSep Finset.univ fun p : Dev nD × Fin 2 => reached ER (bar p.1 p.2) 0

instance invs_persistent (K : GSem nD τ sig → ℕ) : BI.Persistent (invs I K) := by unfold invs; infer_instance
instance rbars_persistent : BI.Persistent (rbars : sProp 𝕄) := by unfold rbars; infer_instance

theorem inv_at (K : GSem nD τ sig → ℕ) (c : Dev nD) (i : CIx) :
    invs I K ⊢ cellInv ER (Rd I) (K (cell c i)) (cell c i) :=
  bigSep_elim (Φ := fun p : Dev nD × CIx => cellInv ER (Rd I) (K (cell p.1 p.2)) (cell p.1 p.2)) (Finset.mem_univ (c, i))
theorem rbar_at (c : Dev nD) (b : Fin 2) : (rbars : sProp 𝕄) ⊢ reached ER (bar c b) 0 :=
  bigSep_elim (Φ := fun p : Dev nD × Fin 2 => (reached ER (bar p.1 p.2) 0 : sProp 𝕄)) (Finset.mem_univ (c, b))

end Cert.MoeProof
-- ==== Proof.Views.lean ====
/-
  The element sets of the blocks and slots the two kernels exchange, what a landed copy leaves in them, and how a buffer
  held whole is held block by block.
-/
module

public import proofs.«01_k».proof.Proof.Sched
public import Idealize.ShloMosaic.Lib.ValueLayout

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

theorem psoff_eq : ∀ (c : Dev nD) (j : Fin 3), k1_off1 c (BitVec.ofNat 32 (1 + j.val)) = ![2048 * (pr j c).val, 0] := by
  decide +kernel

/-! ## Blocks of rows -/

theorem mem_rows {off : Fin 2 → ℕ} {inb} (s : ℕ) (h : off = ![2048 * s, 0]) (i : S8192x1024.Idx) :
    i ∈ (Rect.unit (s := S8192x1024) off S2048x1024.size inb).set ↔ (i 0).val / 2048 = s := by
  subst h
  rw [Rect.mem_set_unit, Fin.forall_fin_two]
  have h1 : (i 1).val < 1024 := (i 1).isLt
  show (2048 * s ≤ (i 0).val ∧ (i 0).val < 2048 * s + 2048) ∧ (0 ≤ (i 1).val ∧ (i 1).val < 0 + 1024) ↔ _
  omega

theorem mem_arows {off : Fin 2 → ℕ} {inb} (s : ℕ) (h : off = ![16 * s, 0]) (i : S64x128.Idx) :
    i ∈ (Rect.unit (s := S64x128) off S16x128.size inb).set ↔ (i 0).val / 16 = s := by
  subst h
  rw [Rect.mem_set_unit, Fin.forall_fin_two]
  have h1 : (i 1).val < 128 := (i 1).isLt
  show (16 * s ≤ (i 0).val ∧ (i 0).val < 16 * s + 16) ∧ (0 ≤ (i 1).val ∧ (i 1).val < 0 + 128) ↔ _
  omega

/-- The device a row of a gathered array comes from. -/
def blk (i : S8192x1024.Idx) : Dev nD := ⟨(i 0).val / 2048, Nat.div_lt_of_lt_mul (i 0).isLt⟩

theorem mem_ox (s : Dev nD) (i : S8192x1024.Idx) : i ∈ (oxM s).view.set ↔ (i 0).val / 2048 = s.val := by
  have e : (oxM s).view.set = (Rect.unit (s := S8192x1024) (k0_off3 s) S2048x1024.size (k0_off3_inb s)).set := View.set_slice_whole _ _
  rw [e]; exact mem_rows _ (k0_off3_eq s) i
theorem mem_oa (s : Dev nD) (i : S64x128.Idx) : i ∈ (oaM s).view.set ↔ (i 0).val / 16 = s.val := by
  have e : (oaM s).view.set = (Rect.unit (s := S64x128) (k0_off4 s) S16x128.size (k0_off4_inb s)).set := View.set_slice_whole _ _
  rw [e]; exact mem_arows _ (k0_off4_eq s) i
theorem mem_ps (c : Dev nD) (j : Fin 3) (i : S8192x1024.Idx) : i ∈ (psM c j).view.set ↔ (i 0).val / 2048 = (pr j c).val := by
  have e : (psM c j).view.set = (Rect.unit (s := S8192x1024) (k1_off1 c (BitVec.ofNat 32 (1 + j.val))) S2048x1024.size (k1_off1_inb c j)).set :=
    View.set_slice_whole _ _
  rw [e]; exact mem_rows _ (psoff_eq c j) i

theorem mem_slot {off : Fin 3 → ℕ} {inb} (j : ℕ) (h : off = ![j, 0, 0]) (i : S3x2048x1024.Idx) :
    i ∈ (Rect.unit (s := S3x2048x1024) off S1x2048x1024.size inb).set ↔ (i 0).val = j := by
  subst h
  rw [Rect.mem_set_unit]
  have h1 : (i 1).val < 2048 := (i 1).isLt
  have h2 : (i 2).val < 1024 := (i 2).isLt
  constructor
  · intro h
    have h0 : j ≤ (i 0).val ∧ (i 0).val < j + 1 := h 0
    omega
  · intro h a
    match a with
    | ⟨0, _⟩ => show j ≤ (i 0).val ∧ (i 0).val < j + 1; omega
    | ⟨1, _⟩ => show 0 ≤ (i 1).val ∧ (i 1).val < 0 + 2048; omega
    | ⟨2, _⟩ => show 0 ≤ (i 2).val ∧ (i 2).val < 0 + 1024; omega

theorem slot0_set : (slot0 : Memref sig .tc .vmem S2048x1024 .bf16).view.set
    = (Rect.unit (s := S3x2048x1024) ![0, 0, 0] S1x2048x1024.size inb_S3x2048x1024_S1x2048x1024_0_0_0).set :=
  (View.set_reshape _ _).trans (View.set_slice_whole _ _)
theorem slot1_set : (slot1 : Memref sig .tc .vmem S2048x1024 .bf16).view.set
    = (Rect.unit (s := S3x2048x1024) ![1, 0, 0] S1x2048x1024.size inb_S3x2048x1024_S1x2048x1024_1_0_0).set :=
  (View.set_reshape _ _).trans (View.set_slice_whole _ _)
theorem slot2_set : (slot2 : Memref sig .tc .vmem S2048x1024 .bf16).view.set
    = (Rect.unit (s := S3x2048x1024) ![2, 0, 0] S1x2048x1024.size inb_S3x2048x1024_S1x2048x1024_2_0_0).set :=
  (View.set_reshape _ _).trans (View.set_slice_whole _ _)

/-! ## What a copy leaves -/

/-- An index of a two-axis shape is its two coordinates. -/
theorem pair_of {d : Fin 2 → ℕ} (x : (⟨2, d⟩ : Shape).Idx) (a : Fin (d 0)) (b : Fin (d 1)) (ha : a.val = (x 0).val) (hb : b.val = (x 1).val) :
    Shape.pair a b = x := by
  rw [← Shape.pair_eta x]
  exact congrArg₂ Shape.pair (Fin.ext ha) (Fin.ext hb)

theorem agx_at (s : Dev nD) (i : S8192x1024.Idx) (x : S2048x1024.Idx) (h0 : (i 0).val = 2048 * s.val + (x 0).val)
    (h1 : (i 1).val = (x 1).val) : agx I i = I.X s x := by
  have hx : (x 0).val < 2048 := (x 0).isLt
  unfold agx
  have e : (⟨(i 0).val / 2048, Nat.div_lt_of_lt_mul (i 0).isLt⟩ : Dev nD) = s := Fin.ext (by show (i 0).val / 2048 = s.val; omega)
  rw [e]
  exact congrArg (I.X s) (pair_of x _ _ (by show (i 0).val % 2048 = _; omega) h1)
theorem aga_at (s : Dev nD) (i : S64x128.Idx) (x : S16x128.Idx) (h0 : (i 0).val = 16 * s.val + (x 0).val)
    (h1 : (i 1).val = (x 1).val) : aga I i = I.A s x := by
  have hx : (x 0).val < 16 := (x 0).isLt
  unfold aga
  have e : (⟨(i 0).val / 16, Nat.div_lt_of_lt_mul (i 0).isLt⟩ : Dev nD) = s := Fin.ext (by show (i 0).val / 16 = s.val; omega)
  rw [e]
  exact congrArg (I.A s) (pair_of x _ _ (by show (i 0).val % 16 = _; omega) h1)

theorem ox_emb (s : Dev nD) (x : S2048x1024.Idx) :
    (((oxM s).view.emb x : S8192x1024.Idx) 0).val = 2048 * s.val + (x 0).val ∧ (((oxM s).view.emb x : S8192x1024.Idx) 1).val = (x 1).val := by
  constructor
  · show k0_off3 s 0 + 1 * (x 0).val = _
    rw [k0_off3_eq]; show 2048 * s.val + 1 * (x 0).val = _; omega
  · show k0_off3 s 1 + 1 * (x 1).val = _
    rw [k0_off3_eq]; show 0 + 1 * (x 1).val = _; omega
theorem oa_emb (s : Dev nD) (x : S16x128.Idx) :
    (((oaM s).view.emb x : S64x128.Idx) 0).val = 16 * s.val + (x 0).val ∧ (((oaM s).view.emb x : S64x128.Idx) 1).val = (x 1).val := by
  constructor
  · show k0_off4 s 0 + 1 * (x 0).val = _
    rw [k0_off4_eq]; show 16 * s.val + 1 * (x 0).val = _; omega
  · show k0_off4 s 1 + 1 * (x 1).val = _
    rw [k0_off4_eq]; show 0 + 1 * (x 1).val = _; omega
theorem ps_emb (c : Dev nD) (j : Fin 3) (x : S2048x1024.Idx) :
    (((psM c j).view.emb x : S8192x1024.Idx) 0).val = 2048 * (pr j c).val + (x 0).val ∧ (((psM c j).view.emb x : S8192x1024.Idx) 1).val = (x 1).val := by
  constructor
  · show k1_off1 c (BitVec.ofNat 32 (1 + j.val)) 0 + 1 * (x 0).val = _
    rw [psoff_eq]; show 2048 * (pr j c).val + 1 * (x 0).val = _; omega
  · show k1_off1 c (BitVec.ofNat 32 (1 + j.val)) 1 + 1 * (x 1).val = _
    rw [psoff_eq]; show 0 + 1 * (x 1).val = _; omega

/-- A block written with `w` agrees with `g` wherever `w` does. -/
theorem write_agrees {sp : Space} {s : Shape} {e : EltTy} (v : View sig .tc sp s e) (fd g : v.ty.Contents (Elt F)) (w : s.Idx → Elt F e)
    (h : ∀ x, g (v.emb x) = _root_.cast (congrArg (Elt F) v.elt_eq.symm) (w x)) :
    ∀ i ∈ v.set, v.write (Elt F) fd w Finset.univ i = g i := by
  intro i hi
  obtain ⟨x, -, rfl⟩ := Finset.mem_map.mp hi
  rw [View.write_emb_of_mem _ _ (Finset.mem_univ x), h x]

theorem ox_land (c s : Dev nD) (fd : S8192x1024.Idx → Elt F .bf16) :
    ((oxM s).view.loc (c : Thread nD τ) ↦[(oxM s).view.set]{fullShare} ((oxM s).view.write (Elt F) fd (I.X s) Finset.univ) : sProp 𝕄)
      = oxPts c s (agx I) :=
  pointsTo_congr (write_agrees (oxM s).view fd (agx I) (I.X s) fun x => agx_at I s _ x (ox_emb s x).1 (ox_emb s x).2)
theorem oa_land (c s : Dev nD) (fd : S64x128.Idx → Elt F .i32) :
    ((oaM s).view.loc (c : Thread nD τ) ↦[(oaM s).view.set]{fullShare} ((oaM s).view.write (Elt F) fd (I.A s) Finset.univ) : sProp 𝕄)
      = oaPts c s (aga I) :=
  pointsTo_congr (write_agrees (oaM s).view fd (aga I) (I.A s) fun x => aga_at I s _ x (oa_emb s x).1 (oa_emb s x).2)

theorem cmb_at (s : Dev nD) (j : Fin 3) (i : S3x2048x1024.Idx) (x : S2048x1024.Idx) (h0 : (i 0).val = j.val)
    (h1 : (i 1).val = (x 0).val) (h2 : (i 2).val = (x 1).val) :
    cmb I (pr j s) i = (psM s j).view.read (Elt F) (I.P s) x := by
  unfold cmb
  have ej : i 0 = j := Fin.ext h0
  have es : pr (Fin.rev (i 0)) (pr j s) = s := by rw [ej]; exact pr_rev' j s
  rw [es]
  refine congrArg (I.P s) (pair_of _ _ _ ?_ ?_)
  · show 2048 * (pr j s).val + (i 1).val = _; rw [(ps_emb s j x).1, h1]
  · rw [(ps_emb s j x).2]; exact h2

/-- Where a slot's element stands in the landing buffer. -/
theorem sq_idx (x : S2048x1024.Idx) :
    Shape.reshapeEquiv squeezes_S1x2048x1024_S2048x1024.numel_eq x = (Fin.cons ⟨0, Nat.one_pos⟩ x : S1x2048x1024.Idx) :=
  Shape.reshapeEquiv_cons_one _ x

theorem slot0_emb (x : S2048x1024.Idx) :
    ((slot0.view.emb x : S3x2048x1024.Idx) 0).val = 0 ∧ ((slot0.view.emb x : S3x2048x1024.Idx) 1).val = (x 0).val
      ∧ ((slot0.view.emb x : S3x2048x1024.Idx) 2).val = (x 1).val := by
  have e : slot0.view.emb x = (Rect.unit (s := S3x2048x1024) ![0, 0, 0] S1x2048x1024.size inb_S3x2048x1024_S1x2048x1024_0_0_0).emb
      (Shape.reshapeEquiv squeezes_S1x2048x1024_S2048x1024.numel_eq x) := rfl
  rw [e, sq_idx]
  refine ⟨?_, ?_, ?_⟩
  · show 0 + 1 * 0 = 0; rfl
  · show 0 + 1 * (x 0).val = _; omega
  · show 0 + 1 * (x 1).val = _; omega

theorem slot0_land (s : Dev nD) (fd : S3x2048x1024.Idx → Elt F .bf16) :
    (slot0.view.loc (pr 0 s : Thread nD τ) ↦[slot0.view.set]{fullShare}
        (slot0.view.write (Elt F) fd ((psM s 0).view.read (Elt F) (I.P s)) Finset.univ) : sProp 𝕄)
      = slPts (pr 0 s) 0 (cmb I (pr 0 s)) :=
  pointsTo_congr (write_agrees slot0.view fd (cmb I (pr 0 s)) _ fun x =>
    cmb_at I s 0 _ x (slot0_emb x).1 (slot0_emb x).2.1 (slot0_emb x).2.2)

theorem slot1_emb (x : S2048x1024.Idx) :
    ((slot1.view.emb x : S3x2048x1024.Idx) 0).val = 1 ∧ ((slot1.view.emb x : S3x2048x1024.Idx) 1).val = (x 0).val
      ∧ ((slot1.view.emb x : S3x2048x1024.Idx) 2).val = (x 1).val := by
  have e : slot1.view.emb x = (Rect.unit (s := S3x2048x1024) ![1, 0, 0] S1x2048x1024.size inb_S3x2048x1024_S1x2048x1024_1_0_0).emb
      (Shape.reshapeEquiv squeezes_S1x2048x1024_S2048x1024.numel_eq x) := rfl
  rw [e, sq_idx]
  refine ⟨?_, ?_, ?_⟩
  · show 1 + 1 * 0 = 1; rfl
  · show 0 + 1 * (x 0).val = _; omega
  · show 0 + 1 * (x 1).val = _; omega

theorem slot1_land (s : Dev nD) (fd : S3x2048x1024.Idx → Elt F .bf16) :
    (slot1.view.loc (pr 1 s : Thread nD τ) ↦[slot1.view.set]{fullShare}
        (slot1.view.write (Elt F) fd ((psM s 1).view.read (Elt F) (I.P s)) Finset.univ) : sProp 𝕄)
      = slPts (pr 1 s) 1 (cmb I (pr 1 s)) :=
  pointsTo_congr (write_agrees slot1.view fd (cmb I (pr 1 s)) _ fun x =>
    cmb_at I s 1 _ x (slot1_emb x).1 (slot1_emb x).2.1 (slot1_emb x).2.2)

theorem slot2_emb (x : S2048x1024.Idx) :
    ((slot2.view.emb x : S3x2048x1024.Idx) 0).val = 2 ∧ ((slot2.view.emb x : S3x2048x1024.Idx) 1).val = (x 0).val
      ∧ ((slot2.view.emb x : S3x2048x1024.Idx) 2).val = (x 1).val := by
  have e : slot2.view.emb x = (Rect.unit (s := S3x2048x1024) ![2, 0, 0] S1x2048x1024.size inb_S3x2048x1024_S1x2048x1024_2_0_0).emb
      (Shape.reshapeEquiv squeezes_S1x2048x1024_S2048x1024.numel_eq x) := rfl
  rw [e, sq_idx]
  refine ⟨?_, ?_, ?_⟩
  · show 2 + 1 * 0 = 2; rfl
  · show 0 + 1 * (x 0).val = _; omega
  · show 0 + 1 * (x 1).val = _; omega

theorem slot2_land (s : Dev nD) (fd : S3x2048x1024.Idx → Elt F .bf16) :
    (slot2.view.loc (pr 2 s : Thread nD τ) ↦[slot2.view.set]{fullShare}
        (slot2.view.write (Elt F) fd ((psM s 2).view.read (Elt F) (I.P s)) Finset.univ) : sProp 𝕄)
      = slPts (pr 2 s) 2 (cmb I (pr 2 s)) :=
  pointsTo_congr (write_agrees slot2.view fd (cmb I (pr 2 s)) _ fun x =>
    cmb_at I s 2 _ x (slot2_emb x).1 (slot2_emb x).2.1 (slot2_emb x).2.2)

/-! ## Whole buffers, block by block -/

/-- The four devices are a device and its three peers. -/
theorem devs_around (Φ : Dev nD → sProp 𝕄) (c : Dev nD) :
    bigSep Finset.univ Φ = iprop(Φ c ∗ Φ (pr 0 c) ∗ Φ (pr 1 c) ∗ Φ (pr 2 c)) :=
  bigSep_univ_eq_bigSepL [c, pr 0 c, pr 1 c, pr 2 c] (by revert c; decide) (by revert c; decide) Φ

theorem ox_split (c : Dev nD) (f : S8192x1024.Idx → Elt F .bf16) :
    ((c : Thread nD τ).loc cc0_stg2_0 ↦{fullShare} f : sProp 𝕄)
      = iprop(oxPts c c f ∗ oxPts c (pr 0 c) f ∗ oxPts c (pr 1 c) f ∗ oxPts c (pr 2 c) f) := by
  rw [← devs_around (fun s => oxPts c s f) c]
  refine Ring.pointsTo_blocks (ℓ := (c : Thread nD τ).loc cc0_stg2_0) (fun s : Dev nD => (oxM s).view.set) (fun b b' hb => ?_) ?_ f
  · rw [Finset.disjoint_left]; intro i h h'
    exact hb (Fin.ext (((mem_ox b i).1 h).symm.trans ((mem_ox b' i).1 h')))
  · refine Finset.eq_univ_iff_forall.2 fun i => Finset.mem_biUnion.2 ⟨⟨(i 0).val / 2048, Nat.div_lt_of_lt_mul (i 0).isLt⟩, Finset.mem_univ _, (mem_ox _ i).2 rfl⟩
theorem oa_split (c : Dev nD) (f : S64x128.Idx → Elt F .i32) :
    ((c : Thread nD τ).loc cc0_stg3_0 ↦{fullShare} f : sProp 𝕄)
      = iprop(oaPts c c f ∗ oaPts c (pr 0 c) f ∗ oaPts c (pr 1 c) f ∗ oaPts c (pr 2 c) f) := by
  rw [← devs_around (fun s => oaPts c s f) c]
  refine Ring.pointsTo_blocks (ℓ := (c : Thread nD τ).loc cc0_stg3_0) (fun s : Dev nD => (oaM s).view.set) (fun b b' hb => ?_) ?_ f
  · rw [Finset.disjoint_left]; intro i h h'
    exact hb (Fin.ext (((mem_oa b i).1 h).symm.trans ((mem_oa b' i).1 h')))
  · refine Finset.eq_univ_iff_forall.2 fun i => Finset.mem_biUnion.2 ⟨⟨(i 0).val / 16, Nat.div_lt_of_lt_mul (i 0).isLt⟩, Finset.mem_univ _, (mem_oa _ i).2 rfl⟩

theorem devs_cover : ∀ (c s : Dev nD), s = c ∨ ∃ j, pr j c = s := by decide

/-- Device `c`'s own block of its partial sums. -/
abbrev ownM (c : Dev nD) : Memref sig .tc .vmem S2048x1024 .bf16 :=
  (Memref.whole cc1_stg0_0).slice (Rect.unit (s := S8192x1024) (k1_off2 c) S2048x1024.size (k1_off2_inb c)) (fun _ => rfl)
abbrev ownPts (c : Dev nD) : sProp 𝕄 := (ownM c).view.loc (c : Thread nD τ) ↦[(ownM c).view.set]{fullShare} (I.P c)
theorem mem_own (c : Dev nD) (i : S8192x1024.Idx) : i ∈ (ownM c).view.set ↔ (i 0).val / 2048 = c.val := by
  have e : (ownM c).view.set = (Rect.unit (s := S8192x1024) (k1_off2 c) S2048x1024.size (k1_off2_inb c)).set := View.set_slice_whole _ _
  rw [e]; exact mem_rows _ (k1_off2_eq c) i

theorem ps_split (c : Dev nD) :
    ((c : Thread nD τ).loc cc1_stg0_0 ↦{fullShare} (I.P c) : sProp 𝕄)
      = iprop(ownPts I c ∗ psPts I c 0 ∗ psPts I c 1 ∗ psPts I c 2) := by
  have h : ((c : Thread nD τ).loc cc1_stg0_0 ↦{fullShare} (I.P c) : sProp 𝕄)
      = bigSep Finset.univ fun b : Option (Fin 3) =>
          (c : Thread nD τ).loc cc1_stg0_0 ↦[(match b with | none => (ownM c).view.set | some j => (psM c j).view.set : Finset S8192x1024.Idx)]{fullShare} (I.P c) := by
    refine Ring.pointsTo_blocks (ℓ := (c : Thread nD τ).loc cc1_stg0_0)
      (fun b : Option (Fin 3) => (match b with | none => (ownM c).view.set | some j => (psM c j).view.set : Finset S8192x1024.Idx)) (fun b b' hb => ?_) ?_ (I.P c)
    · rw [Finset.disjoint_left]; intro i h h'
      match b, b' with
      | none, none => exact hb rfl
      | none, some j => exact pr_ne j c (Fin.ext (((mem_ps c j i).1 h').symm.trans ((mem_own c i).1 h)))
      | some j, none => exact pr_ne j c (Fin.ext (((mem_ps c j i).1 h).symm.trans ((mem_own c i).1 h')))
      | some j, some k => exact hb (congrArg some (pr_inj j k c (Fin.ext (((mem_ps c j i).1 h).symm.trans ((mem_ps c k i).1 h')))))
    · refine Finset.eq_univ_iff_forall.2 fun i => Finset.mem_biUnion.2 ?_
      have hs := devs_cover c
      rcases hs (blk i) with h | ⟨j, h⟩
      · exact ⟨none, Finset.mem_univ _, (mem_own c i).2 (congrArg Fin.val h)⟩
      · exact ⟨some j, Finset.mem_univ _, (mem_ps c j i).2 (congrArg Fin.val h.symm)⟩
  rw [h]
  exact bigSep_univ_eq_bigSepL [none, some 0, some 1, some 2] (by decide) (by decide) _

/-- The elements of slot `j`. -/
def slotSet (j : Fin 3) : Finset S3x2048x1024.Idx := Finset.univ.filter fun i => (i 0).val = j.val
theorem mem_slotSet (j : Fin 3) (i : S3x2048x1024.Idx) : i ∈ slotSet j ↔ (i 0).val = j.val := by
  unfold slotSet; rw [Finset.mem_filter]; exact ⟨fun h => h.2, fun h => ⟨Finset.mem_univ _, h⟩⟩
theorem slot0_set' : (slot0 : Memref sig .tc .vmem S2048x1024 .bf16).view.set = slotSet 0 := by
  rw [slot0_set]; ext i; rw [mem_slot 0 rfl, mem_slotSet]; rfl
theorem slot1_set' : (slot1 : Memref sig .tc .vmem S2048x1024 .bf16).view.set = slotSet 1 := by
  rw [slot1_set]; ext i; rw [mem_slot 1 rfl, mem_slotSet]; rfl
theorem slot2_set' : (slot2 : Memref sig .tc .vmem S2048x1024 .bf16).view.set = slotSet 2 := by
  rw [slot2_set]; ext i; rw [mem_slot 2 rfl, mem_slotSet]; rfl

theorem slPts_eq (c : Dev nD) (j : Fin 3) (f : S3x2048x1024.Idx → Elt F .bf16) :
    (slPts c j f : sProp 𝕄) = ((c : Thread nD τ).loc cc1_scratch0 ↦[slotSet j]{fullShare} f) := by
  match j with
  | 0 => unfold slPts; dsimp only; rw [slot0_set']
  | 1 => unfold slPts; dsimp only; rw [slot1_set']
  | 2 => unfold slPts; dsimp only; rw [slot2_set']

theorem slot_split (c : Dev nD) (f : S3x2048x1024.Idx → Elt F .bf16) :
    ((c : Thread nD τ).loc cc1_scratch0 ↦{fullShare} f : sProp 𝕄)
      = iprop(slPts c 0 f ∗ slPts c 1 f ∗ slPts c 2 f) := by
  rw [slPts_eq, slPts_eq, slPts_eq]
  rw [← Ring.bigSep_fin3 (fun j => ((c : Thread nD τ).loc cc1_scratch0 ↦[slotSet j]{fullShare} f : sProp 𝕄))]
  refine Ring.pointsTo_blocks (ℓ := (c : Thread nD τ).loc cc1_scratch0) slotSet (fun b b' hb => ?_) ?_ f
  · rw [Finset.disjoint_left]; intro i h h'
    exact hb (Fin.ext (((mem_slotSet b i).1 h).symm.trans ((mem_slotSet b' i).1 h')))
  · exact Finset.eq_univ_iff_forall.2 fun i => Finset.mem_biUnion.2 ⟨i 0, Finset.mem_univ _, (mem_slotSet _ i).2 rfl⟩

theorem x_split (c : Dev nD) :
    ((c : Thread nD τ).loc cc0_stg0_0 ↦{fullShare} (I.X c) : sProp 𝕄) ⊣⊢ iprop(xPts I c 0 ∗ xPts I c 1 ∗ xPts I c 2) := by
  have h := Ring.pointsTo_thirds (Name := ℕ) (U := UU) (Lvl := ℕ) (Ix := Unit) (ℓ := (c : Thread nD τ).loc cc0_stg0_0) (I := Finset.univ) fullShare (I.X c)
  unfold xPts
  rw [show (xM : Memref sig .tc .vmem S2048x1024 .bf16).view.set = Finset.univ from View.set_whole _]
  exact h
theorem a_split (c : Dev nD) :
    ((c : Thread nD τ).loc cc0_stg1_0 ↦{fullShare} (I.A c) : sProp 𝕄) ⊣⊢ iprop(aPts I c 0 ∗ aPts I c 1 ∗ aPts I c 2) := by
  have h := Ring.pointsTo_thirds (Name := ℕ) (U := UU) (Lvl := ℕ) (Ix := Unit) (ℓ := (c : Thread nD τ).loc cc0_stg1_0) (I := Finset.univ) fullShare (I.A c)
  unfold aPts
  rw [show (aM : Memref sig .tc .vmem S16x128 .i32).view.set = Finset.univ from View.set_whole _]
  exact h

end Cert.MoeProof
-- ==== Proof.Steps.lean ====
/-
  The steps of the two kernels that concern other devices, each as one rule over the protocol's schedule.
-/
module

public import proofs.«01_k».proof.Proof.Views

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3)

variable {F : FTy → Type} [FloatOps F]

local notation "𝕄" => MT nD τ sig Unit (Elt F) ℕ UU ℕ

abbrev 𝒱₀ : Variants := Variants.none

variable (I : Inp F) (K : GSem nD τ sig → ℕ)

theorem mem_dma (c : Dev nD) (kd : Fin 6) (j : Fin 3) : (0 : Fin 3) ∈ (Rd I).duties (dma c kd j) 0 := by
  rw [duties_dma]; exact Finset.mem_singleton_self _

theorem pay_dma (c : Dev nD) (kd : Fin 6) (j : Fin 3) : dmaPay I c kd j ⊢ (Rd I).payload (dma c kd j) 0 0 :=
  Entails.of_eq (payload_dma I c kd j 0).symm

theorem mem_bar (c : Dev nD) (b : Fin 2) (j : Fin 3) : j ∈ (Rd I).duties (bar c b) 0 := by
  rw [duties_bar]; exact Finset.mem_univ _

theorem lv_le {c : Dev nD} {i : CIx} {n : ℕ} (h : lvOf (some i) ≤ n) : lv (cell c i) () ≤ n := by rw [lv_cell]; exact h

/-- Device `c` signals the barrier of `pr j c`. -/
theorem wp_sig (b : Fin 2) (c : Dev nD) (j : Fin 3) {dst : Dev nD} (hd : dst = pr j c) {sem : Sem sig} (hs : sem = bsem b)
    {k' : ℕ} (hk : k' = 1) (O : CellTallies nD τ sig Unit) {W : Waits sig Unit}
    {α : Type} {Q : α → sProp 𝕄} {k : PUnit → Prog (TpuEff nD τ sig (Elt F) Λ₀ .tc) α} :
    iprop(invs I K ∗ rbars ∗ owes (c : Thread nD τ) (O + tallyAt (bar (pr j c) b) () 1) W ∗ dutyTok ER (bar (pr j c) b) 0 j
        ∗ (Rd I).payload (bar (pr j c) b) 0 j)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc dst : Thread nD τ) sem k') k) Q) := by
  subst hd hs hk
  iintro ⟨#HI, #HR, HO, Ht, Hp⟩ Hk
  iapply (Rounds.wp_signal 𝒱₀ ER (Rd I) (c : Thread nD τ) none (dst := (pr j c : Thread nD τ)) (sem := bsem b) (r := 0) (d := j)
      (κ := K (bar (pr j c) b)) (mem_bar I (pr j c) b j) (amount_bar I (pr j c) b j) () O rfl) $$ [HO Ht Hp]
  · isplitr; · iapply (inv_at I K (pr j c) (.inl b)); iexact HI
    isplitl [HO]; · iexact HO
    isplitl [Ht]; · iexact Ht
    isplitl [Hp]; · iapply (show (Rd I).payload (bar (pr j c) b) 0 j ⊢ (Rd I).payload ((pr j c : Thread nD τ), .reg (bsem b)) 0 j from Entails.of_eq rfl); iexact Hp
    iapply (rbar_at (pr j c) b); iexact HR
  iexact Hk

/-- Device `c` waits for the three signals on its own barrier. -/
theorem wp_bwait (b : Fin 2) (c : Dev nD) {sem : Sem sig} (hs : sem = bsem b) {k' : ℕ} (hk : k' = 3)
    (O : CellTallies nD τ sig Unit) (n : ℕ) (hn : lvOf (some (.inl b)) ≤ n) (hO : Above n O) (W : Waits sig Unit)
    {α : Type} {Q : α → sProp 𝕄} {k : PUnit → Prog (TpuEff nD τ sig (Elt F) Λ₀ .tc) α} :
    iprop(invs I K ∗ levAts L lv ∗ cred (tallyAt (bar c b) () 3) ∗ owes (c : Thread nD τ) O W ∗ atPos ER (bar c b) 0 ∅ 0)
      ⊢ iprop(((owes (c : Thread nD τ) O (insert (SemLoc.reg (bsem b), ()) W) ∗ atPos ER (bar c b) 1 ∅ 0
            ∗ bigSep ((Rd I).duties (bar c b) 0 \ ∅) (fun u => (Rd I).payload (bar c b) 0 u))
          -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem k') k) Q) := by
  subst hs hk
  iintro ⟨#HI, #Hl, Hc, HO, Ha⟩ Hk
  iapply (Rounds.wp_wait_rest_token 𝒱₀ ER (Rd I) (c : Thread nD τ) none (κ := K (bar c b))
      (wpE_semWait_eq 𝒱₀ (c : Thread nD τ) none Set.univ) (Set.mem_univ _) () (O := O) (W := W) (R := 0) (m := 0) (T := ∅)
      ((Nat.zero_add 3).trans (expect_bar I c b).symm)) $$ [Hc HO Ha]
  · isplitr; · iapply (inv_at I K c (.inl b)); iexact HI
    isplitl [Hc]; · iexact Hc
    isplitl [HO]; · iexact HO
    isplitr; · iapply (mayWait_of c _ n (lv_le (c := c) hn) hO); iexact Hl
    iexact Ha
  iintro ⟨HO, Ha, -, Hp⟩
  iapply Hk
  isplitl [HO]; · iexact HO
  isplitl [Ha]; · iexact Ha
  iexact Hp

/-- Device `c` waits for the one copy of its DMA cell `(k, j)`. -/
theorem wp_dwait (kd : Fin 6) (j : Fin 3) (c : Dev nD) {w : TpuEff nD τ sig (Elt F) Λ₀ .tc PUnit} {sem : DmaSem sig} (hs : sem = dsem kd j) {k' : ℕ}
    (hw : ∀ K' : PUnit → sProp 𝕄, wpE (defs₀ (F := F)) 𝒱₀ (c : Thread nD τ) none Set.univ w K' = waitSpec (c : Thread nD τ) Set.univ (.dma sem) k' K')
    (hk : k' = kN kd)
    (O : CellTallies nD τ sig Unit) (n : ℕ) (hn : lvOf (some (.inr (kd, j))) ≤ n) (hO : Above n O) (W : Waits sig Unit)
    {α : Type} {Q : α → sProp 𝕄} {k : PUnit → Prog (TpuEff nD τ sig (Elt F) Λ₀ .tc) α} :
    iprop(invs I K ∗ levAts L lv ∗ cred (tallyAt (dma c kd j) () (kN kd)) ∗ owes (c : Thread nD τ) O W ∗ atPos ER (dma c kd j) 0 ∅ 0)
      ⊢ iprop(((owes (c : Thread nD τ) O (insert (SemLoc.dma (dsem kd j), ()) W) ∗ atPos ER (dma c kd j) 1 ∅ 0 ∗ dmaPay I c kd j)
          -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hs hk
  iintro ⟨#HI, #Hl, Hc, HO, Ha⟩ Hk
  iapply (Rounds.wp_wait_rest_token 𝒱₀ ER (Rd I) (c : Thread nD τ) none (κ := K (dma c kd j))
      hw (Set.mem_univ _) () (O := O) (W := W) (R := 0) (m := 0) (T := ∅)
      ((Nat.zero_add _).trans (expect_dma I c kd j).symm)) $$ [Hc HO Ha]
  · isplitr; · iapply (inv_at I K c (.inr (kd, j))); iexact HI
    isplitl [Hc]; · iexact Hc
    isplitl [HO]; · iexact HO
    isplitr; · iapply (mayWait_of c _ n (lv_le (c := c) hn) hO); iexact Hl
    iexact Ha
  iintro ⟨HO, Ha, -, Hp⟩
  ihave Hp := (show iprop(bigSep ((Rd I).duties ((c : Thread nD τ), .dma (dsem kd j)) 0 \ ∅) (fun d => (Rd I).payload ((c : Thread nD τ), .dma (dsem kd j)) 0 d)) ⊢ dmaPay I c kd j from Entails.of_eq (rest_dma I c kd j)) $$ Hp
  iapply Hk
  isplitl [HO]; · iexact HO
  isplitl [Ha]; · iexact Ha
  iexact Hp

/-- Device `c`'s copy number `j` of its x to `pr j c`. -/
theorem wp_sendx (c : Dev nD) (j : Fin 3) {n : Dev nD} (hn : n = pr j c) {sS sR : DmaSem sig} (hS : sS = dsem 0 j) (hR : sR = dsem 1 j)
    {hsc : (oxM c : Memref sig (Dev.tc n : Thread nD τ).2.kind .vmem S2048x1024 .bf16).view.ref.isScScratch = false}
    {hsrc : (xM : Memref sig .tc .vmem S2048x1024 .bf16).view.WordExact} {hdst : (oxM c : Memref sig .tc .vmem S2048x1024 .bf16).view.WordExact}
    {hsem : DmaTarget.Typed .vmem (.dma sR) (.remote (Dev.tc n : Thread nD τ) (oxM c : Memref sig .tc .vmem S2048x1024 .bf16) (.dma sS) hsc)}
    (O : CellTallies nD τ sig Unit) (W : Waits sig Unit)
    {α : Type} {Q : α → sProp 𝕄} {k : PUnit → Prog (TpuEff nD τ sig (Elt F) Λ₀ .tc) α} :
    iprop(invs I K ∗ xPts I c j ∗ (∃ f, oxPts (pr j c) c f)
        ∗ owes (c : Thread nD τ) (O + tallyAt (dma (pr j c) 1 j) () NX) W
        ∗ dutyTok ER (dma c 0 j) 0 0 ∗ reached ER (dma c 0 j) 0
        ∗ dutyTok ER (dma (pr j c) 1 j) 0 0 ∗ reached ER (dma (pr j c) 1 j) 0)
      ⊢ iprop(((cred (tallyAt (dma c 0 j) () NX) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) (oxM c) (.dma sS) hsc) (.dma sR) hsrc hdst hsem) k) Q) := by
  subst hn hS hR
  iintro ⟨#HI, Hx, ⟨%fd, Ho⟩, HO, HtS, HrS, HtR, HrR⟩ Hk
  iapply (Rounds.wp_send_pointsTo 𝒱₀ ER (Rd I) (c : Thread nD τ) none (c' := (pr j c : Thread nD τ)) (src := xM) (dst := oxM c)
      (sS := .dma (dsem 0 j)) (sem := .dma (dsem 1 j)) (q := shares3 fullShare j) (fs := I.X c)
      (κ₁ := K (dma c 0 j)) (κ₂ := K (dma (pr j c) 1 j)) (r₁ := 0) (r₂ := 0) (d₁ := 0) (d₂ := 0) (fd := fd)
      (mem_dma I _ _ _) (mem_dma I _ _ _)
      () () NX rfl (amount_dma I c 0 j 0) (amount_dma I (pr j c) 1 j 0) O rfl (W := W)
      (pay_dma I c 0 j)
      (BI.Entails.trans (by
          show _ ⊢ oxPts (pr j c) (pr j.rev (pr j c)) (agx I)
          rw [pr_rev', View.read_whole, ox_land]) (pay_dma I (pr j c) 1 j))) $$ [Hx Ho HO HtS HrS HtR HrR]
  · isplitr; · iapply (inv_at I K c (.inr (0, j))); iexact HI
    isplitr; · iapply (inv_at I K (pr j c) (.inr (1, j))); iexact HI
    isplitl [Hx]; · iexact Hx
    isplitl [Ho]; · iexact Ho
    isplitl [HO]; · iexact HO
    isplitl [HtS]; · iexact HtS
    isplitl [HrS]; · iexact HrS
    isplitl [HtR]; · iexact HtR
    iexact HrR
  iexact Hk

/-- Device `c`'s copy number `j` of its assignments to `pr j c`. -/
theorem wp_senda (c : Dev nD) (j : Fin 3) {n : Dev nD} (hn : n = pr j c) {sS sR : DmaSem sig} (hS : sS = dsem 2 j) (hR : sR = dsem 3 j)
    {hsc : (oaM c : Memref sig (Dev.tc n : Thread nD τ).2.kind .vmem S16x128 .i32).view.ref.isScScratch = false}
    {hsrc : (aM : Memref sig .tc .vmem S16x128 .i32).view.WordExact} {hdst : (oaM c : Memref sig .tc .vmem S16x128 .i32).view.WordExact}
    {hsem : DmaTarget.Typed .vmem (.dma sR) (.remote (Dev.tc n : Thread nD τ) (oaM c : Memref sig .tc .vmem S16x128 .i32) (.dma sS) hsc)}
    (O : CellTallies nD τ sig Unit) (W : Waits sig Unit)
    {α : Type} {Q : α → sProp 𝕄} {k : PUnit → Prog (TpuEff nD τ sig (Elt F) Λ₀ .tc) α} :
    iprop(invs I K ∗ aPts I c j ∗ (∃ f, oaPts (pr j c) c f)
        ∗ owes (c : Thread nD τ) (O + tallyAt (dma (pr j c) 3 j) () NA) W
        ∗ dutyTok ER (dma c 2 j) 0 0 ∗ reached ER (dma c 2 j) 0
        ∗ dutyTok ER (dma (pr j c) 3 j) 0 0 ∗ reached ER (dma (pr j c) 3 j) 0)
      ⊢ iprop(((cred (tallyAt (dma c 2 j) () NA) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) (oaM c) (.dma sS) hsc) (.dma sR) hsrc hdst hsem) k) Q) := by
  subst hn hS hR
  iintro ⟨#HI, Hx, ⟨%fd, Ho⟩, HO, HtS, HrS, HtR, HrR⟩ Hk
  iapply (Rounds.wp_send_pointsTo 𝒱₀ ER (Rd I) (c : Thread nD τ) none (c' := (pr j c : Thread nD τ)) (src := aM) (dst := oaM c)
      (sS := .dma (dsem 2 j)) (sem := .dma (dsem 3 j)) (q := shares3 fullShare j) (fs := I.A c)
      (κ₁ := K (dma c 2 j)) (κ₂ := K (dma (pr j c) 3 j)) (r₁ := 0) (r₂ := 0) (d₁ := 0) (d₂ := 0) (fd := fd)
      (mem_dma I _ _ _) (mem_dma I _ _ _)
      () () NA rfl (amount_dma I c 2 j 0) (amount_dma I (pr j c) 3 j 0) O rfl (W := W)
      (pay_dma I c 2 j)
      (BI.Entails.trans (by
          show _ ⊢ oaPts (pr j c) (pr j.rev (pr j c)) (aga I)
          rw [pr_rev', View.read_whole, oa_land]) (pay_dma I (pr j c) 3 j))) $$ [Hx Ho HO HtS HrS HtR HrR]
  · isplitr; · iapply (inv_at I K c (.inr (2, j))); iexact HI
    isplitr; · iapply (inv_at I K (pr j c) (.inr (3, j))); iexact HI
    isplitl [Hx]; · iexact Hx
    isplitl [Ho]; · iexact Ho
    isplitl [HO]; · iexact HO
    isplitl [HtS]; · iexact HtS
    isplitl [HrS]; · iexact HrS
    isplitl [HtR]; · iexact HtR
    iexact HrR
  iexact Hk

/-- Slot `j` as a memref. -/
abbrev slotM : Fin 3 → Memref sig .tc .vmem S2048x1024 .bf16
  | 0 => slot0
  | 1 => slot1
  | 2 => slot2

/-- Device `c`'s copy number `j` of its partial sums to `pr j c`. -/
theorem wp_sendp (c : Dev nD) (j : Fin 3) {n : Dev nD} (hn : n = pr j c) {sS sR : DmaSem sig} (hS : sS = dsem 4 j) (hR : sR = dsem 5 j)
    {sl : Memref sig .tc .vmem S2048x1024 .bf16} (hN : ∀ sm : DmaSem sig, sl.view.amount (.dma sm) = NX)
    (hsl : ∀ f : S3x2048x1024.Idx → Elt F .bf16, ∃ fd, (slPts (pr j c) j f : sProp 𝕄)
      ⊢ iprop((sl.view.loc (pr j c : Thread nD τ) ↦[sl.view.set]{fullShare} fd)
        ∗ ⌜(sl.view.loc (pr j c : Thread nD τ) ↦[sl.view.set]{fullShare} (sl.view.write (Elt F) fd ((psM c j).view.read (Elt F) (I.P c)) Finset.univ) : sProp 𝕄)
          ⊢ slPts (pr j c) j (cmb I (pr j c))⌝))
    {hsc : (sl : Memref sig (Dev.tc n : Thread nD τ).2.kind .vmem S2048x1024 .bf16).view.ref.isScScratch = false}
    {hsrc : (psM c j : Memref sig .tc .vmem S2048x1024 .bf16).view.WordExact} {hdst : (sl : Memref sig .tc .vmem S2048x1024 .bf16).view.WordExact}
    {hsem : DmaTarget.Typed .vmem (.dma sR) (.remote (Dev.tc n : Thread nD τ) (sl : Memref sig .tc .vmem S2048x1024 .bf16) (.dma sS) hsc)}
    (O : CellTallies nD τ sig Unit) (W : Waits sig Unit)
    {α : Type} {Q : α → sProp 𝕄} {k : PUnit → Prog (TpuEff nD τ sig (Elt F) Λ₀ .tc) α} :
    iprop(invs I K ∗ psPts I c j ∗ (∃ f, slPts (pr j c) j f)
        ∗ owes (c : Thread nD τ) (O + tallyAt (dma (pr j c) 5 j) () NX) W
        ∗ dutyTok ER (dma c 4 j) 0 0 ∗ reached ER (dma c 4 j) 0
        ∗ dutyTok ER (dma (pr j c) 5 j) 0 0 ∗ reached ER (dma (pr j c) 5 j) 0)
      ⊢ iprop(((cred (tallyAt (dma c 4 j) () NX) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (psM c j) (.remote (Dev.tc n : Thread nD τ) sl (.dma sS) hsc) (.dma sR) hsrc hdst hsem) k) Q) := by
  subst hn hS hR
  iintro ⟨#HI, Hx, ⟨%f, Ho⟩, HO, HtS, HrS, HtR, HrR⟩ Hk
  obtain ⟨fd, hfd⟩ := hsl f
  ihave Ho' := hfd $$ Ho
  icases Ho' with ⟨Ho, %hland⟩
  iapply (Rounds.wp_send_pointsTo 𝒱₀ ER (Rd I) (c : Thread nD τ) none (c' := (pr j c : Thread nD τ)) (src := psM c j) (dst := sl)
      (sS := .dma (dsem 4 j)) (sem := .dma (dsem 5 j)) (q := fullShare) (fs := I.P c)
      (κ₁ := K (dma c 4 j)) (κ₂ := K (dma (pr j c) 5 j)) (r₁ := 0) (r₂ := 0) (d₁ := 0) (d₂ := 0) (fd := fd)
      (mem_dma I _ _ _) (mem_dma I _ _ _)
      () () NX (hN _) (amount_dma I c 4 j 0) (amount_dma I (pr j c) 5 j 0) O rfl (W := W)
      (pay_dma I c 4 j) (hland.trans (pay_dma I (pr j c) 5 j))) $$ [Hx Ho HO HtS HrS HtR HrR]
  · isplitr; · iapply (inv_at I K c (.inr (4, j))); iexact HI
    isplitr; · iapply (inv_at I K (pr j c) (.inr (5, j))); iexact HI
    isplitl [Hx]; · iexact Hx
    isplitl [Ho]; · iexact Ho
    isplitl [HO]; · iexact HO
    isplitl [HtS]; · iexact HtS
    isplitl [HrS]; · iexact HrS
    isplitl [HtR]; · iexact HtR
    iexact HrR
  iexact Hk

/-- A cell whose one round is over closes: its counter, at zero, is its owner's. -/
theorem close (c : Dev nD) (i : CIx) :
    iprop(invs I K ∗ atPos ER (cell c i) 1 ∅ 0) ⊢ (|={Set.univ}=> semVal (cell c i) 0 : sProp 𝕄) := by
  exact BI.Entails.trans (sep_mono_left (inv_at I K c i)) <|
    Rounds.cell_close ER (Rd I) (Set.mem_univ (K (cell c i))) (fun h => h) (R := 1) (duties_later I (cell c i))

end Cert.MoeProof
-- ==== Proof.AgBody.lean ====
/-
  The gather kernel's body, once, at device `c`.
-/
module

public import proofs.«01_k».proof.Proof.Steps

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3)

variable {F : FTy → Type} [FloatOps F]

local notation "𝕄" => MT nD τ sig Unit (Elt F) ℕ UU ℕ

variable (I : Inp F) (K : GSem nD τ sig → ℕ)

/-! ## What a device holds for its three peers -/

def agAt (r : ℕ) (c : Dev nD) (j : Fin 3) : sProp (MT nD τ sig Unit (Elt F) ℕ UU ℕ) :=
  iprop(atPos ER (dma c 0 j) r ∅ 0 ∗ atPos ER (dma c 1 j) r ∅ 0 ∗ atPos ER (dma c 2 j) r ∅ 0 ∗ atPos ER (dma c 3 j) r ∅ 0)
def agRch (c : Dev nD) (j : Fin 3) : sProp (MT nD τ sig Unit (Elt F) ℕ UU ℕ) :=
  iprop(reached ER (dma c 0 j) 0 ∗ reached ER (dma c 1 j) 0 ∗ reached ER (dma c 2 j) 0 ∗ reached ER (dma c 3 j) 0)
instance agRch_persistent (c : Dev nD) (j : Fin 3) : BI.Persistent (agRch c j : sProp 𝕄) := by unfold agRch; infer_instance
def agTok (c : Dev nD) (j : Fin 3) : sProp (MT nD τ sig Unit (Elt F) ℕ UU ℕ) :=
  iprop(dutyTok ER (bar (pr j c) 0) 0 j ∗ dutyTok ER (dma c 0 j) 0 0 ∗ dutyTok ER (dma (pr j c) 1 j) 0 0
    ∗ dutyTok ER (dma c 2 j) 0 0 ∗ dutyTok ER (dma (pr j c) 3 j) 0 0)
def agCred (c : Dev nD) (j : Fin 3) : sProp (MT nD τ sig Unit (Elt F) ℕ UU ℕ) :=
  iprop(cred (tallyAt (dma c 1 j) () NX) ∗ cred (tallyAt (dma c 3 j) () NA))
def agSem (c : Dev nD) (j : Fin 3) : sProp (MT nD τ sig Unit (Elt F) ℕ UU ℕ) :=
  iprop(semVal (dma c 0 j) 0 ∗ semVal (dma c 1 j) 0 ∗ semVal (dma c 2 j) 0 ∗ semVal (dma c 3 j) 0)

theorem agClose (c : Dev nD) (j : Fin 3) : iprop(invs I K ∗ agAt 1 c j) ⊢ (|={Set.univ}=> agSem c j : sProp 𝕄) := by
  unfold agAt agSem
  iintro ⟨#HI, H0, H1, H2, H3⟩
  imod (close I K c (.inr (0, j))) $$ [H0] with H0
  · isplitr; · iexact HI
    iexact H0
  imod (close I K c (.inr (1, j))) $$ [H1] with H1
  · isplitr; · iexact HI
    iexact H1
  imod (close I K c (.inr (2, j))) $$ [H2] with H2
  · isplitr; · iexact HI
    iexact H2
  imod (close I K c (.inr (3, j))) $$ [H3] with H3
  · isplitr; · iexact HI
    iexact H3
  imodintro
  isplitl [H0]; · iexact H0
  isplitl [H1]; · iexact H1
  isplitl [H2]; · iexact H2
  iexact H3

/-- What `pr j c` hands device `c` with its signal. -/
def got0 (c : Dev nD) (j : Fin 3) : sProp (MT nD τ sig Unit (Elt F) ℕ UU ℕ) :=
  iprop((∃ f, oxPts (pr j c) c f) ∗ (∃ f, oaPts (pr j c) c f)
    ∗ reached ER (dma (pr j c) 1 j) 0 ∗ reached ER (dma (pr j c) 3 j) 0)

theorem got0_all (c : Dev nD) :
    bigSep ((Rd I).duties (bar c 0) 0 \ ∅) (fun u => (Rd I).payload (bar c 0) 0 u)
      = iprop(got0 c 2 ∗ got0 c 1 ∗ got0 c 0) := rest_bar0 I c

/-- What device `c` hands `pr j c` with its signal. -/
theorem give0 (c : Dev nD) (j : Fin 3) (f : S8192x1024.Idx → Elt F .bf16) (f' : S64x128.Idx → Elt F .i32) :
    iprop(oxPts c (pr j c) f ∗ oaPts c (pr j c) f' ∗ reached ER (dma c 1 j.rev) 0 ∗ reached ER (dma c 3 j.rev) 0)
      ⊢ (Rd I).payload (bar (pr j c) 0) 0 j := by
  rw [payload_bar0]; unfold barPay0; rw [pr_rev']
  iintro ⟨Hx, Ha, Hr, Hr'⟩
  isplitl [Hx]; · iexists f; iexact Hx
  isplitl [Ha]; · iexists f'; iexact Ha
  isplitl [Hr]; · iexact Hr
  iexact Hr'

/-! ## The device's own block -/

theorem own_ox_set (c : Dev nD) :
    ((Memref.whole cc0_stg2_0 : Memref sig .tc .vmem S8192x1024 .bf16).access (Rect.unit (s := S8192x1024) (k0_off1 c) S2048x1024.size (k0_off1_inb c))).set
      = (oxM c).view.set := by
  ext i
  rw [mem_ox]
  have e : ((Memref.whole cc0_stg2_0 : Memref sig .tc .vmem S8192x1024 .bf16).access (Rect.unit (s := S8192x1024) (k0_off1 c) S2048x1024.size (k0_off1_inb c))).set
    = (Rect.unit (s := S8192x1024) (k0_off1 c) S2048x1024.size (k0_off1_inb c)).set := View.set_slice_whole _ _
  rw [e]; exact mem_rows _ (k0_off1_eq c) i
theorem own_oa_set (c : Dev nD) :
    ((Memref.whole cc0_stg3_0 : Memref sig .tc .vmem S64x128 .i32).access (Rect.unit (s := S64x128) (k0_off2 c) S16x128.size (k0_off2_inb c))).set
      = (oaM c).view.set := by
  ext i
  rw [mem_oa]
  have e : ((Memref.whole cc0_stg3_0 : Memref sig .tc .vmem S64x128 .i32).access (Rect.unit (s := S64x128) (k0_off2 c) S16x128.size (k0_off2_inb c))).set
    = (Rect.unit (s := S64x128) (k0_off2 c) S16x128.size (k0_off2_inb c)).set := View.set_slice_whole _ _
  rw [e]; exact mem_arows _ (k0_off2_eq c) i

theorem own_ox_land (c : Dev nD) (fd : S8192x1024.Idx → Elt F .bf16) (w : S2048x1024.Idx → Elt F .bf16) (hw : w = I.X c) :
    ((oxM c).view.loc (c : Thread nD τ) ↦[(oxM c).view.set]{fullShare}
        (((Memref.whole cc0_stg2_0 : Memref sig .tc .vmem S8192x1024 .bf16).access (Rect.unit (s := S8192x1024) (k0_off1 c) S2048x1024.size (k0_off1_inb c))).write (Elt F) fd w Finset.univ) : sProp 𝕄)
      = oxPts c c (agx I) := by
  subst hw
  refine pointsTo_congr fun i hi => ?_
  rw [← own_ox_set] at hi
  refine write_agrees ((Memref.whole cc0_stg2_0 : Memref sig .tc .vmem S8192x1024 .bf16).access (Rect.unit (s := S8192x1024) (k0_off1 c) S2048x1024.size (k0_off1_inb c))) fd (agx I) (I.X c) (fun x => ?_) i hi
  refine agx_at I c _ x ?_ ?_
  · have h : k0_off1 c 0 = 2048 * c.val := congrFun (k0_off1_eq c) 0
    show k0_off1 c 0 + 1 * (x 0).val = _
    omega
  · have h : k0_off1 c 1 = 0 := congrFun (k0_off1_eq c) 1
    show k0_off1 c 1 + 1 * (x 1).val = _
    omega
theorem own_oa_land (c : Dev nD) (fd : S64x128.Idx → Elt F .i32) (w : S16x128.Idx → Elt F .i32) (hw : w = I.A c) :
    ((oaM c).view.loc (c : Thread nD τ) ↦[(oaM c).view.set]{fullShare}
        (((Memref.whole cc0_stg3_0 : Memref sig .tc .vmem S64x128 .i32).access (Rect.unit (s := S64x128) (k0_off2 c) S16x128.size (k0_off2_inb c))).write (Elt F) fd w Finset.univ) : sProp 𝕄)
      = oaPts c c (aga I) := by
  subst hw
  refine pointsTo_congr fun i hi => ?_
  rw [← own_oa_set] at hi
  refine write_agrees ((Memref.whole cc0_stg3_0 : Memref sig .tc .vmem S64x128 .i32).access (Rect.unit (s := S64x128) (k0_off2 c) S16x128.size (k0_off2_inb c))) fd (aga I) (I.A c) (fun x => ?_) i hi
  refine aga_at I c _ x ?_ ?_
  · have h : k0_off2 c 0 = 16 * c.val := congrFun (k0_off2_eq c) 0
    show k0_off2 c 0 + 1 * (x 0).val = _
    omega
  · have h : k0_off2 c 1 = 0 := congrFun (k0_off2_eq c) 1
    show k0_off2 c 1 + 1 * (x 1).val = _
    omega

theorem pay1_eq (c : Dev nD) :
    k0_pay1 (F := F) (((Memref.whole cc0_stg0_0 : Memref sig .tc .vmem S2048x1024 .bf16).access (Rect.unit (s := S2048x1024) ![0, 0] S2048x1024.size inb_S2048x1024_S2048x1024_0_0)).read (Elt F) (I.X c)) = I.X c := by
  funext x
  unfold k0_pay1
  show I.X c ((Rect.unit (s := S2048x1024) ![0, 0] S2048x1024.size inb_S2048x1024_S2048x1024_0_0).emb (Shape.reshapeEquiv rfl x)) = _
  rw [Shape.reshapeEquiv_self]
  congr 1
  funext a; refine Fin.ext ?_
  match a with
  | 0 => show 0 + 1 * (x 0).val = _; omega
  | 1 => show 0 + 1 * (x 1).val = _; omega
theorem pay2_eq (c : Dev nD) :
    k0_pay2 (F := F) (((Memref.whole cc0_stg1_0 : Memref sig .tc .vmem S16x128 .i32).access (Rect.unit (s := S16x128) ![0, 0] S16x128.size inb_S16x128_S16x128_0_0)).read (Elt F) (I.A c)) = I.A c := by
  funext x
  unfold k0_pay2
  show I.A c ((Rect.unit (s := S16x128) ![0, 0] S16x128.size inb_S16x128_S16x128_0_0).emb (Shape.reshapeEquiv rfl x)) = _
  rw [Shape.reshapeEquiv_self]
  congr 1
  funext a; refine Fin.ext ?_
  match a with
  | 0 => show 0 + 1 * (x 0).val = _; omega
  | 1 => show 0 + 1 * (x 1).val = _; omega

/-! ## The run -/

def agPre (D : CellTallies nD τ sig Unit) (c : Dev nD) (W : Waits sig Unit) : sProp 𝕄 :=
  iprop(invs I K ∗ rbars ∗ levAts L lv
    ∗ atPos ER (bar c 0) 0 ∅ 0 ∗ cred (tallyAt (bar c 0) () 3)
    ∗ (agAt 0 c 0 ∗ agAt 0 c 1 ∗ agAt 0 c 2) ∗ (agRch c 0 ∗ agRch c 1 ∗ agRch c 2)
    ∗ (agTok c 0 ∗ agTok c 1 ∗ agTok c 2) ∗ (agCred c 0 ∗ agCred c 1 ∗ agCred c 2)
    ∗ ((c : Thread nD τ).loc cc0_stg0_0 ↦{fullShare} (I.X c)) ∗ ((c : Thread nD τ).loc cc0_stg1_0 ↦{fullShare} (I.A c))
    ∗ (∃ f, (c : Thread nD τ).loc cc0_stg2_0 ↦{fullShare} f) ∗ (∃ f, (c : Thread nD τ).loc cc0_stg3_0 ↦{fullShare} f)
    ∗ owes (c : Thread nD τ) (agO D c) W)

def agPost (D : CellTallies nD τ sig Unit) (c : Dev nD) : sProp 𝕄 :=
  iprop(semVal (bar c 0) 0 ∗ (agSem c 0 ∗ agSem c 1 ∗ agSem c 2)
    ∗ ((c : Thread nD τ).loc cc0_stg0_0 ↦{fullShare} (I.X c)) ∗ ((c : Thread nD τ).loc cc0_stg1_0 ↦{fullShare} (I.A c))
    ∗ ((c : Thread nD τ).loc cc0_stg2_0 ↦{fullShare} (agx I)) ∗ ((c : Thread nD τ).loc cc0_stg3_0 ↦{fullShare} (aga I))
    ∗ ∃ W, owes (c : Thread nD τ) D W)

abbrev agProg : Prog (TpuEff nD τ sig (Elt F) Λ₀ .tc) PUnit :=
  cc0__ag_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    cc0_scratch0 cc0_scratch1 cc0_scratch2 cc0_scratch3

set_option maxHeartbeats 4000000 in
theorem agRun (D : CellTallies nD τ sig Unit) (hD : Above 2 D) (c : Dev nD) (W : Waits sig Unit) (Kt : PUnit → sProp 𝕄) :
    iprop(agPre I K D c W ∗ (agPost I D c -∗ Kt ⟨⟩))
      ⊢ wp frame (wpE (defs₀ (F := F)) 𝒱₀ (c : Thread nD τ) none) Set.univ (agProg (F := F)) Kt := by
  have hd1 : (⟨k0_dev1 c, k0_dev1_lt c⟩ : Dev nD) = pr 0 c := by revert c; decide
  have hd2 : (⟨k0_dev2 c, k0_dev2_lt c⟩ : Dev nD) = pr 1 c := by revert c; decide
  have hd3 : (⟨k0_dev3 c, k0_dev3_lt c⟩ : Dev nD) = pr 2 c := by revert c; decide
  have hd4 : (⟨k0_dev4 c, k0_dev4_lt c⟩ : Dev nD) = pr 0 c := by revert c; decide
  have hd5 : (⟨k0_dev5 c, k0_dev5_lt c⟩ : Dev nD) = pr 0 c := by revert c; decide
  have hd6 : (⟨k0_dev6 c, k0_dev6_lt c⟩ : Dev nD) = pr 1 c := by revert c; decide
  have hd7 : (⟨k0_dev7 c, k0_dev7_lt c⟩ : Dev nD) = pr 1 c := by revert c; decide
  have hd8 : (⟨k0_dev8 c, k0_dev8_lt c⟩ : Dev nD) = pr 2 c := by revert c; decide
  have hd9 : (⟨k0_dev9 c, k0_dev9_lt c⟩ : Dev nD) = pr 2 c := by revert c; decide
  have hAb : Above 1 (agC0 D c) := above_agC0 (hD.mono (by decide)) c
  unfold agProg
  rw [cc0__ag_body_eq_skeleton]
  unfold cc0__ag_body_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold agPre agAt agRch agTok agCred
  iintro ⟨⟨#HI, #HR, #Hl, HaB, HcB,
    ⟨⟨HaS0, HaX0, HaT0, HaA0⟩, ⟨HaS1, HaX1, HaT1, HaA1⟩, HaS2, HaX2, HaT2, HaA2⟩,
    ⟨⟨#HrS0, #HrX0, #HrT0, #HrA0⟩, ⟨#HrS1, #HrX1, #HrT1, #HrA1⟩, #HrS2, #HrX2, #HrT2, #HrA2⟩,
    ⟨⟨HtB0, HtS0, HtX0, HtT0, HtA0⟩, ⟨HtB1, HtS1, HtX1, HtT1, HtA1⟩, HtB2, HtS2, HtX2, HtT2, HtA2⟩,
    ⟨⟨HcX0, HcA0⟩, ⟨HcX1, HcA1⟩, HcX2, HcA2⟩,
    Hx, Ha, ⟨%fo, Hox⟩, ⟨%fa, Hoa⟩, HO⟩, Hk⟩
  ihave Hox := (Entails.of_eq (ox_split c fo)) $$ Hox
  icases Hox with ⟨Hox, Hox0, Hox1, Hox2⟩
  ihave Hoa := (Entails.of_eq (oa_split c fa)) $$ Hoa
  icases Hoa with ⟨Hoa, Hoa0, Hoa1, Hoa2⟩
  unfold agO sigs
  -- the signal to `pr 0 c`: its part of the gathered arrays goes with it
  iapply (wp_sig I K 0 c 0 hd1 rfl rfl (agC0 D c + tallyAt (bar (pr 2 c) 0) () 1 + tallyAt (bar (pr 1 c) 0) () 1) (W := W)) $$ [HO HtB0 Hox0 Hoa0]
  · isplitr; · iexact HI
    isplitr; · iexact HR
    isplitl [HO]; · iexact HO
    isplitl [HtB0]; · iexact HtB0
    iapply (give0 I c 0 fo fa)
    isplitl [Hox0]; · iexact Hox0
    isplitl [Hoa0]; · iexact Hoa0
    isplitr; · iexact HrX2
    iexact HrA2
  iintro HO
  -- the signal to `pr 1 c`: its part of the gathered arrays goes with it
  iapply (wp_sig I K 0 c 1 hd2 rfl rfl (agC0 D c + tallyAt (bar (pr 2 c) 0) () 1) (W := W)) $$ [HO HtB1 Hox1 Hoa1]
  · isplitr; · iexact HI
    isplitr; · iexact HR
    isplitl [HO]; · iexact HO
    isplitl [HtB1]; · iexact HtB1
    iapply (give0 I c 1 fo fa)
    isplitl [Hox1]; · iexact Hox1
    isplitl [Hoa1]; · iexact Hoa1
    isplitr; · iexact HrX1
    iexact HrA1
  iintro HO
  -- the signal to `pr 2 c`: its part of the gathered arrays goes with it
  iapply (wp_sig I K 0 c 2 hd3 rfl rfl (agC0 D c) (W := W)) $$ [HO HtB2 Hox2 Hoa2]
  · isplitr; · iexact HI
    isplitr; · iexact HR
    isplitl [HO]; · iexact HO
    isplitl [HtB2]; · iexact HtB2
    iapply (give0 I c 2 fo fa)
    isplitl [Hox2]; · iexact Hox2
    isplitl [Hoa2]; · iexact Hoa2
    isplitr; · iexact HrX0
    iexact HrA0
  iintro HO
  -- the three signals arrive: every peer's part for this device is here
  iapply (wp_bwait I K 0 c rfl rfl (agC0 D c) 1 (le_refl 1) hAb W) $$ [HO HcB HaB]
  · isplitr; · iexact HI
    isplitr; · iexact Hl
    isplitl [HcB]; · iexact HcB
    isplitl [HO]; · iexact HO
    iexact HaB
  iintro ⟨HO, HaB, Hp⟩
  ihave Hp := (Entails.of_eq (got0_all I c)) $$ Hp
  unfold got0
  icases Hp with ⟨⟨Hpx2, Hpa2, #HqX2, #HqA2⟩, ⟨Hpx1, Hpa1, #HqX1, #HqA1⟩, Hpx0, Hpa0, #HqX0, #HqA0⟩
  -- its own block
  iapply (wp_load_rect 𝒱₀ (c : Thread nD τ) none Set.univ (m := (Memref.whole cc0_stg0_0 : Memref sig .tc .vmem S2048x1024 .bf16)) (r := Rect.unit (s := S2048x1024) ![0, 0] S2048x1024.size inb_S2048x1024_S2048x1024_0_0) (f := I.X c) (S := Finset.univ) (Finset.subset_univ _)) $$ Hx
  iintro Hx
  iapply (wp_load_rect 𝒱₀ (c : Thread nD τ) none Set.univ (m := (Memref.whole cc0_stg2_0 : Memref sig .tc .vmem S8192x1024 .bf16)) (r := Rect.unit (s := S8192x1024) (k0_off1 c) S2048x1024.size (k0_off1_inb c)) (f := fo) (S := (oxM c).view.set) (own_ox_set c).subset) $$ Hox
  iintro Hox
  iapply (wp_store 𝒱₀ (c : Thread nD τ) none Set.univ (m := (Memref.whole cc0_stg2_0 : Memref sig .tc .vmem S8192x1024 .bf16)) (r := Rect.unit (s := S8192x1024) (k0_off1 c) S2048x1024.size (k0_off1_inb c)) (f := fo) (S := (oxM c).view.set) (own_ox_set c).subset) $$ Hox
  iintro Hox
  ihave Hox := (Entails.of_eq (own_ox_land I c fo _ (pay1_eq I c))) $$ Hox
  iapply (wp_load_rect 𝒱₀ (c : Thread nD τ) none Set.univ (m := (Memref.whole cc0_stg1_0 : Memref sig .tc .vmem S16x128 .i32)) (r := Rect.unit (s := S16x128) ![0, 0] S16x128.size inb_S16x128_S16x128_0_0) (f := I.A c) (S := Finset.univ) (Finset.subset_univ _)) $$ Ha
  iintro Ha
  iapply (wp_load_rect 𝒱₀ (c : Thread nD τ) none Set.univ (m := (Memref.whole cc0_stg3_0 : Memref sig .tc .vmem S64x128 .i32)) (r := Rect.unit (s := S64x128) (k0_off2 c) S16x128.size (k0_off2_inb c)) (f := fa) (S := (oaM c).view.set) (own_oa_set c).subset) $$ Hoa
  iintro Hoa
  iapply (wp_store 𝒱₀ (c : Thread nD τ) none Set.univ (m := (Memref.whole cc0_stg3_0 : Memref sig .tc .vmem S64x128 .i32)) (r := Rect.unit (s := S64x128) (k0_off2 c) S16x128.size (k0_off2_inb c)) (f := fa) (S := (oaM c).view.set) (own_oa_set c).subset) $$ Hoa
  iintro Hoa
  ihave Hoa := (Entails.of_eq (own_oa_land I c fa _ (pay2_eq I c))) $$ Hoa
  ihave Hx := ((x_split I c).mp) $$ Hx
  icases Hx with ⟨Hx0, Hx1, Hx2⟩
  ihave Ha := ((a_split I c).mp) $$ Ha
  icases Ha with ⟨Ha0, Ha1, Ha2⟩
  unfold agC0 agC1 agC2
  iapply (wp_sendx I K c 0 hd4 rfl rfl (((((D + tallyAt (dma (pr 2 c) 3 2) () NA) + tallyAt (dma (pr 2 c) 1 2) () NX) + tallyAt (dma (pr 1 c) 3 1) () NA) + tallyAt (dma (pr 1 c) 1 1) () NX) + tallyAt (dma (pr 0 c) 3 0) () NA) (insert (SemLoc.reg (bsem 0), ()) W)) $$ [HO Hx0 Hpx0 HtS0 HtX0]
  · isplitr; · iexact HI
    isplitl [Hx0]; · iexact Hx0
    isplitl [Hpx0]; · iexact Hpx0
    isplitl [HO]; · iexact HO
    isplitl [HtS0]; · iexact HtS0
    isplitr; · iexact HrS0
    isplitl [HtX0]; · iexact HtX0
    iexact HqX0
  iintro ⟨HcS0, HO⟩
  iapply (wp_senda I K c 0 hd5 rfl rfl ((((D + tallyAt (dma (pr 2 c) 3 2) () NA) + tallyAt (dma (pr 2 c) 1 2) () NX) + tallyAt (dma (pr 1 c) 3 1) () NA) + tallyAt (dma (pr 1 c) 1 1) () NX) (insert (SemLoc.reg (bsem 0), ()) W)) $$ [HO Ha0 Hpa0 HtT0 HtA0]
  · isplitr; · iexact HI
    isplitl [Ha0]; · iexact Ha0
    isplitl [Hpa0]; · iexact Hpa0
    isplitl [HO]; · iexact HO
    isplitl [HtT0]; · iexact HtT0
    isplitr; · iexact HrT0
    isplitl [HtA0]; · iexact HtA0
    iexact HqA0
  iintro ⟨HcT0, HO⟩
  iapply (wp_sendx I K c 1 hd6 rfl rfl (((D + tallyAt (dma (pr 2 c) 3 2) () NA) + tallyAt (dma (pr 2 c) 1 2) () NX) + tallyAt (dma (pr 1 c) 3 1) () NA) (insert (SemLoc.reg (bsem 0), ()) W)) $$ [HO Hx1 Hpx1 HtS1 HtX1]
  · isplitr; · iexact HI
    isplitl [Hx1]; · iexact Hx1
    isplitl [Hpx1]; · iexact Hpx1
    isplitl [HO]; · iexact HO
    isplitl [HtS1]; · iexact HtS1
    isplitr; · iexact HrS1
    isplitl [HtX1]; · iexact HtX1
    iexact HqX1
  iintro ⟨HcS1, HO⟩
  iapply (wp_senda I K c 1 hd7 rfl rfl ((D + tallyAt (dma (pr 2 c) 3 2) () NA) + tallyAt (dma (pr 2 c) 1 2) () NX) (insert (SemLoc.reg (bsem 0), ()) W)) $$ [HO Ha1 Hpa1 HtT1 HtA1]
  · isplitr; · iexact HI
    isplitl [Ha1]; · iexact Ha1
    isplitl [Hpa1]; · iexact Hpa1
    isplitl [HO]; · iexact HO
    isplitl [HtT1]; · iexact HtT1
    isplitr; · iexact HrT1
    isplitl [HtA1]; · iexact HtA1
    iexact HqA1
  iintro ⟨HcT1, HO⟩
  iapply (wp_sendx I K c 2 hd8 rfl rfl (D + tallyAt (dma (pr 2 c) 3 2) () NA) (insert (SemLoc.reg (bsem 0), ()) W)) $$ [HO Hx2 Hpx2 HtS2 HtX2]
  · isplitr; · iexact HI
    isplitl [Hx2]; · iexact Hx2
    isplitl [Hpx2]; · iexact Hpx2
    isplitl [HO]; · iexact HO
    isplitl [HtS2]; · iexact HtS2
    isplitr; · iexact HrS2
    isplitl [HtX2]; · iexact HtX2
    iexact HqX2
  iintro ⟨HcS2, HO⟩
  iapply (wp_senda I K c 2 hd9 rfl rfl D (insert (SemLoc.reg (bsem 0), ()) W)) $$ [HO Ha2 Hpa2 HtT2 HtA2]
  · isplitr; · iexact HI
    isplitl [Ha2]; · iexact Ha2
    isplitl [Hpa2]; · iexact Hpa2
    isplitl [HO]; · iexact HO
    isplitl [HtT2]; · iexact HtT2
    isplitr; · iexact HrT2
    isplitl [HtA2]; · iexact HtA2
    iexact HqA2
  iintro ⟨HcT2, HO⟩
  iapply (wp_dwait I K 0 0 c rfl (wpE_waitDma2_eq (dst := xM) 𝒱₀ (c : Thread nD τ) none Set.univ) rfl D 2 (by decide) hD (insert (SemLoc.reg (bsem 0), ()) W)) $$ [HO HcS0 HaS0]
  · isplitr; · iexact HI
    isplitr; · iexact Hl
    isplitl [HcS0]; · iexact HcS0
    isplitl [HO]; · iexact HO
    iexact HaS0
  iintro ⟨HO, HaS0, Hx0⟩
  ihave Hx0 := (show dmaPay I c 0 0 ⊢ xPts I c 0 from Entails.of_eq rfl) $$ Hx0
  iapply (wp_dwait I K 1 0 c rfl (wpE_waitDma2_eq (dst := oxM c) 𝒱₀ (c : Thread nD τ) none Set.univ) rfl D 2 (by decide) hD (insert (SemLoc.dma (dsem 0 0), ()) (insert (SemLoc.reg (bsem 0), ()) W))) $$ [HO HcX0 HaX0]
  · isplitr; · iexact HI
    isplitr; · iexact Hl
    isplitl [HcX0]; · iexact HcX0
    isplitl [HO]; · iexact HO
    iexact HaX0
  iintro ⟨HO, HaX0, Hox2⟩
  ihave Hox2 := (show dmaPay I c 1 0 ⊢ oxPts c (pr 2 c) (agx I) from Entails.of_eq rfl) $$ Hox2
  iapply (wp_dwait I K 2 0 c rfl (wpE_waitDma2_eq (dst := aM) 𝒱₀ (c : Thread nD τ) none Set.univ) rfl D 2 (by decide) hD (insert (SemLoc.dma (dsem 1 0), ()) (insert (SemLoc.dma (dsem 0 0), ()) (insert (SemLoc.reg (bsem 0), ()) W)))) $$ [HO HcT0 HaT0]
  · isplitr; · iexact HI
    isplitr; · iexact Hl
    isplitl [HcT0]; · iexact HcT0
    isplitl [HO]; · iexact HO
    iexact HaT0
  iintro ⟨HO, HaT0, Ha0⟩
  ihave Ha0 := (show dmaPay I c 2 0 ⊢ aPts I c 0 from Entails.of_eq rfl) $$ Ha0
  iapply (wp_dwait I K 3 0 c rfl (wpE_waitDma2_eq (dst := oaM c) 𝒱₀ (c : Thread nD τ) none Set.univ) rfl D 2 (by decide) hD (insert (SemLoc.dma (dsem 2 0), ()) (insert (SemLoc.dma (dsem 1 0), ()) (insert (SemLoc.dma (dsem 0 0), ()) (insert (SemLoc.reg (bsem 0), ()) W))))) $$ [HO HcA0 HaA0]
  · isplitr; · iexact HI
    isplitr; · iexact Hl
    isplitl [HcA0]; · iexact HcA0
    isplitl [HO]; · iexact HO
    iexact HaA0
  iintro ⟨HO, HaA0, Hoa2⟩
  ihave Hoa2 := (show dmaPay I c 3 0 ⊢ oaPts c (pr 2 c) (aga I) from Entails.of_eq rfl) $$ Hoa2
  iapply (wp_dwait I K 0 1 c rfl (wpE_waitDma2_eq (dst := xM) 𝒱₀ (c : Thread nD τ) none Set.univ) rfl D 2 (by decide) hD (insert (SemLoc.dma (dsem 3 0), ()) (insert (SemLoc.dma (dsem 2 0), ()) (insert (SemLoc.dma (dsem 1 0), ()) (insert (SemLoc.dma (dsem 0 0), ()) (insert (SemLoc.reg (bsem 0), ()) W)))))) $$ [HO HcS1 HaS1]
  · isplitr; · iexact HI
    isplitr; · iexact Hl
    isplitl [HcS1]; · iexact HcS1
    isplitl [HO]; · iexact HO
    iexact HaS1
  iintro ⟨HO, HaS1, Hx1⟩
  ihave Hx1 := (show dmaPay I c 0 1 ⊢ xPts I c 1 from Entails.of_eq rfl) $$ Hx1
  iapply (wp_dwait I K 1 1 c rfl (wpE_waitDma2_eq (dst := oxM c) 𝒱₀ (c : Thread nD τ) none Set.univ) rfl D 2 (by decide) hD (insert (SemLoc.dma (dsem 0 1), ()) (insert (SemLoc.dma (dsem 3 0), ()) (insert (SemLoc.dma (dsem 2 0), ()) (insert (SemLoc.dma (dsem 1 0), ()) (insert (SemLoc.dma (dsem 0 0), ()) (insert (SemLoc.reg (bsem 0), ()) W))))))) $$ [HO HcX1 HaX1]
  · isplitr; · iexact HI
    isplitr; · iexact Hl
    isplitl [HcX1]; · iexact HcX1
    isplitl [HO]; · iexact HO
    iexact HaX1
  iintro ⟨HO, HaX1, Hox1⟩
  ihave Hox1 := (show dmaPay I c 1 1 ⊢ oxPts c (pr 1 c) (agx I) from Entails.of_eq rfl) $$ Hox1
  iapply (wp_dwait I K 2 1 c rfl (wpE_waitDma2_eq (dst := aM) 𝒱₀ (c : Thread nD τ) none Set.univ) rfl D 2 (by decide) hD (insert (SemLoc.dma (dsem 1 1), ()) (insert (SemLoc.dma (dsem 0 1), ()) (insert (SemLoc.dma (dsem 3 0), ()) (insert (SemLoc.dma (dsem 2 0), ()) (insert (SemLoc.dma (dsem 1 0), ()) (insert (SemLoc.dma (dsem 0 0), ()) (insert (SemLoc.reg (bsem 0), ()) W)))))))) $$ [HO HcT1 HaT1]
  · isplitr; · iexact HI
    isplitr; · iexact Hl
    isplitl [HcT1]; · iexact HcT1
    isplitl [HO]; · iexact HO
    iexact HaT1
  iintro ⟨HO, HaT1, Ha1⟩
  ihave Ha1 := (show dmaPay I c 2 1 ⊢ aPts I c 1 from Entails.of_eq rfl) $$ Ha1
  iapply (wp_dwait I K 3 1 c rfl (wpE_waitDma2_eq (dst := oaM c) 𝒱₀ (c : Thread nD τ) none Set.univ) rfl D 2 (by decide) hD (insert (SemLoc.dma (dsem 2 1), ()) (insert (SemLoc.dma (dsem 1 1), ()) (insert (SemLoc.dma (dsem 0 1), ()) (insert (SemLoc.dma (dsem 3 0), ()) (insert (SemLoc.dma (dsem 2 0), ()) (insert (SemLoc.dma (dsem 1 0), ()) (insert (SemLoc.dma (dsem 0 0), ()) (insert (SemLoc.reg (bsem 0), ()) W))))))))) $$ [HO HcA1 HaA1]
  · isplitr; · iexact HI
    isplitr; · iexact Hl
    isplitl [HcA1]; · iexact HcA1
    isplitl [HO]; · iexact HO
    iexact HaA1
  iintro ⟨HO, HaA1, Hoa1⟩
  ihave Hoa1 := (show dmaPay I c 3 1 ⊢ oaPts c (pr 1 c) (aga I) from Entails.of_eq rfl) $$ Hoa1
  iapply (wp_dwait I K 0 2 c rfl (wpE_waitDma2_eq (dst := xM) 𝒱₀ (c : Thread nD τ) none Set.univ) rfl D 2 (by decide) hD (insert (SemLoc.dma (dsem 3 1), ()) (insert (SemLoc.dma (dsem 2 1), ()) (insert (SemLoc.dma (dsem 1 1), ()) (insert (SemLoc.dma (dsem 0 1), ()) (insert (SemLoc.dma (dsem 3 0), ()) (insert (SemLoc.dma (dsem 2 0), ()) (insert (SemLoc.dma (dsem 1 0), ()) (insert (SemLoc.dma (dsem 0 0), ()) (insert (SemLoc.reg (bsem 0), ()) W)))))))))) $$ [HO HcS2 HaS2]
  · isplitr; · iexact HI
    isplitr; · iexact Hl
    isplitl [HcS2]; · iexact HcS2
    isplitl [HO]; · iexact HO
    iexact HaS2
  iintro ⟨HO, HaS2, Hx2⟩
  ihave Hx2 := (show dmaPay I c 0 2 ⊢ xPts I c 2 from Entails.of_eq rfl) $$ Hx2
  iapply (wp_dwait I K 1 2 c rfl (wpE_waitDma2_eq (dst := oxM c) 𝒱₀ (c : Thread nD τ) none Set.univ) rfl D 2 (by decide) hD (insert (SemLoc.dma (dsem 0 2), ()) (insert (SemLoc.dma (dsem 3 1), ()) (insert (SemLoc.dma (dsem 2 1), ()) (insert (SemLoc.dma (dsem 1 1), ()) (insert (SemLoc.dma (dsem 0 1), ()) (insert (SemLoc.dma (dsem 3 0), ()) (insert (SemLoc.dma (dsem 2 0), ()) (insert (SemLoc.dma (dsem 1 0), ()) (insert (SemLoc.dma (dsem 0 0), ()) (insert (SemLoc.reg (bsem 0), ()) W))))))))))) $$ [HO HcX2 HaX2]
  · isplitr; · iexact HI
    isplitr; · iexact Hl
    isplitl [HcX2]; · iexact HcX2
    isplitl [HO]; · iexact HO
    iexact HaX2
  iintro ⟨HO, HaX2, Hox0⟩
  ihave Hox0 := (show dmaPay I c 1 2 ⊢ oxPts c (pr 0 c) (agx I) from Entails.of_eq rfl) $$ Hox0
  iapply (wp_dwait I K 2 2 c rfl (wpE_waitDma2_eq (dst := aM) 𝒱₀ (c : Thread nD τ) none Set.univ) rfl D 2 (by decide) hD (insert (SemLoc.dma (dsem 1 2), ()) (insert (SemLoc.dma (dsem 0 2), ()) (insert (SemLoc.dma (dsem 3 1), ()) (insert (SemLoc.dma (dsem 2 1), ()) (insert (SemLoc.dma (dsem 1 1), ()) (insert (SemLoc.dma (dsem 0 1), ()) (insert (SemLoc.dma (dsem 3 0), ()) (insert (SemLoc.dma (dsem 2 0), ()) (insert (SemLoc.dma (dsem 1 0), ()) (insert (SemLoc.dma (dsem 0 0), ()) (insert (SemLoc.reg (bsem 0), ()) W)))))))))))) $$ [HO HcT2 HaT2]
  · isplitr; · iexact HI
    isplitr; · iexact Hl
    isplitl [HcT2]; · iexact HcT2
    isplitl [HO]; · iexact HO
    iexact HaT2
  iintro ⟨HO, HaT2, Ha2⟩
  ihave Ha2 := (show dmaPay I c 2 2 ⊢ aPts I c 2 from Entails.of_eq rfl) $$ Ha2
  iapply (wp_dwait I K 3 2 c rfl (wpE_waitDma2_eq (dst := oaM c) 𝒱₀ (c : Thread nD τ) none Set.univ) rfl D 2 (by decide) hD (insert (SemLoc.dma (dsem 2 2), ()) (insert (SemLoc.dma (dsem 1 2), ()) (insert (SemLoc.dma (dsem 0 2), ()) (insert (SemLoc.dma (dsem 3 1), ()) (insert (SemLoc.dma (dsem 2 1), ()) (insert (SemLoc.dma (dsem 1 1), ()) (insert (SemLoc.dma (dsem 0 1), ()) (insert (SemLoc.dma (dsem 3 0), ()) (insert (SemLoc.dma (dsem 2 0), ()) (insert (SemLoc.dma (dsem 1 0), ()) (insert (SemLoc.dma (dsem 0 0), ()) (insert (SemLoc.reg (bsem 0), ()) W))))))))))))) $$ [HO HcA2 HaA2]
  · isplitr; · iexact HI
    isplitr; · iexact Hl
    isplitl [HcA2]; · iexact HcA2
    isplitl [HO]; · iexact HO
    iexact HaA2
  iintro ⟨HO, HaA2, Hoa0⟩
  ihave Hoa0 := (show dmaPay I c 3 2 ⊢ oaPts c (pr 0 c) (aga I) from Entails.of_eq rfl) $$ Hoa0
  rw [wp_ret]
  imod (close I K c (.inl 0)) $$ [HaB] with HsB
  · isplitr; · iexact HI
    iexact HaB
  imod (agClose I K c 0) $$ [HaS0 HaX0 HaT0 HaA0] with Hs0
  · unfold agAt
    isplitr; · iexact HI
    isplitl [HaS0]; · iexact HaS0
    isplitl [HaX0]; · iexact HaX0
    isplitl [HaT0]; · iexact HaT0
    iexact HaA0
  imod (agClose I K c 1) $$ [HaS1 HaX1 HaT1 HaA1] with Hs1
  · unfold agAt
    isplitr; · iexact HI
    isplitl [HaS1]; · iexact HaS1
    isplitl [HaX1]; · iexact HaX1
    isplitl [HaT1]; · iexact HaT1
    iexact HaA1
  imod (agClose I K c 2) $$ [HaS2 HaX2 HaT2 HaA2] with Hs2
  · unfold agAt
    isplitr; · iexact HI
    isplitl [HaS2]; · iexact HaS2
    isplitl [HaX2]; · iexact HaX2
    isplitl [HaT2]; · iexact HaT2
    iexact HaA2
  imodintro
  iapply Hk
  unfold agPost
  isplitl [HsB]; · iexact HsB
  isplitl [Hs0 Hs1 Hs2]
  · isplitl [Hs0]; · iexact Hs0
    isplitl [Hs1]; · iexact Hs1
    iexact Hs2
  isplitl [Hx0 Hx1 Hx2]
  · iapply ((x_split I c).mpr)
    isplitl [Hx0]; · iexact Hx0
    isplitl [Hx1]; · iexact Hx1
    iexact Hx2
  isplitl [Ha0 Ha1 Ha2]
  · iapply ((a_split I c).mpr)
    isplitl [Ha0]; · iexact Ha0
    isplitl [Ha1]; · iexact Ha1
    iexact Ha2
  isplitl [Hox Hox0 Hox1 Hox2]
  · iapply (Entails.of_eq (ox_split c (agx I)).symm)
    isplitl [Hox]; · iexact Hox
    isplitl [Hox0]; · iexact Hox0
    isplitl [Hox1]; · iexact Hox1
    iexact Hox2
  isplitl [Hoa Hoa0 Hoa1 Hoa2]
  · iapply (Entails.of_eq (oa_split c (aga I)).symm)
    isplitl [Hoa]; · iexact Hoa
    isplitl [Hoa0]; · iexact Hoa0
    isplitl [Hoa1]; · iexact Hoa1
    iexact Hoa2
  iexists _; iexact HO

end Cert.MoeProof
-- ==== Proof.RsBody.lean ====
/-
  The scatter kernel's body, once, at device `c`.
-/
module

public import proofs.«01_k».proof.Proof.Steps

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3)

variable {F : FTy → Type} [FloatOps F]

local notation "𝕄" => MT nD τ sig Unit (Elt F) ℕ UU ℕ

variable (I : Inp F) (K : GSem nD τ sig → ℕ)

/-! ## What a device holds for its three peers -/

def rsAt (r : ℕ) (c : Dev nD) (j : Fin 3) : sProp (MT nD τ sig Unit (Elt F) ℕ UU ℕ) :=
  iprop(atPos ER (dma c 4 j) r ∅ 0 ∗ atPos ER (dma c 5 j) r ∅ 0)
def rsRch (c : Dev nD) (j : Fin 3) : sProp (MT nD τ sig Unit (Elt F) ℕ UU ℕ) :=
  iprop(reached ER (dma c 4 j) 0 ∗ reached ER (dma c 5 j) 0)
instance rsRch_persistent (c : Dev nD) (j : Fin 3) : BI.Persistent (rsRch c j : sProp 𝕄) := by unfold rsRch; infer_instance
def rsTok (c : Dev nD) (j : Fin 3) : sProp (MT nD τ sig Unit (Elt F) ℕ UU ℕ) :=
  iprop(dutyTok ER (bar (pr j c) 1) 0 j ∗ dutyTok ER (dma c 4 j) 0 0 ∗ dutyTok ER (dma (pr j c) 5 j) 0 0)
def rsCred (c : Dev nD) (j : Fin 3) : sProp (MT nD τ sig Unit (Elt F) ℕ UU ℕ) := cred (tallyAt (dma c 5 j) () NX)
def rsSem (c : Dev nD) (j : Fin 3) : sProp (MT nD τ sig Unit (Elt F) ℕ UU ℕ) :=
  iprop(semVal (dma c 4 j) 0 ∗ semVal (dma c 5 j) 0)

theorem rsClose (c : Dev nD) (j : Fin 3) : iprop(invs I K ∗ rsAt 1 c j) ⊢ (|={Set.univ}=> rsSem c j : sProp 𝕄) := by
  unfold rsAt rsSem
  iintro ⟨#HI, H0, H1⟩
  imod (close I K c (.inr (4, j))) $$ [H0] with H0
  · isplitr; · iexact HI
    iexact H0
  imod (close I K c (.inr (5, j))) $$ [H1] with H1
  · isplitr; · iexact HI
    iexact H1
  imodintro
  isplitl [H0]; · iexact H0
  iexact H1

/-- What `pr j c` hands device `c` with its signal. -/
def got1 (c : Dev nD) (j : Fin 3) : sProp (MT nD τ sig Unit (Elt F) ℕ UU ℕ) :=
  iprop((∃ f, slPts (pr j c) j f) ∗ reached ER (dma (pr j c) 5 j) 0)

theorem got1_all (c : Dev nD) :
    bigSep ((Rd I).duties (bar c 1) 0 \ ∅) (fun u => (Rd I).payload (bar c 1) 0 u)
      = iprop(got1 c 2 ∗ got1 c 1 ∗ got1 c 0) := rest_bar1 I c

/-- What device `c` hands `pr j c` with its signal. -/
theorem give1 (c : Dev nD) (j : Fin 3) (f : S3x2048x1024.Idx → Elt F .bf16) :
    iprop(slPts c j.rev f ∗ reached ER (dma c 5 j.rev) 0) ⊢ (Rd I).payload (bar (pr j c) 1) 0 j := by
  rw [payload_bar1]; unfold barPay1; rw [pr_rev']
  iintro ⟨Hx, Hr⟩
  isplitl [Hx]; · iexists f; iexact Hx
  iexact Hr

theorem slPts_0 (c : Dev nD) (f : S3x2048x1024.Idx → Elt F .bf16) :
    (slPts c 0 f : sProp 𝕄) = (slot0.view.loc (c : Thread nD τ) ↦[slot0.view.set]{fullShare} f) := rfl
theorem land0 (c : Dev nD) (f : S3x2048x1024.Idx → Elt F .bf16) : ∃ fd, (slPts (pr 0 c) 0 f : sProp 𝕄)
      ⊢ iprop((slot0.view.loc (pr 0 c : Thread nD τ) ↦[slot0.view.set]{fullShare} fd)
        ∗ ⌜(slot0.view.loc (pr 0 c : Thread nD τ) ↦[slot0.view.set]{fullShare} (slot0.view.write (Elt F) fd ((psM c 0).view.read (Elt F) (I.P c)) Finset.univ) : sProp 𝕄)
          ⊢ slPts (pr 0 c) 0 (cmb I (pr 0 c))⌝) := by
  refine ⟨f, ?_⟩
  iintro H
  isplitl [H]
  · ihave H := (Entails.of_eq (slPts_0 (pr 0 c) f)) $$ H
    iexact H
  · ipureintro; exact Entails.of_eq (slot0_land I c f)
theorem slPts_1 (c : Dev nD) (f : S3x2048x1024.Idx → Elt F .bf16) :
    (slPts c 1 f : sProp 𝕄) = (slot1.view.loc (c : Thread nD τ) ↦[slot1.view.set]{fullShare} f) := rfl
theorem land1 (c : Dev nD) (f : S3x2048x1024.Idx → Elt F .bf16) : ∃ fd, (slPts (pr 1 c) 1 f : sProp 𝕄)
      ⊢ iprop((slot1.view.loc (pr 1 c : Thread nD τ) ↦[slot1.view.set]{fullShare} fd)
        ∗ ⌜(slot1.view.loc (pr 1 c : Thread nD τ) ↦[slot1.view.set]{fullShare} (slot1.view.write (Elt F) fd ((psM c 1).view.read (Elt F) (I.P c)) Finset.univ) : sProp 𝕄)
          ⊢ slPts (pr 1 c) 1 (cmb I (pr 1 c))⌝) := by
  refine ⟨f, ?_⟩
  iintro H
  isplitl [H]
  · ihave H := (Entails.of_eq (slPts_1 (pr 1 c) f)) $$ H
    iexact H
  · ipureintro; exact Entails.of_eq (slot1_land I c f)
theorem slPts_2 (c : Dev nD) (f : S3x2048x1024.Idx → Elt F .bf16) :
    (slPts c 2 f : sProp 𝕄) = (slot2.view.loc (c : Thread nD τ) ↦[slot2.view.set]{fullShare} f) := rfl
theorem land2 (c : Dev nD) (f : S3x2048x1024.Idx → Elt F .bf16) : ∃ fd, (slPts (pr 2 c) 2 f : sProp 𝕄)
      ⊢ iprop((slot2.view.loc (pr 2 c : Thread nD τ) ↦[slot2.view.set]{fullShare} fd)
        ∗ ⌜(slot2.view.loc (pr 2 c : Thread nD τ) ↦[slot2.view.set]{fullShare} (slot2.view.write (Elt F) fd ((psM c 2).view.read (Elt F) (I.P c)) Finset.univ) : sProp 𝕄)
          ⊢ slPts (pr 2 c) 2 (cmb I (pr 2 c))⌝) := by
  refine ⟨f, ?_⟩
  iintro H
  isplitl [H]
  · ihave H := (Entails.of_eq (slPts_2 (pr 2 c) f)) $$ H
    iexact H
  · ipureintro; exact Entails.of_eq (slot2_land I c f)

/-! ## The sum -/

/-- The device's own block and the three that landed, added up in this order. -/
def rsOut (c : Dev nD) : S2048x1024.Idx → Elt F .f32 :=
  k1_pay1 (F := F) (k1_pay2 (F := F)
    (((Memref.whole cc1_stg0_0 : Memref sig .tc .vmem S8192x1024 .bf16).access (Rect.unit (s := S8192x1024) (k1_off2 c) S2048x1024.size (k1_off2_inb c))).read (Elt F) (I.P c))
    (((Memref.whole cc1_scratch0 : Memref sig .tc .vmem S3x2048x1024 .bf16).access (Rect.unit (s := S3x2048x1024) ![0, 0, 0] S1x2048x1024.size inb_S3x2048x1024_S1x2048x1024_0_0_0)).read (Elt F) (cmb I c)))
    (((Memref.whole cc1_scratch0 : Memref sig .tc .vmem S3x2048x1024 .bf16).access (Rect.unit (s := S3x2048x1024) ![1, 0, 0] S1x2048x1024.size inb_S3x2048x1024_S1x2048x1024_1_0_0)).read (Elt F) (cmb I c))
    (((Memref.whole cc1_scratch0 : Memref sig .tc .vmem S3x2048x1024 .bf16).access (Rect.unit (s := S3x2048x1024) ![2, 0, 0] S1x2048x1024.size inb_S3x2048x1024_S1x2048x1024_2_0_0)).read (Elt F) (cmb I c))

theorem out_land (fd w : S2048x1024.Idx → Elt F .f32) :
    ((Memref.whole cc1_stg1_0 : Memref sig .tc .vmem S2048x1024 .f32).access (Rect.unit (s := S2048x1024) ![0, 0] S2048x1024.size inb_S2048x1024_S2048x1024_0_0)).write (Elt F) fd w Finset.univ = w := by
  have hemb : ∀ x : S2048x1024.Idx, (Rect.unit (s := S2048x1024) ![0, 0] S2048x1024.size inb_S2048x1024_S2048x1024_0_0).emb x = x := by
    intro x; funext a; refine Fin.ext ?_
    match a with
    | 0 => show 0 + 1 * (x 0).val = _; omega
    | 1 => show 0 + 1 * (x 1).val = _; omega
  funext i
  have hi : i ∈ ((Memref.whole cc1_stg1_0 : Memref sig .tc .vmem S2048x1024 .f32).access (Rect.unit (s := S2048x1024) ![0, 0] S2048x1024.size inb_S2048x1024_S2048x1024_0_0)).set :=
    Finset.mem_map.mpr ⟨i, Finset.mem_univ _, hemb i⟩
  refine write_agrees ((Memref.whole cc1_stg1_0 : Memref sig .tc .vmem S2048x1024 .f32).access (Rect.unit (s := S2048x1024) ![0, 0] S2048x1024.size inb_S2048x1024_S2048x1024_0_0)) fd w w (fun x => ?_) i hi
  show w ((Rect.unit (s := S2048x1024) ![0, 0] S2048x1024.size inb_S2048x1024_S2048x1024_0_0).emb x) = w x
  rw [hemb]

/-! ## The run -/

def rsPre (c : Dev nD) (W : Waits sig Unit) : sProp 𝕄 :=
  iprop(invs I K ∗ rbars ∗ levAts L lv
    ∗ atPos ER (bar c 1) 0 ∅ 0 ∗ cred (tallyAt (bar c 1) () 3)
    ∗ (rsAt 0 c 0 ∗ rsAt 0 c 1 ∗ rsAt 0 c 2) ∗ (rsRch c 0 ∗ rsRch c 1 ∗ rsRch c 2)
    ∗ (rsTok c 0 ∗ rsTok c 1 ∗ rsTok c 2) ∗ (rsCred c 0 ∗ rsCred c 1 ∗ rsCred c 2)
    ∗ ((c : Thread nD τ).loc cc1_stg0_0 ↦{fullShare} (I.P c))
    ∗ (∃ f, (c : Thread nD τ).loc cc1_stg1_0 ↦{fullShare} f) ∗ (∃ f, (c : Thread nD τ).loc cc1_scratch0 ↦{fullShare} f)
    ∗ owes (c : Thread nD τ) (rsO c) W)

def rsPost (c : Dev nD) : sProp 𝕄 :=
  iprop(semVal (bar c 1) 0 ∗ (rsSem c 0 ∗ rsSem c 1 ∗ rsSem c 2)
    ∗ ((c : Thread nD τ).loc cc1_stg0_0 ↦{fullShare} (I.P c)) ∗ ((c : Thread nD τ).loc cc1_stg1_0 ↦{fullShare} (rsOut I c))
    ∗ (∃ f, (c : Thread nD τ).loc cc1_scratch0 ↦{fullShare} f)
    ∗ ∃ W, owes (c : Thread nD τ) (0 : CellTallies nD τ sig Unit) W)

abbrev rsProg : Prog (TpuEff nD τ sig (Elt F) Λ₀ .tc) PUnit :=
  cc1__rs_body (F := F) (Memref.whole cc1_stg0_0) (Memref.isWhole_whole _) (Memref.whole main_v2_1) (Memref.isWhole_whole _)
    (Memref.whole cc1_stg1_0) (Memref.isWhole_whole _) (Memref.whole cc1_scratch0) (Memref.isWhole_whole _)
    cc1_scratch1 cc1_scratch2

set_option maxHeartbeats 4000000 in
theorem rsRun (c : Dev nD) (W : Waits sig Unit) (Kt : PUnit → sProp 𝕄) :
    iprop(rsPre I K c W ∗ (rsPost I c -∗ Kt ⟨⟩))
      ⊢ wp frame (wpE (defs₀ (F := F)) 𝒱₀ (c : Thread nD τ) none) Set.univ (rsProg (F := F)) Kt := by
  have hd1 : (⟨k1_dev1 c, k1_dev1_lt c⟩ : Dev nD) = pr 0 c := by revert c; decide
  have hd2 : (⟨k1_dev2 c, k1_dev2_lt c⟩ : Dev nD) = pr 1 c := by revert c; decide
  have hd3 : (⟨k1_dev3 c, k1_dev3_lt c⟩ : Dev nD) = pr 2 c := by revert c; decide
  have hd4 : (⟨k1_dev4 c, k1_dev4_lt c⟩ : Dev nD) = pr 0 c := by revert c; decide
  have hd5 : (⟨k1_dev5 c, k1_dev5_lt c⟩ : Dev nD) = pr 1 c := by revert c; decide
  have hd6 : (⟨k1_dev6 c, k1_dev6_lt c⟩ : Dev nD) = pr 2 c := by revert c; decide
  unfold rsProg
  rw [cc1__rs_body_eq_skeleton]
  unfold cc1__rs_body_skel
  rw [k1_part1_eq_skeleton, k1_part2_eq_skeleton, k1_part3_eq_skeleton, k1_part4_eq_skeleton, k1_part5_eq_skeleton]
  unfold k1_part1_skel k1_part2_skel k1_part3_skel k1_part4_skel k1_part5_skel
  simp only [semSignalWord, semWaitWord, Prog.lift, Prog.bind_op, Prog.bind_ret, Prog.pure_eq_ret, wp_deviceId]
  unfold rsPre rsAt rsRch rsTok rsCred
  iintro ⟨⟨#HI, #HR, #Hl, HaB, HcB,
    ⟨⟨HaS0, HaX0⟩, ⟨HaS1, HaX1⟩, HaS2, HaX2⟩,
    ⟨⟨#HrS0, #HrX0⟩, ⟨#HrS1, #HrX1⟩, #HrS2, #HrX2⟩,
    ⟨⟨HtB0, HtS0, HtX0⟩, ⟨HtB1, HtS1, HtX1⟩, HtB2, HtS2, HtX2⟩,
    ⟨HcX0, HcX1, HcX2⟩,
    Hp, ⟨%fo, Hout⟩, ⟨%fs, Hs⟩, HO⟩, Hk⟩
  ihave Hp := (Entails.of_eq (ps_split I c)) $$ Hp
  icases Hp with ⟨Hp, Hp0, Hp1, Hp2⟩
  ihave Hs := (Entails.of_eq (slot_split c fs)) $$ Hs
  icases Hs with ⟨Hs0, Hs1, Hs2⟩
  unfold rsO sigs
  iapply (wp_sig I K 1 c 0 hd1 rfl rfl (rsC c + tallyAt (bar (pr 2 c) 1) () 1 + tallyAt (bar (pr 1 c) 1) () 1) (W := W)) $$ [HO HtB0 Hs2]
  · isplitr; · iexact HI
    isplitr; · iexact HR
    isplitl [HO]; · iexact HO
    isplitl [HtB0]; · iexact HtB0
    iapply (give1 I c 0 fs)
    isplitl [Hs2]; · iexact Hs2
    iexact HrX2
  iintro HO
  iapply (wp_sig I K 1 c 1 hd2 rfl rfl (rsC c + tallyAt (bar (pr 2 c) 1) () 1) (W := W)) $$ [HO HtB1 Hs1]
  · isplitr; · iexact HI
    isplitr; · iexact HR
    isplitl [HO]; · iexact HO
    isplitl [HtB1]; · iexact HtB1
    iapply (give1 I c 1 fs)
    isplitl [Hs1]; · iexact Hs1
    iexact HrX1
  iintro HO
  iapply (wp_sig I K 1 c 2 hd3 rfl rfl (rsC c) (W := W)) $$ [HO HtB2 Hs0]
  · isplitr; · iexact HI
    isplitr; · iexact HR
    isplitl [HO]; · iexact HO
    isplitl [HtB2]; · iexact HtB2
    iapply (give1 I c 2 fs)
    isplitl [Hs0]; · iexact Hs0
    iexact HrX0
  iintro HO
  iapply (wp_bwait I K 1 c rfl rfl (rsC c) 3 (le_refl 3) (above_rsC c) W) $$ [HO HcB HaB]
  · isplitr; · iexact HI
    isplitr; · iexact Hl
    isplitl [HcB]; · iexact HcB
    isplitl [HO]; · iexact HO
    iexact HaB
  iintro ⟨HO, HaB, Hq⟩
  ihave Hq := (Entails.of_eq (got1_all I c)) $$ Hq
  unfold got1
  icases Hq with ⟨⟨Hq2, #HqX2⟩, ⟨Hq1, #HqX1⟩, Hq0, #HqX0⟩
  unfold rsC
  iapply (wp_sendp I K c 0 hd4 rfl rfl (sl := slot0) (fun _ => rfl) (land0 I c) ((0 + tallyAt (dma (pr 2 c) 5 2) () NX) + tallyAt (dma (pr 1 c) 5 1) () NX) (insert (SemLoc.reg (bsem 1), ()) W)) $$ [HO Hp0 Hq0 HtS0 HtX0]
  · isplitr; · iexact HI
    isplitl [Hp0]; · iexact Hp0
    isplitl [Hq0]; · iexact Hq0
    isplitl [HO]; · iexact HO
    isplitl [HtS0]; · iexact HtS0
    isplitr; · iexact HrS0
    isplitl [HtX0]; · iexact HtX0
    iexact HqX0
  iintro ⟨HcS0, HO⟩
  iapply (wp_sendp I K c 1 hd5 rfl rfl (sl := slot1) (fun _ => rfl) (land1 I c) (0 + tallyAt (dma (pr 2 c) 5 2) () NX) (insert (SemLoc.reg (bsem 1), ()) W)) $$ [HO Hp1 Hq1 HtS1 HtX1]
  · isplitr; · iexact HI
    isplitl [Hp1]; · iexact Hp1
    isplitl [Hq1]; · iexact Hq1
    isplitl [HO]; · iexact HO
    isplitl [HtS1]; · iexact HtS1
    isplitr; · iexact HrS1
    isplitl [HtX1]; · iexact HtX1
    iexact HqX1
  iintro ⟨HcS1, HO⟩
  iapply (wp_sendp I K c 2 hd6 rfl rfl (sl := slot2) (fun _ => rfl) (land2 I c) 0 (insert (SemLoc.reg (bsem 1), ()) W)) $$ [HO Hp2 Hq2 HtS2 HtX2]
  · isplitr; · iexact HI
    isplitl [Hp2]; · iexact Hp2
    isplitl [Hq2]; · iexact Hq2
    isplitl [HO]; · iexact HO
    isplitl [HtS2]; · iexact HtS2
    isplitr; · iexact HrS2
    isplitl [HtX2]; · iexact HtX2
    iexact HqX2
  iintro ⟨HcS2, HO⟩
  iapply (wp_dwait I K 4 0 c rfl (wpE_waitDma2_eq (dst := psM c 0) 𝒱₀ (c : Thread nD τ) none Set.univ) rfl 0 9 (by decide) (Above.zero 9) (insert (SemLoc.reg (bsem 1), ()) W)) $$ [HO HcS0 HaS0]
  · isplitr; · iexact HI
    isplitr; · iexact Hl
    isplitl [HcS0]; · iexact HcS0
    isplitl [HO]; · iexact HO
    iexact HaS0
  iintro ⟨HO, HaS0, Hp0⟩
  ihave Hp0 := (show dmaPay I c 4 0 ⊢ psPts I c 0 from Entails.of_eq rfl) $$ Hp0
  iapply (wp_dwait I K 5 0 c rfl (wpE_waitDma2_eq (dst := slot0) 𝒱₀ (c : Thread nD τ) none Set.univ) rfl 0 9 (by decide) (Above.zero 9) (insert (SemLoc.dma (dsem 4 0), ()) (insert (SemLoc.reg (bsem 1), ()) W))) $$ [HO HcX0 HaX0]
  · isplitr; · iexact HI
    isplitr; · iexact Hl
    isplitl [HcX0]; · iexact HcX0
    isplitl [HO]; · iexact HO
    iexact HaX0
  iintro ⟨HO, HaX0, Hs0⟩
  ihave Hs0 := (show dmaPay I c 5 0 ⊢ slPts c 0 (cmb I c) from Entails.of_eq rfl) $$ Hs0
  iapply (wp_dwait I K 4 1 c rfl (wpE_waitDma2_eq (dst := psM c 1) 𝒱₀ (c : Thread nD τ) none Set.univ) rfl 0 9 (by decide) (Above.zero 9) (insert (SemLoc.dma (dsem 5 0), ()) (insert (SemLoc.dma (dsem 4 0), ()) (insert (SemLoc.reg (bsem 1), ()) W)))) $$ [HO HcS1 HaS1]
  · isplitr; · iexact HI
    isplitr; · iexact Hl
    isplitl [HcS1]; · iexact HcS1
    isplitl [HO]; · iexact HO
    iexact HaS1
  iintro ⟨HO, HaS1, Hp1⟩
  ihave Hp1 := (show dmaPay I c 4 1 ⊢ psPts I c 1 from Entails.of_eq rfl) $$ Hp1
  iapply (wp_dwait I K 5 1 c rfl (wpE_waitDma2_eq (dst := slot1) 𝒱₀ (c : Thread nD τ) none Set.univ) rfl 0 9 (by decide) (Above.zero 9) (insert (SemLoc.dma (dsem 4 1), ()) (insert (SemLoc.dma (dsem 5 0), ()) (insert (SemLoc.dma (dsem 4 0), ()) (insert (SemLoc.reg (bsem 1), ()) W))))) $$ [HO HcX1 HaX1]
  · isplitr; · iexact HI
    isplitr; · iexact Hl
    isplitl [HcX1]; · iexact HcX1
    isplitl [HO]; · iexact HO
    iexact HaX1
  iintro ⟨HO, HaX1, Hs1⟩
  ihave Hs1 := (show dmaPay I c 5 1 ⊢ slPts c 1 (cmb I c) from Entails.of_eq rfl) $$ Hs1
  iapply (wp_dwait I K 4 2 c rfl (wpE_waitDma2_eq (dst := psM c 2) 𝒱₀ (c : Thread nD τ) none Set.univ) rfl 0 9 (by decide) (Above.zero 9) (insert (SemLoc.dma (dsem 5 1), ()) (insert (SemLoc.dma (dsem 4 1), ()) (insert (SemLoc.dma (dsem 5 0), ()) (insert (SemLoc.dma (dsem 4 0), ()) (insert (SemLoc.reg (bsem 1), ()) W)))))) $$ [HO HcS2 HaS2]
  · isplitr; · iexact HI
    isplitr; · iexact Hl
    isplitl [HcS2]; · iexact HcS2
    isplitl [HO]; · iexact HO
    iexact HaS2
  iintro ⟨HO, HaS2, Hp2⟩
  ihave Hp2 := (show dmaPay I c 4 2 ⊢ psPts I c 2 from Entails.of_eq rfl) $$ Hp2
  iapply (wp_dwait I K 5 2 c rfl (wpE_waitDma2_eq (dst := slot2) 𝒱₀ (c : Thread nD τ) none Set.univ) rfl 0 9 (by decide) (Above.zero 9) (insert (SemLoc.dma (dsem 4 2), ()) (insert (SemLoc.dma (dsem 5 1), ()) (insert (SemLoc.dma (dsem 4 1), ()) (insert (SemLoc.dma (dsem 5 0), ()) (insert (SemLoc.dma (dsem 4 0), ()) (insert (SemLoc.reg (bsem 1), ()) W))))))) $$ [HO HcX2 HaX2]
  · isplitr; · iexact HI
    isplitr; · iexact Hl
    isplitl [HcX2]; · iexact HcX2
    isplitl [HO]; · iexact HO
    iexact HaX2
  iintro ⟨HO, HaX2, Hs2⟩
  ihave Hs2 := (show dmaPay I c 5 2 ⊢ slPts c 2 (cmb I c) from Entails.of_eq rfl) $$ Hs2
  ihave Hp := (Entails.of_eq (ps_split I c).symm) $$ [Hp Hp0 Hp1 Hp2]
  · isplitl [Hp]; · iexact Hp
    isplitl [Hp0]; · iexact Hp0
    isplitl [Hp1]; · iexact Hp1
    iexact Hp2
  ihave Hs := (Entails.of_eq (slot_split c (cmb I c)).symm) $$ [Hs0 Hs1 Hs2]
  · isplitl [Hs0]; · iexact Hs0
    isplitl [Hs1]; · iexact Hs1
    iexact Hs2
  iapply (wp_load_rect 𝒱₀ (c : Thread nD τ) none Set.univ (m := (Memref.whole cc1_stg0_0 : Memref sig .tc .vmem S8192x1024 .bf16)) (r := Rect.unit (s := S8192x1024) (k1_off2 c) S2048x1024.size (k1_off2_inb c)) (f := I.P c) (S := Finset.univ) (Finset.subset_univ _)) $$ Hp
  iintro Hp
  iapply (wp_load_rect 𝒱₀ (c : Thread nD τ) none Set.univ (m := (Memref.whole cc1_scratch0 : Memref sig .tc .vmem S3x2048x1024 .bf16)) (r := Rect.unit (s := S3x2048x1024) ![0, 0, 0] S1x2048x1024.size inb_S3x2048x1024_S1x2048x1024_0_0_0) (f := cmb I c) (S := Finset.univ) (Finset.subset_univ _)) $$ Hs
  iintro Hs
  iapply (wp_load_rect 𝒱₀ (c : Thread nD τ) none Set.univ (m := (Memref.whole cc1_scratch0 : Memref sig .tc .vmem S3x2048x1024 .bf16)) (r := Rect.unit (s := S3x2048x1024) ![1, 0, 0] S1x2048x1024.size inb_S3x2048x1024_S1x2048x1024_1_0_0) (f := cmb I c) (S := Finset.univ) (Finset.subset_univ _)) $$ Hs
  iintro Hs
  iapply (wp_load_rect 𝒱₀ (c : Thread nD τ) none Set.univ (m := (Memref.whole cc1_scratch0 : Memref sig .tc .vmem S3x2048x1024 .bf16)) (r := Rect.unit (s := S3x2048x1024) ![2, 0, 0] S1x2048x1024.size inb_S3x2048x1024_S1x2048x1024_2_0_0) (f := cmb I c) (S := Finset.univ) (Finset.subset_univ _)) $$ Hs
  iintro Hs
  iapply (wp_load_rect 𝒱₀ (c : Thread nD τ) none Set.univ (m := (Memref.whole cc1_stg1_0 : Memref sig .tc .vmem S2048x1024 .f32)) (r := Rect.unit (s := S2048x1024) ![0, 0] S2048x1024.size inb_S2048x1024_S2048x1024_0_0) (f := fo) (S := Finset.univ) (Finset.subset_univ _)) $$ Hout
  iintro Hout
  iapply (wp_store 𝒱₀ (c : Thread nD τ) none Set.univ (m := (Memref.whole cc1_stg1_0 : Memref sig .tc .vmem S2048x1024 .f32)) (r := Rect.unit (s := S2048x1024) ![0, 0] S2048x1024.size inb_S2048x1024_S2048x1024_0_0) (f := fo) (S := Finset.univ) (Finset.subset_univ _)) $$ Hout
  iintro Hout
  rw [out_land]
  rw [wp_ret]
  imod (close I K c (.inl 1)) $$ [HaB] with HsB
  · isplitr; · iexact HI
    iexact HaB
  imod (rsClose I K c 0) $$ [HaS0 HaX0] with Hz0
  · unfold rsAt
    isplitr; · iexact HI
    isplitl [HaS0]; · iexact HaS0
    iexact HaX0
  imod (rsClose I K c 1) $$ [HaS1 HaX1] with Hz1
  · unfold rsAt
    isplitr; · iexact HI
    isplitl [HaS1]; · iexact HaS1
    iexact HaX1
  imod (rsClose I K c 2) $$ [HaS2 HaX2] with Hz2
  · unfold rsAt
    isplitr; · iexact HI
    isplitl [HaS2]; · iexact HaS2
    iexact HaX2
  imodintro
  iapply Hk
  unfold rsPost
  isplitl [HsB]; · iexact HsB
  isplitl [Hz0 Hz1 Hz2]
  · isplitl [Hz0]; · iexact Hz0
    isplitl [Hz1]; · iexact Hz1
    iexact Hz2
  isplitl [Hp]; · iexact Hp
  isplitl [Hout]; · iexact Hout
  isplitl [Hs]; · iexists _; iexact Hs
  iexists _; iexact HO

end Cert.MoeProof
-- ==== Proof.Regs.lean ====
/-
  The two calls as regions of the program: what each window holds before and after, and each body at its one point.
-/
module

public import proofs.«01_k».proof.Proof.AgBody
public import proofs.«01_k».proof.Proof.RsBody
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (V : Dev nD → Valuation τ sig (Elt F)) (I : Inp F)

/-! ## The regions' data -/

/-- What a device still needs of the gather's schedule before it is entered. -/
def tk0 (c : Dev nD) : sProp 𝕄 :=
  iprop(∃ K, invs I K ∗ rbars ∗ atPos ER (bar c 0) 0 ∅ 0 ∗ cred (tallyAt (bar c 0) () 3)
    ∗ (bigSep Finset.univ fun p : Fin 3 × Fin 4 => openTok ER (dma c (Fin.castLE (by decide) p.2) p.1))
    ∗ (agTok c 0 ∗ agTok c 1 ∗ agTok c 2) ∗ (agCred c 0 ∗ agCred c 1 ∗ agCred c 2))
def tk1 (c : Dev nD) : sProp 𝕄 :=
  iprop(∃ K, invs I K ∗ rbars ∗ atPos ER (bar c 1) 0 ∅ 0 ∗ cred (tallyAt (bar c 1) () 3)
    ∗ (bigSep Finset.univ fun p : Fin 3 × Fin 2 => openTok ER (dma c (Fin.natAdd 4 p.2) p.1))
    ∗ (rsTok c 0 ∗ rsTok c 1 ∗ rsTok c 2) ∗ (rsCred c 0 ∗ rsCred c 1 ∗ rsCred c 2))
/-- The same once its cells are open. -/
def xk0 (c : Dev nD) : sProp 𝕄 :=
  iprop(∃ K, invs I K ∗ rbars ∗ levAts L lv ∗ atPos ER (bar c 0) 0 ∅ 0 ∗ cred (tallyAt (bar c 0) () 3)
    ∗ (agAt 0 c 0 ∗ agAt 0 c 1 ∗ agAt 0 c 2) ∗ (agRch c 0 ∗ agRch c 1 ∗ agRch c 2)
    ∗ (agTok c 0 ∗ agTok c 1 ∗ agTok c 2) ∗ (agCred c 0 ∗ agCred c 1 ∗ agCred c 2))
def xk1 (c : Dev nD) : sProp 𝕄 :=
  iprop(∃ K, invs I K ∗ rbars ∗ levAts L lv ∗ atPos ER (bar c 1) 0 ∅ 0 ∗ cred (tallyAt (bar c 1) () 3)
    ∗ (rsAt 0 c 0 ∗ rsAt 0 c 1 ∗ rsAt 0 c 2) ∗ (rsRch c 0 ∗ rsRch c 1 ∗ rsRch c 2)
    ∗ (rsTok c 0 ∗ rsTok c 1 ∗ rsTok c 2) ∗ (rsCred c 0 ∗ rsCred c 1 ∗ rsCred c 2))

/-- A scoped buffer at contents not named. -/
abbrev some' (c : Dev nD) (b : Ref sig .tc) : sProp 𝕄 :=
  iprop(∃ f : Buf (Elt F) ((c : Thread nD τ).loc b), ((c : Thread nD τ).loc b) ↦{fullShare} f)
/-- The scoped buffers that the gather does not stage, and the generator's register. -/
def rest0 (c : Dev nD) : sProp 𝕄 :=
  iprop((some' c cc1_stg0_0 ∗ some' c cc1_stg1_0 ∗ some' c cc1_scratch0) ∗ ∃ r, prngReg c r)
/-- The scoped buffers that the scatter neither stages nor lands in, and the register. -/
def rest1 (c : Dev nD) : sProp 𝕄 :=
  iprop((some' c cc0_stg0_0 ∗ some' c cc0_stg1_0 ∗ some' c cc0_stg2_0 ∗ some' c cc0_stg3_0) ∗ ∃ r, prngReg c r)

def dat0 (c : Dev nD) : Dat τ (Elt F) Unit ℕ UU ℕ cfg0 c where
  A w := V c (Proc.devRef .tc (Pipeline.arrRef spec0 w))
  after w _ := match w with
    | 0 => I.X c
    | 1 => I.A c
    | 2 => agx I
    | 3 => aga I
  Φ t := if t.val = 0 then iprop(xk0 I c ∗ rest0 c) else iprop((semVal (bar c 0) 0 ∗ (agSem c 0 ∗ agSem c 1 ∗ agSem c 2)) ∗ rest0 c)
  q _ := fullShare
  owed t := if t.val = 0 then agO (rsO c) c else rsO c
def dat1 (c : Dev nD) : Dat τ (Elt F) Unit ℕ UU ℕ cfg1 c where
  A w := V c (Proc.devRef .tc (Pipeline.arrRef spec1 w))
  after w _ := match w with
    | 0 => I.P c
    | 1 => rsOut I c
  Φ t := if t.val = 0 then iprop((xk1 I c ∗ some' c cc1_scratch0) ∗ rest1 c)
    else iprop(((semVal (bar c 1) 0 ∗ (rsSem c 0 ∗ rsSem c 1 ∗ rsSem c 2)) ∗ some' c cc1_scratch0) ∗ rest1 c)
  q _ := fullShare
  owed t := if t.val = 0 then rsO c else 0

/-! ### Each window's block is its whole array -/

omit [FloatOps F] in
theorem blk0_0 (t : Fin grid0.N) (f : S2048x1024.Idx → Elt F .bf16) : (win0_0.blk t).view.read (Elt F) f = f := by
  obtain rfl := fin_N0 t
  funext y
  rw [View.read_apply]
  refine congrArg f (funext fun a => Fin.ext ?_)
  exact Pipeline.Window.rect_emb_val_of_index_zero win0_0 t0_0 a (by revert a; decide +kernel) y
omit [FloatOps F] in
theorem blk0_1 (t : Fin grid0.N) (f : S16x128.Idx → Elt F .i32) : (win0_1.blk t).view.read (Elt F) f = f := by
  obtain rfl := fin_N0 t
  funext y
  rw [View.read_apply]
  refine congrArg f (funext fun a => Fin.ext ?_)
  exact Pipeline.Window.rect_emb_val_of_index_zero win0_1 t0_0 a (by revert a; decide +kernel) y
omit [FloatOps F] in
theorem blk0_2 (t : Fin grid0.N) (f : S8192x1024.Idx → Elt F .bf16) : (win0_2.blk t).view.read (Elt F) f = f := by
  obtain rfl := fin_N0 t
  funext y
  rw [View.read_apply]
  refine congrArg f (funext fun a => Fin.ext ?_)
  exact Pipeline.Window.rect_emb_val_of_index_zero win0_2 t0_0 a (by revert a; decide +kernel) y
omit [FloatOps F] in
theorem blk0_3 (t : Fin grid0.N) (f : S64x128.Idx → Elt F .i32) : (win0_3.blk t).view.read (Elt F) f = f := by
  obtain rfl := fin_N0 t
  funext y
  rw [View.read_apply]
  refine congrArg f (funext fun a => Fin.ext ?_)
  exact Pipeline.Window.rect_emb_val_of_index_zero win0_3 t0_0 a (by revert a; decide +kernel) y
omit [FloatOps F] in
theorem blk1_0 (t : Fin grid1.N) (f : S8192x1024.Idx → Elt F .bf16) : (win1_0.blk t).view.read (Elt F) f = f := by
  obtain rfl := fin_N1 t
  funext y
  rw [View.read_apply]
  refine congrArg f (funext fun a => Fin.ext ?_)
  exact Pipeline.Window.rect_emb_val_of_index_zero win1_0 t1_0 a (by revert a; decide +kernel) y
omit [FloatOps F] in
theorem blk1_1 (t : Fin grid1.N) (f : S2048x1024.Idx → Elt F .f32) : (win1_1.blk t).view.read (Elt F) f = f := by
  obtain rfl := fin_N1 t
  funext y
  rw [View.read_apply]
  refine congrArg f (funext fun a => Fin.ext ?_)
  exact Pipeline.Window.rect_emb_val_of_index_zero win1_1 t1_0 a (by revert a; decide +kernel) y

theorem before0_0 (c : Dev nD) (d) (h : I.X c = V c main_arg0) : (dat0 V I c).before 0 t0_0 d = I.X c := by
  rw [h]
  unfold Dat.before
  rw [if_pos (fetch0_0 t0_0)]
  exact blk0_0 t0_0 (V c main_arg0)
theorem before0_1 (c : Dev nD) (d) (h : I.A c = V c main_v1) : (dat0 V I c).before 1 t0_0 d = I.A c := by
  rw [h]
  unfold Dat.before
  rw [if_pos (fetch0_1 t0_0)]
  exact blk0_1 t0_0 (V c main_v1)
theorem before1_0 (c : Dev nD) (d) (h : I.P c = V c main_v58) : (dat1 V I c).before 0 t1_0 d = I.P c := by
  rw [h]
  unfold Dat.before
  rw [if_pos (fetch1_0 t1_0)]
  exact (fun V : Valuation τ sig (Elt F) => show (win1_0.blk t1_0).view.read (Elt F) (V (Proc.devRef .tc (Pipeline.arrRef spec1 0))) = V main_v58
    from blk1_0 t1_0 (V main_v58)) (V c)

theorem arr0_0 (c : Dev nD) (n : ℕ) : (dat0 V I c).arrAt 0 n = V c main_arg0 := (dat0 V I c).arrAt_in 0 rfl _
theorem arr0_1 (c : Dev nD) (n : ℕ) : (dat0 V I c).arrAt 1 n = V c main_v1 := (dat0 V I c).arrAt_in 1 rfl _
theorem arr0_2 (c : Dev nD) : (dat0 V I c).arrAt 2 cfg0.N = agx I :=
  (dat0 V I c).arrAt_eq_of_cover 2 (agx I) (fun t _ => (blk0_2 t (agx I)).symm)
    (Pipeline.Window.Covers.cover (w := cfg0.win 2) (by decide +kernel) (Memref.isWhole_whole _))
theorem arr0_3 (c : Dev nD) : (dat0 V I c).arrAt 3 cfg0.N = aga I :=
  (dat0 V I c).arrAt_eq_of_cover 3 (aga I) (fun t _ => (blk0_3 t (aga I)).symm)
    (Pipeline.Window.Covers.cover (w := cfg0.win 3) (by decide +kernel) (Memref.isWhole_whole _))
theorem arr1_0 (c : Dev nD) (n : ℕ) : (dat1 V I c).arrAt 0 n = V c main_v58 := by
  rw [(dat1 V I c).arrAt_in 0 rfl n]
  exact (fun V : Valuation τ sig (Elt F) => show V (Proc.devRef .tc (Pipeline.arrRef spec1 0)) = V main_v58 from rfl) (V c)
theorem arr1_1 (c : Dev nD) : (dat1 V I c).arrAt 1 cfg1.N = rsOut I c :=
  (dat1 V I c).arrAt_eq_of_cover 1 (rsOut I c) (fun t _ => (blk1_1 t (rsOut I c)).symm)
    (Pipeline.Window.Covers.cover (w := cfg1.win 1) (by decide +kernel) (Memref.isWhole_whole _))

end Cert.MoeProof

end
-- ==== Proof.Outs.lean ====
/-
  The contents of the program's buffers between its items.
-/
module

public import proofs.«01_k».proof.Proof.AgBody
public import proofs.«01_k».proof.Proof.RsBody
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

/-! ## What the arrays hold -/

/-- The gather's inputs on every device; the scatter's left open. -/
def inp (P : Dev nD → S8192x1024.Idx → Elt F .bf16) : Inp F where
  X c := V1 m c main_arg0
  A c := V1 m c main_v1
  P := P

theorem agx_congr {I I' : Inp F} (h : I.X = I'.X) : agx I = agx I' := by
  unfold agx
  rw [h]
theorem aga_congr {I I' : Inp F} (h : I.A = I'.A) : aga I = aga I' := by
  unfold aga
  rw [h]

/-- The buffers of device `c` after the gather. -/
def mid (c : Dev nD) : Valuation τ sig (Elt F) :=
  Function.update (Function.update (V1 m c) main_v2_0 (agx (inp m fun c => V1 m c main_v58)))
    main_v2_1 (aga (inp m fun c => V1 m c main_v58))

/-- The host operations between the two calls. -/
def host (c : Dev nD) (V : Valuation τ sig (Elt F)) : Valuation τ sig (Elt F) :=
  StableHlo.after hostOps1_8 (StableHlo.after hostOps1_7 (StableHlo.after hostOps1_6 (StableHlo.after hostOps1_5
    (StableHlo.after hostOps1_4 (StableHlo.after hostOps1_3 (StableHlo.after hostOps1_2 (StableHlo.after hostOps1_1
      (StableHlo.after (hostOps1 c) V))))))))

/-- All inputs of the two calls. -/
def II : Inp F := inp m fun c => host c (mid m c) main_v58

theorem II_X (P : Dev nD → S8192x1024.Idx → Elt F .bf16) : (inp m P).X = (II m).X := by
  unfold II inp
  dsimp only
theorem II_A (P : Dev nD → S8192x1024.Idx → Elt F .bf16) : (inp m P).A = (II m).A := by
  unfold II inp
  dsimp only

/-- What the two calls leave in their results. -/
def outs : Outs (F := F) := fun J =>
  if J = 2 then
    Function.update (Function.update (fun r c => V1 m c r) main_v2_0 fun _ => agx (II m)) main_v2_1 fun _ => aga (II m)
  else
    Function.update (Function.update (fun r c => V1 m c r) main_v59 fun c => rsOut (II m) c) main_v2_1 fun _ => aga (II m)

theorem outs_x (c : Dev nD) : outs m 2 main_v2_0 c = agx (II m) := by
  unfold outs
  rw [if_pos rfl, Function.update_of_ne (by decide), Function.update_self]
theorem outs_a (c : Dev nD) : outs m 2 main_v2_1 c = aga (II m) := by
  unfold outs
  rw [if_pos rfl, Function.update_self]
theorem outs_o (c : Dev nD) : outs m 12 main_v59 c = rsOut (II m) c := by
  unfold outs
  rw [if_neg (by decide), Function.update_of_ne (by decide), Function.update_self]
theorem outs_a' (c : Dev nD) : outs m 12 main_v2_1 c = aga (II m) := by
  unfold outs
  rw [if_neg (by decide), Function.update_self]

theorem V2_eq (c : Dev nD) : V2 m (outs m) c = mid m c := by
  unfold V2 mid
  rw [outs_x, outs_a, agx_congr (II_X m _), aga_congr (II_A m _)]
theorem V11_eq (c : Dev nD) : V11 m (outs m) c = host c (mid m c) := by
  rw [← V2_eq]
  unfold host
  with_reducible rfl
theorem II_P (c : Dev nD) : (II m).P c = V11 m (outs m) c main_v58 := by
  rw [V11_eq]
  unfold II inp
  with_reducible rfl

theorem mid_x (c : Dev nD) : mid m c main_v2_0 = agx (II m) := by
  unfold mid
  rw [Function.update_of_ne (by decide), Function.update_self, agx_congr (II_X m _)]
theorem mid_a (c : Dev nD) : mid m c main_v2_1 = aga (II m) := by
  unfold mid
  rw [Function.update_self, aga_congr (II_A m _)]
theorem mid_of (c : Dev nD) (b : DevRef τ sig) (h0 : b ≠ Proc.devRef .tc main_v2_0) (h1 : b ≠ Proc.devRef .tc main_v2_1) :
    mid m c b = V1 m c b := by
  unfold mid
  rw [Function.update_of_ne h1, Function.update_of_ne h0]

/-- The scatter's second operand is what the gather left. -/
theorem V11_a (c : Dev nD) : V11 m (outs m) c main_v2_1 = aga (II m) := by
  rw [V11_of m _ c main_v2_1 (by decide), V10_of m _ c main_v2_1 (by decide), V9_of m _ c main_v2_1 (by decide),
    V8_of m _ c main_v2_1 (by decide), V7_of m _ c main_v2_1 (by decide), V6_of m _ c main_v2_1 (by decide),
    V5_of m _ c main_v2_1 (by decide), V4_of m _ c main_v2_1 (by decide), V3_of m _ c main_v2_1 (by decide)]
  rw [V2_eq, mid_a]

theorem V12_o (c : Dev nD) : V12 m (outs m) c main_v59 = rsOut (II m) c := by
  unfold V12
  rw [Function.update_of_ne (by decide), Function.update_self, outs_o]

end Cert.MoeProof

end
-- ==== Proof.Points.lean ====
/-
  Each body at the one point of its region, the opening of its cells, and the two region records.
-/
module

public import proofs.«01_k».proof.Proof.Regs
public import proofs.«01_k».proof.Proof.Outs

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (V : Dev nD → Valuation τ sig (Elt F)) (I : Inp F)

/-! ## What is owed at the point -/

theorem owes_in {cfg : Pipeline.Cfg sig Λ₀} {c : Dev nD} (dat : Dat τ (Elt F) Unit ℕ UU ℕ cfg c) (t : Fin (cfg.N + 1))
    (O : CellTallies nD τ sig Unit) (h : dat.owed t = O) (hr : dat.recorded t = Set.univ) (W : Waits sig Unit) :
    (owes (c : Thread nD τ) O W : sProp 𝕄) ⊢ (dat.owesAt () t : sProp 𝕄) := by
  unfold Dat.owesAt Pipeline.owesWithin Dat.bound
  rw [h, hr]
  iintro HO
  iexists W
  isplitr
  · ipureintro
    exact fun _ _ => Or.inl trivial
  iexact HO

theorem owes_out {cfg : Pipeline.Cfg sig Λ₀} {c : Dev nD} (dat : Dat τ (Elt F) Unit ℕ UU ℕ cfg c) (t : Fin (cfg.N + 1))
    (O : CellTallies nD τ sig Unit) (h : dat.owed t = O) :
    (dat.owesAt () t : sProp 𝕄) ⊢ iprop(∃ W, owes (c : Thread nD τ) O W) := by
  unfold Dat.owesAt Pipeline.owesWithin
  rw [h]
  iintro ⟨%W, -, HO⟩
  iexists W
  iexact HO

theorem owed0_first (c : Dev nD) : (dat0 V I c).owed t0_0.castSucc = agO (rsO c) c := by
  show (if (t0_0.castSucc : Fin (cfg0.N + 1)).val = 0 then agO (rsO c) c else rsO c) = _
  exact if_pos rfl
theorem owed0_last (c : Dev nD) : (dat0 V I c).owed t0_0.succ = rsO c := by
  show (if (t0_0.succ : Fin (cfg0.N + 1)).val = 0 then agO (rsO c) c else rsO c) = _
  exact if_neg (Nat.succ_ne_zero _)
theorem owed1_first (c : Dev nD) : (dat1 V I c).owed t1_0.castSucc = rsO c := by
  show (if (t1_0.castSucc : Fin (cfg1.N + 1)).val = 0 then rsO c else 0) = _
  exact if_pos rfl
theorem owed1_last (c : Dev nD) : (dat1 V I c).owed t1_0.succ = 0 := by
  show (if (t1_0.succ : Fin (cfg1.N + 1)).val = 0 then rsO c else 0) = _
  exact if_neg (Nat.succ_ne_zero _)
theorem phi0_first (c : Dev nD) : (dat0 V I c).Φ t0_0.castSucc = iprop(xk0 I c ∗ rest0 c) := rfl
theorem phi0_last (c : Dev nD) :
    (dat0 V I c).Φ t0_0.succ = iprop((semVal (bar c 0) 0 ∗ (agSem c 0 ∗ agSem c 1 ∗ agSem c 2)) ∗ rest0 c) := rfl
theorem phi1_first (c : Dev nD) : (dat1 V I c).Φ t1_0.castSucc = iprop((xk1 I c ∗ some' c cc1_scratch0) ∗ rest1 c) := rfl
theorem phi1_last (c : Dev nD) :
    (dat1 V I c).Φ t1_0.succ = iprop(((semVal (bar c 1) 0 ∗ (rsSem c 0 ∗ rsSem c 1 ∗ rsSem c 2)) ∗ some' c cc1_scratch0) ∗ rest1 c) := rfl

/-! ## The bodies -/

abbrev held0 (c : Dev nD) (b : Ref sig .tc) (X : b.ty.Contents (Elt F)) : sProp 𝕄 := ((c : Thread nD τ).loc b) ↦{fullShare} X

theorem bodyAt0_eq : bodyAt0 (F := F) t0_0 = agProg (F := F) := rfl
theorem bodyAt1_eq : bodyAt1 (F := F) t1_0 = rsProg (F := F) := rfl

/-- The gather's body between its point's staging buffers. -/
theorem point0 (c : Dev nD) (Kt : PUnit → sProp 𝕄) :
    iprop((xk0 I c ∗ rest0 c) ∗ (∃ W, owes (c : Thread nD τ) (agO (rsO c) c) W)
        ∗ held0 c cc0_stg0_0 (I.X c) ∗ held0 c cc0_stg1_0 (I.A c) ∗ some' c cc0_stg2_0 ∗ some' c cc0_stg3_0
        ∗ ((((semVal (bar c 0) 0 ∗ (agSem c 0 ∗ agSem c 1 ∗ agSem c 2)) ∗ rest0 c) ∗ (∃ W, owes (c : Thread nD τ) (rsO c) W)
          ∗ held0 c cc0_stg0_0 (I.X c) ∗ held0 c cc0_stg1_0 (I.A c) ∗ held0 c cc0_stg2_0 (agx I) ∗ held0 c cc0_stg3_0 (aga I)) -∗ Kt ⟨⟩))
      ⊢ wp frame (wpE (defs₀ (F := F)) 𝒱₀ (c : Thread nD τ) none) Set.univ (agProg (F := F)) Kt := by
  unfold xk0
  iintro ⟨⟨⟨%K, HI, HR, Hl, HaB, HcB, HA, HRch, HT, HC⟩, Hrest⟩, ⟨%W, HO⟩, Hx, Ha, Hox, Hoa, Hk⟩
  iapply (agRun I K (rsO c) (above_rsO c) c W Kt)
  isplitr [Hrest Hk]
  · unfold agPre
    isplitl [HI]; · iexact HI
    isplitl [HR]; · iexact HR
    isplitl [Hl]; · iexact Hl
    isplitl [HaB]; · iexact HaB
    isplitl [HcB]; · iexact HcB
    isplitl [HA]; · iexact HA
    isplitl [HRch]; · iexact HRch
    isplitl [HT]; · iexact HT
    isplitl [HC]; · iexact HC
    isplitl [Hx]; · iexact Hx
    isplitl [Ha]; · iexact Ha
    isplitl [Hox]; · iexact Hox
    isplitl [Hoa]; · iexact Hoa
    iexact HO
  unfold agPost
  iintro ⟨Hb, Hs, Hx, Ha, Hox, Hoa, HO⟩
  iapply Hk
  isplitl [Hb Hs Hrest]
  · isplitl [Hb Hs]
    · isplitl [Hb] <;> iassumption
    iexact Hrest
  isplitl [HO]; · iexact HO
  isplitl [Hx]; · iexact Hx
  isplitl [Ha]; · iexact Ha
  isplitl [Hox] <;> iassumption

/-- The scatter's. -/
theorem point1 (c : Dev nD) (Kt : PUnit → sProp 𝕄) :
    iprop(((xk1 I c ∗ some' c cc1_scratch0) ∗ rest1 c) ∗ (∃ W, owes (c : Thread nD τ) (rsO c) W)
        ∗ held0 c cc1_stg0_0 (I.P c) ∗ some' c cc1_stg1_0
        ∗ (((((semVal (bar c 1) 0 ∗ (rsSem c 0 ∗ rsSem c 1 ∗ rsSem c 2)) ∗ some' c cc1_scratch0) ∗ rest1 c)
          ∗ (∃ W, owes (c : Thread nD τ) (0 : CellTallies nD τ sig Unit) W)
          ∗ held0 c cc1_stg0_0 (I.P c) ∗ held0 c cc1_stg1_0 (rsOut I c)) -∗ Kt ⟨⟩))
      ⊢ wp frame (wpE (defs₀ (F := F)) 𝒱₀ (c : Thread nD τ) none) Set.univ (rsProg (F := F)) Kt := by
  unfold xk1
  iintro ⟨⟨⟨⟨%K, HI, HR, Hl, HaB, HcB, HA, HRch, HT, HC⟩, Hm⟩, Hrest⟩, ⟨%W, HO⟩, Hp, Ho, Hk⟩
  iapply (rsRun I K c W Kt)
  isplitr [Hrest Hk]
  · unfold rsPre
    isplitl [HI]; · iexact HI
    isplitl [HR]; · iexact HR
    isplitl [Hl]; · iexact Hl
    isplitl [HaB]; · iexact HaB
    isplitl [HcB]; · iexact HcB
    isplitl [HA]; · iexact HA
    isplitl [HRch]; · iexact HRch
    isplitl [HT]; · iexact HT
    isplitl [HC]; · iexact HC
    isplitl [Hp]; · iexact Hp
    isplitl [Ho]; · iexact Ho
    isplitl [Hm]; · iexact Hm
    iexact HO
  unfold rsPost
  iintro ⟨Hb, Hs, Hp, Ho, Hm, HO⟩
  iapply Hk
  isplitl [Hb Hs Hm Hrest]
  · isplitl [Hb Hs Hm]
    · isplitl [Hb Hs]
      · isplitl [Hb] <;> iassumption
      iexact Hm
    iexact Hrest
  isplitl [HO]; · iexact HO
  isplitl [Hp] <;> iassumption

theorem body0 (hX : ∀ c, I.X c = V c main_arg0) (hA : ∀ c, I.A c = V c main_v1) (c : Dev nD) :
    Pipeline.BodyObligation (dat0 V I c) defs₀ 𝒱₀ () Set.univ := fun t => by
  obtain rfl := fin_N0 t
  rw [bigSep_W0, bigSep_W0, phi0_first, phi0_last]
  iintro ⟨HΦ, HO, ⟨%d0, Hx⟩, ⟨%d1, Ha⟩, ⟨%d2, Hox⟩, ⟨%d3, Hoa⟩⟩
  ihave HO := (owes_out (dat0 V I c) _ _ (owed0_first V I c)) $$ HO
  ihave Hx := (show _ ⊢ (held0 c cc0_stg0_0 (I.X c) : sProp 𝕄) from
    Entails.of_eq ((owns_whole (c : Thread nD τ) cc0_stg0_0 fullShare _).trans (congrArg (held0 c cc0_stg0_0) (before0_0 V I c d0 (hX c))))) $$ Hx
  ihave Ha := (show _ ⊢ (held0 c cc0_stg1_0 (I.A c) : sProp 𝕄) from
    Entails.of_eq ((owns_whole (c : Thread nD τ) cc0_stg1_0 fullShare _).trans (congrArg (held0 c cc0_stg1_0) (before0_1 V I c d1 (hA c))))) $$ Ha
  iapply (point0 I c _)
  isplitl [HΦ]; · iexact HΦ
  isplitl [HO]; · iexact HO
  isplitl [Hx]; · iexact Hx
  isplitl [Ha]; · iexact Ha
  isplitl [Hox]
  · iexists ((dat0 V I c).before 2 t0_0 d2)
    iapply (Entails.of_eq (owns_whole (c : Thread nD τ) cc0_stg2_0 fullShare _)) $$ Hox
  isplitl [Hoa]
  · iexists ((dat0 V I c).before 3 t0_0 d3)
    iapply (Entails.of_eq (owns_whole (c : Thread nD τ) cc0_stg3_0 fullShare _)) $$ Hoa
  iintro ⟨HΦ, ⟨%W, HO⟩, Hx, Ha, Hox, Hoa⟩
  isplitl [HΦ]; · iexact HΦ
  isplitl [HO]
  · iapply (owes_in (dat0 V I c) t0_0.succ (rsO c) (owed0_last V I c) rfl W)
    iexact HO
  isplitl [Hx]; · iapply (Entails.of_eq (owns_whole (c : Thread nD τ) cc0_stg0_0 fullShare (I.X c)).symm) $$ Hx
  isplitl [Ha]; · iapply (Entails.of_eq (owns_whole (c : Thread nD τ) cc0_stg1_0 fullShare (I.A c)).symm) $$ Ha
  isplitl [Hox]; · iapply (Entails.of_eq (owns_whole (c : Thread nD τ) cc0_stg2_0 fullShare (agx I)).symm) $$ Hox
  iapply (Entails.of_eq (owns_whole (c : Thread nD τ) cc0_stg3_0 fullShare (aga I)).symm) $$ Hoa

theorem body1 (hP : ∀ c, I.P c = V c main_v58) (c : Dev nD) :
    Pipeline.BodyObligation (dat1 V I c) defs₀ 𝒱₀ () Set.univ := fun t => by
  obtain rfl := fin_N1 t
  rw [bigSep_W1, bigSep_W1, phi1_first, phi1_last]
  iintro ⟨HΦ, HO, ⟨%d0, Hp⟩, ⟨%d1, Ho⟩⟩
  ihave HO := (owes_out (dat1 V I c) _ _ (owed1_first V I c)) $$ HO
  ihave Hp := (show _ ⊢ (held0 c cc1_stg0_0 (I.P c) : sProp 𝕄) from
    Entails.of_eq ((owns_whole (c : Thread nD τ) cc1_stg0_0 fullShare _).trans (congrArg (held0 c cc1_stg0_0) (before1_0 V I c d0 (hP c))))) $$ Hp
  iapply (point1 I c _)
  isplitl [HΦ]; · iexact HΦ
  isplitl [HO]; · iexact HO
  isplitl [Hp]; · iexact Hp
  isplitl [Ho]
  · iexists ((dat1 V I c).before 1 t1_0 d1)
    iapply (Entails.of_eq (owns_whole (c : Thread nD τ) cc1_stg1_0 fullShare _)) $$ Ho
  iintro ⟨HΦ, ⟨%W, HO⟩, Hp, Ho⟩
  isplitl [HΦ]; · iexact HΦ
  isplitl [HO]
  · iapply (owes_in (dat1 V I c) t1_0.succ 0 (owed1_last V I c) rfl W)
    iexact HO
  isplitl [Hp]; · iapply (Entails.of_eq (owns_whole (c : Thread nD τ) cc1_stg0_0 fullShare (I.P c)).symm) $$ Hp
  iapply (Entails.of_eq (owns_whole (c : Thread nD τ) cc1_stg1_0 fullShare (rsOut I c)).symm) $$ Ho

/-! ## The cells of a call open as its region is entered -/

def osem0 (p : Fin 3 × Fin 4) : SemLoc sig := .dma (dsem (Fin.castLE (by decide) p.2) p.1)
def osem1 (p : Fin 3 × Fin 2) : SemLoc sig := .dma (dsem (Fin.natAdd 4 p.2) p.1)

theorem osem0_facts : Pipeline.OwnSemFacts spec0 osem0 := by decide
theorem osem1_facts : Pipeline.OwnSemFacts spec1 osem1 := by decide

theorem sep_grid4 (Φ : Fin 3 × Fin 4 → sProp 𝕄) : bigSep Finset.univ Φ
    = iprop((Φ (0, 0) ∗ Φ (0, 1) ∗ Φ (0, 2) ∗ Φ (0, 3)) ∗ (Φ (1, 0) ∗ Φ (1, 1) ∗ Φ (1, 2) ∗ Φ (1, 3)) ∗ (Φ (2, 0) ∗ Φ (2, 1) ∗ Φ (2, 2) ∗ Φ (2, 3))) := by
  have h4 : ∀ j : Fin 3, (bigSep Finset.univ fun k : Fin 4 => Φ (j, k)) = iprop(Φ (j, 0) ∗ Φ (j, 1) ∗ Φ (j, 2) ∗ Φ (j, 3)) :=
    fun j => bigSep_univ_eq_bigSepL [0, 1, 2, 3] (by decide) (by decide) _
  rw [bigSep_univ_prod, bigSep_univ_eq_bigSepL [0, 1, 2] (by decide) (by decide)]
  show iprop((bigSep Finset.univ fun k : Fin 4 => Φ (0, k)) ∗ (bigSep Finset.univ fun k : Fin 4 => Φ (1, k)) ∗ (bigSep Finset.univ fun k : Fin 4 => Φ (2, k))) = _
  rw [h4, h4, h4]
theorem sep_grid2 (Φ : Fin 3 × Fin 2 → sProp 𝕄) : bigSep Finset.univ Φ
    = iprop((Φ (0, 0) ∗ Φ (0, 1)) ∗ (Φ (1, 0) ∗ Φ (1, 1)) ∗ (Φ (2, 0) ∗ Φ (2, 1))) := by
  have h4 : ∀ j : Fin 3, (bigSep Finset.univ fun k : Fin 2 => Φ (j, k)) = iprop(Φ (j, 0) ∗ Φ (j, 1)) :=
    fun j => bigSep_univ_eq_bigSepL [0, 1] (by decide) (by decide) _
  rw [bigSep_univ_prod, bigSep_univ_eq_bigSepL [0, 1, 2] (by decide) (by decide)]
  show iprop((bigSep Finset.univ fun k : Fin 2 => Φ (0, k)) ∗ (bigSep Finset.univ fun k : Fin 2 => Φ (1, k)) ∗ (bigSep Finset.univ fun k : Fin 2 => Φ (2, k))) = _
  rw [h4, h4, h4]

theorem own0_eq (c : Dev nD) : (Pipeline.ownSems0 osem0 c : sProp 𝕄) = iprop(agSem c 0 ∗ agSem c 1 ∗ agSem c 2) := by
  unfold Pipeline.ownSems0 agSem
  rw [sep_grid4]
  rfl
theorem own1_eq (c : Dev nD) : (Pipeline.ownSems0 osem1 c : sProp 𝕄) = iprop(rsSem c 0 ∗ rsSem c 1 ∗ rsSem c 2) := by
  unfold Pipeline.ownSems0 rsSem
  rw [sep_grid2]
  rfl

variable (K : GSem nD τ sig → ℕ)

theorem cell_opens (c : Dev nD) (k : Fin 6) (j : Fin 3) :
    iprop(invs I K ∗ openTok ER (dma c k j) ∗ semVal (dma c k j) 0)
      ⊢ (|={Set.univ}=> iprop(atPos ER (dma c k j) 0 ∅ 0 ∗ reached ER (dma c k j) 0) : sProp 𝕄) := by
  iintro ⟨#HI, Ht, Hv⟩
  iapply (Rounds.cell_open ER (Rd I) (g := dma c k j) (Set.mem_univ (K (dma c k j))))
  isplitr; · iapply (inv_at I K c (.inr (k, j))); iexact HI
  isplitl [Ht] <;> iassumption

theorem ag_opens (c : Dev nD) (j : Fin 3) :
    iprop(invs I K ∗ (openTok ER (dma c 0 j) ∗ openTok ER (dma c 1 j) ∗ openTok ER (dma c 2 j) ∗ openTok ER (dma c 3 j)) ∗ agSem c j)
      ⊢ (|={Set.univ}=> iprop(agAt 0 c j ∗ agRch c j) : sProp 𝕄) := by
  unfold agSem agAt agRch
  iintro ⟨#HI, ⟨Ht0, Ht1, Ht2, Ht3⟩, Hv0, Hv1, Hv2, Hv3⟩
  imod (cell_opens I K c 0 j) $$ [Ht0 Hv0] with ⟨Ha0, Hr0⟩
  · isplitr; · iexact HI
    isplitl [Ht0] <;> iassumption
  imod (cell_opens I K c 1 j) $$ [Ht1 Hv1] with ⟨Ha1, Hr1⟩
  · isplitr; · iexact HI
    isplitl [Ht1] <;> iassumption
  imod (cell_opens I K c 2 j) $$ [Ht2 Hv2] with ⟨Ha2, Hr2⟩
  · isplitr; · iexact HI
    isplitl [Ht2] <;> iassumption
  imod (cell_opens I K c 3 j) $$ [Ht3 Hv3] with ⟨Ha3, Hr3⟩
  · isplitr; · iexact HI
    isplitl [Ht3] <;> iassumption
  imodintro
  isplitl [Ha0 Ha1 Ha2 Ha3]
  · isplitl [Ha0]; · iexact Ha0
    isplitl [Ha1]; · iexact Ha1
    isplitl [Ha2] <;> iassumption
  isplitl [Hr0]; · iexact Hr0
  isplitl [Hr1]; · iexact Hr1
  isplitl [Hr2] <;> iassumption

theorem rs_opens (c : Dev nD) (j : Fin 3) :
    iprop(invs I K ∗ (openTok ER (dma c 4 j) ∗ openTok ER (dma c 5 j)) ∗ rsSem c j)
      ⊢ (|={Set.univ}=> iprop(rsAt 0 c j ∗ rsRch c j) : sProp 𝕄) := by
  unfold rsSem rsAt rsRch
  iintro ⟨#HI, ⟨Ht0, Ht1⟩, Hv0, Hv1⟩
  imod (cell_opens I K c 4 j) $$ [Ht0 Hv0] with ⟨Ha0, Hr0⟩
  · isplitr; · iexact HI
    isplitl [Ht0] <;> iassumption
  imod (cell_opens I K c 5 j) $$ [Ht1 Hv1] with ⟨Ha1, Hr1⟩
  · isplitr; · iexact HI
    isplitl [Ht1] <;> iassumption
  imodintro
  isplitl [Ha0 Ha1]
  · isplitl [Ha0] <;> iassumption
  isplitl [Hr0] <;> iassumption

theorem opens0_eq (c : Dev nD) : (bigSep Finset.univ fun p : Fin 3 × Fin 4 => openTok ER (dma c (Fin.castLE (by decide) p.2) p.1) : sProp 𝕄)
    = iprop((openTok ER (dma c 0 0) ∗ openTok ER (dma c 1 0) ∗ openTok ER (dma c 2 0) ∗ openTok ER (dma c 3 0))
      ∗ (openTok ER (dma c 0 1) ∗ openTok ER (dma c 1 1) ∗ openTok ER (dma c 2 1) ∗ openTok ER (dma c 3 1))
      ∗ (openTok ER (dma c 0 2) ∗ openTok ER (dma c 1 2) ∗ openTok ER (dma c 2 2) ∗ openTok ER (dma c 3 2))) := by
  rw [sep_grid4]
  rfl
theorem opens1_eq (c : Dev nD) : (bigSep Finset.univ fun p : Fin 3 × Fin 2 => openTok ER (dma c (Fin.natAdd 4 p.2) p.1) : sProp 𝕄)
    = iprop((openTok ER (dma c 4 0) ∗ openTok ER (dma c 5 0)) ∗ (openTok ER (dma c 4 1) ∗ openTok ER (dma c 5 1))
      ∗ (openTok ER (dma c 4 2) ∗ openTok ER (dma c 5 2))) := by
  rw [sep_grid2]
  rfl

theorem hopen0 (c : Dev nD) : iprop(tk0 I c ∗ Pipeline.ownSems0 osem0 c ∗ levAts L lv) ⊢ (|={Set.univ}=> xk0 I c : sProp 𝕄) := by
  unfold tk0 xk0
  rw [own0_eq, opens0_eq]
  iintro ⟨⟨%K, #HI, HR, HaB, HcB, ⟨Ho0, Ho1, Ho2⟩, HT, HC⟩, ⟨Hs0, Hs1, Hs2⟩, Hl⟩
  imod (ag_opens I K c 0) $$ [Ho0 Hs0] with ⟨Ha0, Hr0⟩
  · isplitr; · iexact HI
    isplitl [Ho0] <;> iassumption
  imod (ag_opens I K c 1) $$ [Ho1 Hs1] with ⟨Ha1, Hr1⟩
  · isplitr; · iexact HI
    isplitl [Ho1] <;> iassumption
  imod (ag_opens I K c 2) $$ [Ho2 Hs2] with ⟨Ha2, Hr2⟩
  · isplitr; · iexact HI
    isplitl [Ho2] <;> iassumption
  imodintro
  iexists K
  isplitr; · iexact HI
  isplitl [HR]; · iexact HR
  isplitl [Hl]; · iexact Hl
  isplitl [HaB]; · iexact HaB
  isplitl [HcB]; · iexact HcB
  isplitl [Ha0 Ha1 Ha2]
  · isplitl [Ha0]; · iexact Ha0
    isplitl [Ha1] <;> iassumption
  isplitl [Hr0 Hr1 Hr2]
  · isplitl [Hr0]; · iexact Hr0
    isplitl [Hr1] <;> iassumption
  isplitl [HT] <;> iassumption

theorem hopen1 (c : Dev nD) : iprop(tk1 I c ∗ Pipeline.ownSems0 osem1 c ∗ levAts L lv) ⊢ (|={Set.univ}=> xk1 I c : sProp 𝕄) := by
  unfold tk1 xk1
  rw [own1_eq, opens1_eq]
  iintro ⟨⟨%K, #HI, HR, HaB, HcB, ⟨Ho0, Ho1, Ho2⟩, HT, HC⟩, ⟨Hs0, Hs1, Hs2⟩, Hl⟩
  imod (rs_opens I K c 0) $$ [Ho0 Hs0] with ⟨Ha0, Hr0⟩
  · isplitr; · iexact HI
    isplitl [Ho0] <;> iassumption
  imod (rs_opens I K c 1) $$ [Ho1 Hs1] with ⟨Ha1, Hr1⟩
  · isplitr; · iexact HI
    isplitl [Ho1] <;> iassumption
  imod (rs_opens I K c 2) $$ [Ho2 Hs2] with ⟨Ha2, Hr2⟩
  · isplitr; · iexact HI
    isplitl [Ho2] <;> iassumption
  imodintro
  iexists K
  isplitr; · iexact HI
  isplitl [HR]; · iexact HR
  isplitl [Hl]; · iexact Hl
  isplitl [HaB]; · iexact HaB
  isplitl [HcB]; · iexact HcB
  isplitl [Ha0 Ha1 Ha2]
  · isplitl [Ha0]; · iexact Ha0
    isplitl [Ha1] <;> iassumption
  isplitl [Hr0 Hr1 Hr2]
  · isplitl [Hr0]; · iexact Hr0
    isplitl [Hr1] <;> iassumption
  isplitl [HT] <;> iassumption

end Cert.MoeProof

end
-- ==== Proof.Region.lean ====
/-
  The two region records: each call as a segment of the program.
-/
module

public import proofs.«01_k».proof.Proof.Points
public import proofs.«01_k».proof.Proof.Outs

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (V W : Dev nD → Valuation τ sig (Elt F)) (I : Inp F)

/-- The data of the two regions: the gather entered at `V`, the scatter at `W`. -/
def pdats : (p : Fin 2) → (c : Dev nD) → Dat τ (Elt F) Unit ℕ UU ℕ (Pipeline.pin (pcfgs (F := F)) adm p) c
  | 0 => dat0 V I
  | 1 => dat1 W I

local notation "ℝ𝕊" => Pipeline.RegionSeg (pcfgs (F := F)) adm (pdats V W I) () defs₀ 𝒱₀ L lv

theorem howed0 (c : Dev nD) : (pdats V W I 0 c).owed 0 = rsO c + agO 0 c := by
  rw [agO_add]
  show (if (0 : Fin (cfg0.N + 1)).val = 0 then agO (rsO c) c else rsO c) = _
  exact if_pos rfl
theorem howed0N (c : Dev nD) : (pdats V W I 0 c).owed (Fin.last _) = rsO c := by
  show (if (Fin.last cfg0.N).val = 0 then agO (rsO c) c else rsO c) = _
  rw [Fin.val_last, if_neg (by rw [show cfg0.N = 1 from N_0]; decide)]
theorem howed1 (c : Dev nD) : (pdats V W I 1 c).owed 0 = 0 + rsO c := by
  rw [zero_add]
  show (if (0 : Fin (cfg1.N + 1)).val = 0 then rsO c else 0) = _
  exact if_pos rfl
theorem howed1N (c : Dev nD) : (pdats V W I 1 c).owed (Fin.last _) = 0 := by
  show (if (Fin.last cfg1.N).val = 0 then rsO c else 0) = _
  rw [Fin.val_last, if_neg (by rw [show cfg1.N = 1 from N_1]; decide)]

/-! ### Levels -/

theorem lv_none (c : Dev nD) (sm : SemLoc sig) (h : ∀ i, loc i ≠ sm) : lv ((c : Thread nD τ), sm) () = 0 := by
  show lvOf (dec sm) = 0
  unfold dec
  rw [dif_neg (fun ⟨i, hi⟩ => h i hi)]
  rfl

theorem stage0_ne : ∀ (w : Fin cfg0.W) (s : Fin (cfg0.win w).nbuf) (i : CIx), loc i ≠ .dma ((cfg0.win w).sem s) := by decide +kernel
theorem stage1_ne : ∀ (w : Fin cfg1.W) (s : Fin (cfg1.win w).nbuf) (i : CIx), loc i ≠ .dma ((cfg1.win w).sem s) := by decide +kernel

theorem owed0_above (c : Dev nD) (t : Fin (cfg0.N + 1)) : Above 0 ((dat0 V I c).owed t) := by
  show Above 0 (if t.val = 0 then agO (rsO c) c else rsO c)
  split
  · exact above_agO ((above_rsO c).mono (by decide)) c
  · exact (above_rsO c).mono (by decide)
theorem owed1_above (c : Dev nD) (t : Fin (cfg1.N + 1)) : Above 0 ((dat1 V I c).owed t) := by
  show Above 0 (if t.val = 0 then rsO c else 0)
  split
  · exact (above_rsO c).mono (by decide)
  · exact .zero 0

theorem Above.cut {n : ℕ} {O : CellTallies nD τ sig Unit} (h : Above n O) (g : GSem nD τ sig) (u : Unit) (hg : 0 < O g u) :
    u ∈ L g ∧ n < lv g u := by
  refine ⟨?_, (h g u hg).2⟩
  rw [(h g u hg).1]
  exact Finset.mem_singleton_self _

theorem cut0 : Pipeline.LevelCutOwed (pcfgs (F := F)) adm (pdats V W I) () L lv 0 (fun _ => 0) where
  hι c w s := by rw [L_tc]; exact Finset.mem_singleton_self _
  hιb c w s := le_of_eq (lv_none c _ (stage0_ne w s))
  hD c t g u hg := (owed0_above V I c t).cut g u hg
theorem cut1 : Pipeline.LevelCutOwed (pcfgs (F := F)) adm (pdats V W I) () L lv 1 (fun _ => 0) where
  hι c w s := by rw [L_tc]; exact Finset.mem_singleton_self _
  hιb c w s := le_of_eq (lv_none c _ (stage1_ne w s))
  hD c t g u hg := (owed1_above W I c t).cut g u hg

/-! ### In and out of the invariants -/

theorem held_none (c : Dev nD) (X : Valuation τ sig (Elt F)) : (StableHlo.held (c.tc : Thread nD τ) ∅ X : sProp 𝕄) = BI.emp := by
  unfold StableHlo.held
  exact BI.bigSep_empty

theorem hin0 (c : Dev nD) : iprop(Pipeline.scopedRest (Pipeline.pin (pcfgs (F := F)) adm 0).spec c ∗ (∃ r, prngReg c r) ∗ StableHlo.held (c.tc : Thread nD τ) ∅ (V c) ∗ xk0 I c)
    ⊢ (pdats V W I 0 c).Φ 0 := by
  rw [show (pdats V W I 0 c).Φ 0 = iprop(xk0 I c ∗ rest0 c) from rfl,
    show (Pipeline.scopedRest (Pipeline.pin (pcfgs (F := F)) adm 0).spec c : sProp 𝕄)
      = iprop(some' c cc1_stg0_0 ∗ some' c cc1_stg1_0 ∗ some' c cc1_scratch0) from scopedRest0_eq c]
  unfold rest0
  iintro ⟨Hs, Hp, -, HX⟩
  isplitl [HX]; · iexact HX
  isplitl [Hs] <;> iassumption

theorem hout0 (c : Dev nD) (X : Valuation τ sig (Elt F)) : (pdats V W I 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ X
      ∗ Pipeline.ownSems0 osem0 c ∗ semVal (bar c 0) 0) := by
  rw [show (pdats V W I 0 c).Φ (Fin.last _) = iprop((semVal (bar c 0) 0 ∗ (agSem c 0 ∗ agSem c 1 ∗ agSem c 2)) ∗ rest0 c) from rfl,
    show (Pipeline.scopedRest (Pipeline.pin (pcfgs (F := F)) adm 0).spec c : sProp 𝕄)
      = iprop(some' c cc1_stg0_0 ∗ some' c cc1_stg1_0 ∗ some' c cc1_scratch0) from scopedRest0_eq c, held_none, own0_eq]
  unfold rest0
  iintro ⟨⟨Hb, Hs⟩, Hr, Hp⟩
  isplitl [Hr]; · iexact Hr
  isplitl [Hp]; · iexact Hp
  isplitr; · iempintro
  isplitl [Hs] <;> iassumption

theorem hin1 (c : Dev nD) : iprop(Pipeline.scopedRest (Pipeline.pin (pcfgs (F := F)) adm 1).spec c ∗ (∃ r, prngReg c r) ∗ StableHlo.held (c.tc : Thread nD τ) ∅ (W c) ∗ xk1 I c)
    ⊢ (pdats V W I 1 c).Φ 0 := by
  rw [show (pdats V W I 1 c).Φ 0 = iprop((xk1 I c ∗ some' c cc1_scratch0) ∗ rest1 c) from rfl,
    show (Pipeline.scopedRest (Pipeline.pin (pcfgs (F := F)) adm 1).spec c : sProp 𝕄)
      = iprop(some' c cc0_stg0_0 ∗ some' c cc0_stg1_0 ∗ some' c cc0_stg2_0 ∗ some' c cc0_stg3_0 ∗ some' c cc1_scratch0) from scopedRest1_eq c]
  unfold rest1
  iintro ⟨⟨H0, H1, H2, H3, Hm⟩, Hp, -, HX⟩
  isplitl [HX Hm]; · isplitl [HX] <;> iassumption
  isplitl [H0 H1 H2 H3]
  · isplitl [H0]; · iexact H0
    isplitl [H1]; · iexact H1
    isplitl [H2] <;> iassumption
  iexact Hp

theorem hout1 (c : Dev nD) (X : Valuation τ sig (Elt F)) : (pdats V W I 1 c).Φ (Fin.last (Pipeline.pin (pcfgs (F := F)) adm 1).N)
    ⊢ iprop(Pipeline.scopedRest (Pipeline.pin (pcfgs (F := F)) adm 1).spec c ∗ (∃ r, prngReg c r) ∗ StableHlo.held (c.tc : Thread nD τ) ∅ X
      ∗ Pipeline.ownSems0 osem1 c ∗ semVal (bar c 1) 0) := by
  rw [show (pdats V W I 1 c).Φ (Fin.last _)
      = iprop(((semVal (bar c 1) 0 ∗ (rsSem c 0 ∗ rsSem c 1 ∗ rsSem c 2)) ∗ some' c cc1_scratch0) ∗ rest1 c) from rfl,
    show (Pipeline.scopedRest (Pipeline.pin (pcfgs (F := F)) adm 1).spec c : sProp 𝕄)
      = iprop(some' c cc0_stg0_0 ∗ some' c cc0_stg1_0 ∗ some' c cc0_stg2_0 ∗ some' c cc0_stg3_0 ∗ some' c cc1_scratch0) from scopedRest1_eq c,
    held_none, own1_eq]
  unfold rest1
  iintro ⟨⟨⟨Hb, Hs⟩, Hm⟩, ⟨H0, H1, H2, H3⟩, Hp⟩
  isplitl [H0 H1 H2 H3 Hm]
  · isplitl [H0]; · iexact H0
    isplitl [H1]; · iexact H1
    isplitl [H2]; · iexact H2
    isplitl [H3] <;> iassumption
  isplitl [Hp]; · iexact Hp
  isplitr; · iempintro
  isplitl [Hs] <;> iassumption

/-! ### The records -/

variable (V' W' : Dev nD → Valuation τ sig (Elt F))

abbrev Sr0 : Finset (DevRef τ sig) := Pipeline.ucRefs τ sig \ Pipeline.arrRefs spec0
abbrev Sr1 : Finset (DevRef τ sig) := Pipeline.ucRefs τ sig \ Pipeline.arrRefs spec1

set_option backward.isDefEq.respectTransparency.types false in
def reg0 (hX : ∀ c, I.X c = V c main_arg0) (hA : ∀ c, I.A c = V c main_v1) (hr : ∀ c, ∀ b ∈ Sr0 \ ∅, V' c b = V c b)
    (hV' : ∀ c w, (dat0 V I c).arrAt w cfg0.N = V' c (Proc.devRef .tc (Pipeline.arrRef spec0 w))) : ℝ𝕊 0 :=
  Pipeline.RegionSeg.ofTalk (pcfgs (F := F)) adm (pdats V W I) () defs₀ 𝒱₀ L lv 0 osem0 osem0_facts
    ∅ Sr0 (Finset.empty_subset _) launch0.toP rfl (fun c => (body0 V I hX hA c).loose)
    (fun c => rsO c) (fun c => agO 0 c) (howed0 V W I) (howed0N V W I) (fun _ => rfl) (fun c w => Dat.share_full _ (fun _ => rfl) w)
    V V' hr
    (tk0 I) (fun c => semVal (bar c 0) 0) (xk0 I) (fun c => semVal (bar c 0) 0) (hopen0 I) (hin0 V W I)
    (fun c => hout0 V W I c (V' c))
    (fun c => by iintro H; imodintro; iexact H)
    (fun _ => 0) (cut0 V W I) (tk1 I)
    (fun _ _ => rfl) hV'

set_option backward.isDefEq.respectTransparency.types false in
def reg1 (hP : ∀ c, I.P c = W c main_v58) (hr : ∀ c, ∀ b ∈ Sr1 \ ∅, W' c b = W c b)
    (hW' : ∀ c w, (dat1 W I c).arrAt w cfg1.N = W' c (Proc.devRef .tc (Pipeline.arrRef spec1 w))) : ℝ𝕊 1 :=
  Pipeline.RegionSeg.ofTalk (pcfgs (F := F)) adm (pdats V W I) () defs₀ 𝒱₀ L lv 1 osem1 osem1_facts
    ∅ Sr1 (Finset.empty_subset _) launch1.toP rfl (fun c => (body1 W I hP c).loose)
    (fun _ => 0) (fun c => rsO c) (howed1 V W I) (howed1N V W I) (fun _ => rfl) (fun c w => Dat.share_full _ (fun _ => rfl) w)
    W W' hr
    (tk1 I) (fun c => semVal (bar c 1) 0) (xk1 I) (fun c => semVal (bar c 1) 0) (hopen1 I) (hin1 V W I)
    (fun c => hout1 V W I c (W' c))
    (fun c => by iintro H; imodintro; iexact H)
    (fun _ => 0) (cut1 V W I) (fun c => semVal (bar c 0) 0)
    (fun _ _ => rfl) hW'

/-- What rides beside the buffers before the gather, between the calls, and at the end. -/
def E : Fin 3 → Dev nD → sProp 𝕄
  | 0, c => iprop((∃ r, prngReg c r) ∗ tk0 I c ∗ tk1 I c ∗ ∃ W, owes (c : Thread nD τ) (rsO c + agO 0 c) W)
  | 1, c => iprop((∃ r, prngReg c r) ∗ semVal (bar c 0) 0 ∗ tk1 I c ∗ ∃ W, owes (c : Thread nD τ) (rsO c) W)
  | 2, c => iprop((semVal (bar c 0) 0 ∗ semVal (bar c 1) 0) ∗ ∃ W, owes (c : Thread nD τ) (0 : CellTallies nD τ sig Unit) W)

theorem split0 (c : Dev nD) (X : Valuation τ sig (Elt F)) : (StableHlo.held (c : Thread nD τ) (Pipeline.ucRefs τ sig) X : sProp 𝕄)
    = iprop(StableHlo.held (c.tc : Thread nD τ) (Pipeline.arrRefs spec0) X ∗ StableHlo.held (c.tc : Thread nD τ) Sr0 X) :=
  StableHlo.held_sub_split (c.tc) (Pipeline.arrRefs_sub_ucRefs spec0 launch0.win.arr_unscoped) X
theorem split1 (c : Dev nD) (X : Valuation τ sig (Elt F)) : (StableHlo.held (c : Thread nD τ) (Pipeline.ucRefs τ sig) X : sProp 𝕄)
    = iprop(StableHlo.held (c.tc : Thread nD τ) (Pipeline.arrRefs spec1) X ∗ StableHlo.held (c.tc : Thread nD τ) Sr1 X) :=
  StableHlo.held_sub_split (c.tc) (Pipeline.arrRefs_sub_ucRefs spec1 launch1.win.arr_unscoped) X

theorem pre0 (hX hA hr hV') (c : Dev nD) : iprop(StableHlo.held (c : Thread nD τ) (Pipeline.ucRefs τ sig) (V c) ∗ E I 0 c)
    ⊢ (reg0 V W I V' hX hA hr hV').pre c := by
  show _ ⊢ iprop(StableHlo.held (c.tc : Thread nD τ) (Pipeline.arrRefs spec0) (V c) ∗ (∃ r, prngReg c r)
    ∗ (StableHlo.held (c.tc : Thread nD τ) Sr0 (V c) ∗ tk1 I c) ∗ tk0 I c ∗ ∃ Wd, owes (c : Thread nD τ) (rsO c + agO 0 c) Wd)
  rw [split0, E]
  iintro ⟨⟨Ha, Hr⟩, Hp, H0, H1, HO⟩
  isplitl [Ha]; · iexact Ha
  isplitl [Hp]; · iexact Hp
  isplitl [Hr H1]; · isplitl [Hr] <;> iassumption
  isplitl [H0] <;> iassumption
theorem post0 (hX hA hr hV') (c : Dev nD) : (reg0 V W I V' hX hA hr hV').post c
    ⊢ iprop(StableHlo.held (c : Thread nD τ) (Pipeline.ucRefs τ sig) (V' c) ∗ E I 1 c) := by
  show iprop(StableHlo.held (c.tc : Thread nD τ) (Pipeline.arrRefs spec0) (V' c) ∗ (∃ r, prngReg c r)
    ∗ (StableHlo.held (c.tc : Thread nD τ) Sr0 (V' c) ∗ tk1 I c) ∗ semVal (bar c 0) 0 ∗ ∃ Wd, owes (c : Thread nD τ) (rsO c) Wd) ⊢ _
  rw [split0, E]
  iintro ⟨Ha, Hp, ⟨Hr, H1⟩, Hb, HO⟩
  isplitl [Ha Hr]; · isplitl [Ha] <;> iassumption
  isplitl [Hp]; · iexact Hp
  isplitl [Hb]; · iexact Hb
  isplitl [H1] <;> iassumption
theorem pre1 (hP hr hW') (c : Dev nD) : iprop(StableHlo.held (c : Thread nD τ) (Pipeline.ucRefs τ sig) (W c) ∗ E I 1 c)
    ⊢ (reg1 V W I W' hP hr hW').pre c := by
  show _ ⊢ iprop(StableHlo.held (c.tc : Thread nD τ) (Pipeline.arrRefs spec1) (W c) ∗ (∃ r, prngReg c r)
    ∗ (StableHlo.held (c.tc : Thread nD τ) Sr1 (W c) ∗ semVal (bar c 0) 0) ∗ tk1 I c ∗ ∃ Wd, owes (c : Thread nD τ) (0 + rsO c) Wd)
  rw [split1, zero_add, E]
  iintro ⟨⟨Ha, Hr⟩, Hp, Hb, H1, HO⟩
  isplitl [Ha]; · iexact Ha
  isplitl [Hp]; · iexact Hp
  isplitl [Hr Hb]; · isplitl [Hr] <;> iassumption
  isplitl [H1] <;> iassumption
theorem post1 (hP hr hW') (c : Dev nD) : (reg1 V W I W' hP hr hW').post c
    ⊢ iprop(StableHlo.held (c : Thread nD τ) (Pipeline.ucRefs τ sig) (W' c) ∗ E I 2 c) := by
  show iprop(StableHlo.held (c.tc : Thread nD τ) (Pipeline.arrRefs spec1) (W' c) ∗ (∃ r, prngReg c r)
    ∗ (StableHlo.held (c.tc : Thread nD τ) Sr1 (W' c) ∗ semVal (bar c 0) 0) ∗ semVal (bar c 1) 0 ∗ ∃ Wd, owes (c : Thread nD τ) 0 Wd) ⊢ _
  rw [split1, E]
  iintro ⟨Ha, -, ⟨Hr, Hb⟩, Hb1, HO⟩
  isplitl [Ha Hr]; · isplitl [Ha] <;> iassumption
  isplitl [Hb Hb1]; · isplitl [Hb] <;> iassumption
  iexact HO

end Cert.MoeProof

end
-- ==== Proof.Deal.lean ====
/-
  The launch of the program: the schedule's cells funded, its tokens and credits dealt, and the run of @main.
-/
module

public import proofs.«01_k».proof.Proof.Region
public import Idealize.ShloMosaic.Lib.Quiescent
public import proofs.«01_k».proof.Proof.Outs

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg) (I : Inp F)

/-! ## The launch's sets -/

abbrev OIx := (Fin 3 × Fin 4) ⊕ (Fin 3 × Fin 2)
def osemA : OIx → SemLoc sig := Sum.elim osem0 osem1

theorem osemA_inj : ∀ o o' : OIx, osemA o = osemA o' → o = o' := by decide +kernel
theorem osemA_ne (o : OIx) (b : Fin 2) : osemA o ≠ loc (.inl b) := by revert o b; decide +kernel
theorem osemA_onto : ∀ p : Fin 6 × Fin 3, ∃ o, osemA o = loc (.inr p) := by decide +kernel

def barEmb : Dev nD × Fin 2 ↪ GSem nD τ sig :=
  ⟨fun p => bar p.1 p.2, fun _ _ h => by
    have h := cell_inj.mp h
    exact Prod.ext h.1 (Sum.inl.inj h.2)⟩
def dmaEmb : Dev nD × OIx ↪ GSem nD τ sig :=
  ⟨fun p => ((p.1 : Thread nD τ), osemA p.2), fun _ _ h =>
    Prod.ext (congrArg (fun g : GSem nD τ sig => g.1.1) h) (osemA_inj _ _ (congrArg Prod.snd h))⟩

abbrev barCells : Finset (GSem nD τ sig) := Finset.univ.map barEmb
abbrev dmaCells : Finset (GSem nD τ sig) := Finset.univ.map dmaEmb

theorem cells_disjoint : Disjoint barCells dmaCells := by
  rw [Finset.disjoint_left]
  rintro g h₁ h₂
  obtain ⟨p, -, rfl⟩ := Finset.mem_map.mp h₁
  obtain ⟨q, -, h⟩ := Finset.mem_map.mp h₂
  exact osemA_ne q.2 p.2 (congrArg Prod.snd h)

theorem cell_mem (c : Dev nD) (i : CIx) : cell c i ∈ (barCells ∪ dmaCells : Finset (GSem nD τ sig)) := by
  rcases i with b | p
  · exact Finset.mem_union_left _ (Finset.mem_map_of_mem barEmb (Finset.mem_univ (c, b)))
  · obtain ⟨o, ho⟩ := osemA_onto p
    refine Finset.mem_union_right _ (Finset.mem_map.mpr ⟨(c, o), Finset.mem_univ _, ?_⟩)
    exact Prod.ext rfl ho

def tsem (j : Fin 3) (s : Fin 8) : SemLoc sig :=
  ![loc (.inl 0), loc (.inr (0, j)), loc (.inr (1, j)), loc (.inr (2, j)), loc (.inr (3, j)), loc (.inl 1), loc (.inr (4, j)), loc (.inr (5, j))] s
def tduty (j : Fin 3) (s : Fin 8) : Fin 3 := ![j, 0, 0, 0, 0, j, 0, 0] s
theorem tok_inj : ∀ p p' : Fin 3 × Fin 8, (tsem p.1 p.2, tduty p.1 p.2) = (tsem p'.1 p'.2, tduty p'.1 p'.2) → p = p' := by decide +kernel

def toks : Finset (GSem nD τ sig × ℕ × Fin 3) :=
  Finset.univ.map ⟨fun p : (Dev nD × Fin 3) × Fin 8 => (((p.1.1 : Thread nD τ), tsem p.1.2 p.2), 0, tduty p.1.2 p.2), fun p p' h => by
    have h1 : p.1.1 = p'.1.1 := congrArg (fun t : GSem nD τ sig × ℕ × Fin 3 => t.1.1.1) h
    have h2 := tok_inj (p.1.2, p.2) (p'.1.2, p'.2)
      (Prod.ext (congrArg (fun t : GSem nD τ sig × ℕ × Fin 3 => t.1.2) h) (congrArg (fun t : GSem nD τ sig × ℕ × Fin 3 => t.2.2) h))
    exact Prod.ext (Prod.ext h1 (congrArg (fun q : Fin 3 × Fin 8 => q.1) h2)) (congrArg (fun q : Fin 3 × Fin 8 => q.2) h2)⟩

/-- The launch element: the pipeline library's at the staging cells; the schedule's at its own. -/
def u₀ : UU :=
  (initOf (Pipeline.cells (Pipeline.pin (pcfgs (F := F)) adm) cellOf_inj) (Pipeline.launchToks (Pipeline.pin (pcfgs (F := F)) adm) cellOf_inj),
    launchOf barCells dmaCells toks)

/-- A resource held on one device alone. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev
  rw [if_pos rfl]
  exact BI.equiv_iff.mp sep_emp

/-- The schedule's launch element waits on device 0 for the step that all devices take together. -/
def G : Dev nD → sProp 𝕄 := onDev 0 (BI.own (ER (launchOf barCells dmaCells toks)))

/-! ## The shared records -/

def records (κ : GSem nD τ sig → ℕ) : sProp 𝕄 := iprop(invs I κ ∗ rbars)
instance records_persistent (κ : GSem nD τ sig → ℕ) : BI.Persistent (records I κ) := by unfold records; infer_instance

theorem invs_intro (κ : GSem nD τ sig → ℕ) :
    (bigSep (barCells ∪ dmaCells) fun g => (cellInv ER (Rd I) (κ g) g : sProp 𝕄)) ⊢ invs I κ := by
  unfold invs
  iintro #H
  iapply (bigSep_with_persistent (R := bigSep (barCells ∪ dmaCells) fun g => (cellInv ER (Rd I) (κ g) g : sProp 𝕄)) (Φ := fun _ => (BI.emp : sProp 𝕄))
    (fun p _ => by
      iintro ⟨#H, -⟩
      iapply (show (bigSep (barCells ∪ dmaCells) fun g => (cellInv ER (Rd I) (κ g) g : sProp 𝕄)) ⊢ cellInv ER (Rd I) (κ (cell p.1 p.2)) (cell p.1 p.2) from
        bigSep_elim (cell_mem p.1 p.2))
      iexact H))
  isplitr; · iexact H
  rw [BI.bigSep_emp_const]
  iempintro

theorem rbars_intro : (bigSep barCells fun g => (reached ER g 0 : sProp 𝕄)) ⊢ rbars := by
  unfold rbars
  rw [bigSep_map]
  exact BI.Entails.refl _

/-! ## What stays with a device -/

def linear (c : Dev nD) : sProp 𝕄 :=
  iprop((atPos ER (bar c 0) 0 ∅ 0 ∗ atPos ER (bar c 1) 0 ∅ 0)
    ∗ ((bigSep Finset.univ fun p : Fin 3 × Fin 4 => openTok ER (dma c (Fin.castLE (by decide) p.2) p.1))
      ∗ (bigSep Finset.univ fun p : Fin 3 × Fin 2 => openTok ER (dma c (Fin.natAdd 4 p.2) p.1)))
    ∗ ((agTok c 0 ∗ rsTok c 0) ∗ (agTok c 1 ∗ rsTok c 1) ∗ (agTok c 2 ∗ rsTok c 2)))

theorem bigSep_three (Φ : Fin 3 → sProp 𝕄) : bigSep Finset.univ Φ = iprop(Φ 0 ∗ Φ 1 ∗ Φ 2) :=
  bigSep_univ_eq_bigSepL [0, 1, 2] (by decide) (by decide) _

def tokC (p : Dev nD × Fin 3) : sProp 𝕄 :=
  iprop(dutyTok ER (bar p.1 0) 0 p.2 ∗ dutyTok ER (dma p.1 0 p.2) 0 0 ∗ dutyTok ER (dma p.1 1 p.2) 0 0 ∗ dutyTok ER (dma p.1 2 p.2) 0 0
    ∗ dutyTok ER (dma p.1 3 p.2) 0 0 ∗ dutyTok ER (bar p.1 1) 0 p.2 ∗ dutyTok ER (dma p.1 4 p.2) 0 0 ∗ dutyTok ER (dma p.1 5 p.2) 0 0)

theorem toks_eq : bigSep toks (fun x => (dutyTok ER x.1 x.2.1 x.2.2 : sProp 𝕄)) = bigSep Finset.univ (tokC (F := F)) := by
  unfold toks
  rw [bigSep_map, bigSep_univ_prod]
  refine bigSep_congr fun p _ => ?_
  rw [bigSep_univ_eq_bigSepL [0, 1, 2, 3, 4, 5, 6, 7] (by decide) (by decide)]
  rfl

/-- Each of the other three devices, at its own offset. -/
def ring : Dev nD × Fin 3 ≃ Dev nD × Fin 3 where
  toFun p := (pr p.2 p.1, p.2)
  invFun p := (pr p.2.rev p.1, p.2)
  left_inv p := Prod.ext (pr_rev' p.2 p.1) rfl
  right_inv p := Prod.ext (pr_rev p.2 p.1) rfl

theorem toks_around : bigSep Finset.univ (tokC (F := F))
    ⊢ bigSep Finset.univ fun c : Dev nD => (iprop((agTok c 0 ∗ rsTok c 0) ∗ (agTok c 1 ∗ rsTok c 1) ∗ (agTok c 2 ∗ rsTok c 2)) : sProp 𝕄) := by
  have h : bigSep Finset.univ (fun c : Dev nD => (iprop((agTok c 0 ∗ rsTok c 0) ∗ (agTok c 1 ∗ rsTok c 1) ∗ (agTok c 2 ∗ rsTok c 2)) : sProp 𝕄))
      = bigSep Finset.univ fun p : Dev nD × Fin 3 => (iprop(agTok p.1 p.2 ∗ rsTok p.1 p.2) : sProp 𝕄) := by
    rw [bigSep_univ_prod]
    exact bigSep_congr fun c _ => (bigSep_three fun j => (iprop(agTok c j ∗ rsTok c j) : sProp 𝕄)).symm
  rw [h]
  unfold tokC agTok rsTok
  simp only [bigSep_sep']
  rw [bigSep_univ_equiv ring (fun p : Dev nD × Fin 3 => (dutyTok ER (bar p.1 0) 0 p.2 : sProp 𝕄)),
    bigSep_univ_equiv ring (fun p : Dev nD × Fin 3 => (dutyTok ER (dma p.1 1 p.2) 0 0 : sProp 𝕄)),
    bigSep_univ_equiv ring (fun p : Dev nD × Fin 3 => (dutyTok ER (dma p.1 3 p.2) 0 0 : sProp 𝕄)),
    bigSep_univ_equiv ring (fun p : Dev nD × Fin 3 => (dutyTok ER (bar p.1 1) 0 p.2 : sProp 𝕄)),
    bigSep_univ_equiv ring (fun p : Dev nD × Fin 3 => (dutyTok ER (dma p.1 5 p.2) 0 0 : sProp 𝕄))]
  iintro ⟨H0, H1, H2, H3, H4, H5, H6, H7⟩
  isplitl [H0 H1 H2 H3 H4]
  · isplitl [H0]; · iexact H0
    isplitl [H1]; · iexact H1
    isplitl [H2]; · iexact H2
    isplitl [H3]; · iexact H3
    iexact H4
  isplitl [H5]; · iexact H5
  isplitl [H6]; · iexact H6
  iexact H7

theorem opens_eq (c : Dev nD) : (bigSep Finset.univ fun o : OIx => (openTok ER ((c : Thread nD τ), osemA o) : sProp 𝕄))
    = iprop((bigSep Finset.univ fun p : Fin 3 × Fin 4 => openTok ER (dma c (Fin.castLE (by decide) p.2) p.1))
      ∗ (bigSep Finset.univ fun p : Fin 3 × Fin 2 => openTok ER (dma c (Fin.natAdd 4 p.2) p.1))) := by
  rw [bigSep_univ_sum]
  rfl

/-! ## The launch credit -/

abbrev O₀ (c : Dev nD) : CellTallies nD τ sig Unit := rsO c + agO 0 c

theorem cred_dma (k : Fin 6) (j : Fin 3) (n : ℕ) (c : Dev nD) :
    (Pipeline.launchCred (fun d => tallyAt (dma (pr j d) k j) () n) c : sProp 𝕄) ⊢ cred (tallyAt (dma c k j) () n) :=
  Pipeline.launchCred_tallyAt (loc (.inr (k, j))) (pr j) (pr j.rev) (fun c => pr_rev j c) (fun d => pr_rev' j d) () n c
theorem cred_bar (b : Fin 2) (j : Fin 3) (n : ℕ) (c : Dev nD) :
    (Pipeline.launchCred (fun d => tallyAt (bar (pr j d) b) () n) c : sProp 𝕄) ⊢ cred (tallyAt (bar c b) () n) :=
  Pipeline.launchCred_tallyAt (loc (.inl b)) (pr j) (pr j.rev) (fun c => pr_rev j c) (fun d => pr_rev' j d) () n c

theorem cred_sigs (b : Fin 2) (D : Dev nD → CellTallies nD τ sig Unit) (c : Dev nD) :
    (Pipeline.launchCred (fun d => sigs b (D d) d) c : sProp 𝕄) ⊢ iprop(Pipeline.launchCred D c ∗ cred (tallyAt (bar c b) () 3)) := by
  show (Pipeline.launchCred (fun d => ((D d + tallyAt (bar (pr 2 d) b) () 1) + tallyAt (bar (pr 1 d) b) () 1) + tallyAt (bar (pr 0 d) b) () 1) c : sProp 𝕄) ⊢ _
  rw [Pipeline.launchCred_add (fun d => (D d + tallyAt (bar (pr 2 d) b) () 1) + tallyAt (bar (pr 1 d) b) () 1) (fun d => tallyAt (bar (pr 0 d) b) () 1),
    Pipeline.launchCred_add (fun d => D d + tallyAt (bar (pr 2 d) b) () 1) (fun d => tallyAt (bar (pr 1 d) b) () 1),
    Pipeline.launchCred_add D (fun d => tallyAt (bar (pr 2 d) b) () 1)]
  iintro ⟨⟨⟨HD, H2⟩, H1⟩, H0⟩
  isplitl [HD]; · iexact HD
  ihave H2 := (cred_bar b 2 1 c) $$ H2
  ihave H1 := (cred_bar b 1 1 c) $$ H1
  ihave H0 := (cred_bar b 0 1 c) $$ H0
  rw [show (tallyAt (bar c b) () 3 : CellTallies nD τ sig Unit) = tallyAt (bar c b) () 1 + (tallyAt (bar c b) () 1 + tallyAt (bar c b) () 1) from by
    rw [tallyAt_add, tallyAt_add]]
  iapply (cred_add _ _).2
  isplitl [H2]; · iexact H2
  iapply (cred_add _ _).2
  isplitl [H1] <;> iassumption

theorem cred_rs (c : Dev nD) : (Pipeline.launchCred (fun d => rsO d) c : sProp 𝕄)
    ⊢ iprop(cred (tallyAt (bar c 1) () 3) ∗ (rsCred c 0 ∗ rsCred c 1 ∗ rsCred c 2)) := by
  refine (cred_sigs 1 (fun d => rsC d) c).trans ?_
  show iprop(Pipeline.launchCred (fun d => (((fun _ => (0 : CellTallies nD τ sig Unit)) d + tallyAt (dma (pr 2 d) 5 2) () NX) + tallyAt (dma (pr 1 d) 5 1) () NX) + tallyAt (dma (pr 0 d) 5 0) () NX) c ∗ _) ⊢ _
  rw [Pipeline.launchCred_add (fun d => ((fun _ => (0 : CellTallies nD τ sig Unit)) d + tallyAt (dma (pr 2 d) 5 2) () NX) + tallyAt (dma (pr 1 d) 5 1) () NX) (fun d => tallyAt (dma (pr 0 d) 5 0) () NX),
    Pipeline.launchCred_add (fun d => (fun _ => (0 : CellTallies nD τ sig Unit)) d + tallyAt (dma (pr 2 d) 5 2) () NX) (fun d => tallyAt (dma (pr 1 d) 5 1) () NX),
    Pipeline.launchCred_add (fun _ => (0 : CellTallies nD τ sig Unit)) (fun d => tallyAt (dma (pr 2 d) 5 2) () NX)]
  unfold rsCred
  iintro ⟨⟨⟨⟨-, H2⟩, H1⟩, H0⟩, Hb⟩
  isplitl [Hb]; · iexact Hb
  isplitl [H0]; · iapply (cred_dma 5 0 NX c) $$ H0
  isplitl [H1]; · iapply (cred_dma 5 1 NX c) $$ H1
  iapply (cred_dma 5 2 NX c) $$ H2

theorem cred_ag1 (D : Dev nD → CellTallies nD τ sig Unit) (j : Fin 3) (c : Dev nD) :
    (Pipeline.launchCred (fun d => (D d + tallyAt (dma (pr j d) 3 j) () NA) + tallyAt (dma (pr j d) 1 j) () NX) c : sProp 𝕄)
      ⊢ iprop(Pipeline.launchCred D c ∗ agCred c j) := by
  rw [Pipeline.launchCred_add (fun d => D d + tallyAt (dma (pr j d) 3 j) () NA) (fun d => tallyAt (dma (pr j d) 1 j) () NX),
    Pipeline.launchCred_add D (fun d => tallyAt (dma (pr j d) 3 j) () NA)]
  unfold agCred
  iintro ⟨⟨HD, Ha⟩, Hx⟩
  isplitl [HD]; · iexact HD
  isplitl [Hx]; · iapply (cred_dma 1 j NX c) $$ Hx
  iapply (cred_dma 3 j NA c) $$ Ha

theorem cred_ag (c : Dev nD) : (Pipeline.launchCred (fun d => agO 0 d) c : sProp 𝕄)
    ⊢ iprop(cred (tallyAt (bar c 0) () 3) ∗ (agCred c 0 ∗ agCred c 1 ∗ agCred c 2)) := by
  refine (cred_sigs 0 (fun d => agC0 0 d) c).trans ?_
  iintro ⟨H, Hb⟩
  isplitl [Hb]; · iexact Hb
  ihave H' := (show (Pipeline.launchCred (fun d => agC0 0 d) c : sProp 𝕄) ⊢ iprop(Pipeline.launchCred (fun d => agC1 0 d) c ∗ agCred c 0) from cred_ag1 (F := F) (fun d => agC1 0 d) 0 c) $$ H
  icases H' with ⟨H, H0⟩
  ihave H' := (show (Pipeline.launchCred (fun d => agC1 0 d) c : sProp 𝕄) ⊢ iprop(Pipeline.launchCred (fun d => agC2 0 d) c ∗ agCred c 1) from cred_ag1 (F := F) (fun d => agC2 0 d) 1 c) $$ H
  icases H' with ⟨H, H1⟩
  ihave H' := (show (Pipeline.launchCred (fun d => agC2 0 d) c : sProp 𝕄) ⊢ iprop(Pipeline.launchCred (fun _ => 0) c ∗ agCred c 2) from cred_ag1 (F := F) (fun _ => 0) 2 c) $$ H
  icases H' with ⟨-, H2⟩
  isplitl [H0]; · iexact H0
  isplitl [H1] <;> iassumption

theorem creds (c : Dev nD) : (Pipeline.launchCred O₀ c : sProp 𝕄)
    ⊢ iprop((cred (tallyAt (bar c 0) () 3) ∗ (agCred c 0 ∗ agCred c 1 ∗ agCred c 2)) ∗ (cred (tallyAt (bar c 1) () 3) ∗ (rsCred c 0 ∗ rsCred c 1 ∗ rsCred c 2))) := by
  rw [show (O₀ : Dev nD → CellTallies nD τ sig Unit) = fun d => rsO d + agO 0 d from rfl, Pipeline.launchCred_add (fun d => rsO d) (fun d => agO 0 d)]
  iintro ⟨H1, H0⟩
  isplitl [H0]; · iapply (cred_ag (F := F) c) $$ H0
  iapply (cred_rs (F := F) c) $$ H1

/-! ## The first thread state of every device -/

theorem sems_eq (c : Dev nD) : (unscopedSems0 c : sProp 𝕄) = iprop(semVal (bar c 0) 0 ∗ semVal (bar c 1) 0) := by
  unfold unscopedSems0
  rw [bigSep_eq_bigSepL_of_eq [loc (.inl 0), loc (.inl 1)] (by decide) (by decide)]
  rfl

def bundle (c : Dev nD) : sProp 𝕄 :=
  iprop(((cred (tallyAt (bar c 0) () 3) ∗ (agCred c 0 ∗ agCred c 1 ∗ agCred c 2)) ∗ (cred (tallyAt (bar c 1) () 3) ∗ (rsCred c 0 ∗ rsCred c 1 ∗ rsCred c 2)))
    ∗ owes (c : Thread nD τ) (O₀ c) ∅ ∗ ∃ r, prngReg c r)

theorem E0_intro (κ : GSem nD τ sig → ℕ) (c : Dev nD) : iprop(records I κ ∗ (linear c ∗ bundle c)) ⊢ E I 0 c := by
  rw [E]
  unfold records linear bundle tk0 tk1
  iintro ⟨⟨#HI, #HR⟩, ⟨⟨Hb0, Hb1⟩, ⟨Ho0, Ho1⟩, ⟨Ht0, Hs0⟩, ⟨Ht1, Hs1⟩, ⟨Ht2, Hs2⟩⟩, ⟨⟨Hc0, Hd0⟩, ⟨Hc1, Hd1⟩⟩, HO, Hp⟩
  isplitl [Hp]; · iexact Hp
  isplitl [Hb0 Ho0 Ht0 Ht1 Ht2 Hc0 Hd0]
  · iexists κ
    isplitr; · iexact HI
    isplitr; · iexact HR
    isplitl [Hb0]; · iexact Hb0
    isplitl [Hc0]; · iexact Hc0
    isplitl [Ho0]; · iexact Ho0
    isplitl [Ht0 Ht1 Ht2]
    · isplitl [Ht0]; · iexact Ht0
      isplitl [Ht1] <;> iassumption
    iexact Hd0
  isplitl [Hb1 Ho1 Hs0 Hs1 Hs2 Hc1 Hd1]
  · iexists κ
    isplitr; · iexact HI
    isplitr; · iexact HR
    isplitl [Hb1]; · iexact Hb1
    isplitl [Hc1]; · iexact Hc1
    isplitl [Ho1]; · iexact Ho1
    isplitl [Hs0 Hs1 Hs2]
    · isplitl [Hs0]; · iexact Hs0
      isplitl [Hs1] <;> iassumption
    iexact Hd1
  iexists ∅
  iexact HO

theorem E0_all :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E I 0) : sProp 𝕄) := by
  have hcore (c : Dev nD) : iprop(unscopedSems0 c ∗ owes (c : Thread nD τ) (O₀ c) ∅ ∗ Pipeline.launchCred O₀ c ∗ prngReg c (ρ c) ∗ G c)
      ⊢ (iprop(bundle c ∗ ((semVal (bar c 0) 0 ∗ semVal (bar c 1) 0) ∗ G c)) : sProp 𝕄) := by
    rw [sems_eq]
    unfold bundle
    iintro ⟨Hs, HO, Hcr, Hp, HG⟩
    ihave Hc := (creds (F := F) c) $$ Hcr
    isplitl [Hc HO Hp]
    · isplitl [Hc]; · iexact Hc
      isplitl [HO]; · iexact HO
      iexists (ρ c); iexact Hp
    isplitl [Hs] <;> iassumption
  have hv : bigSep Finset.univ (fun c : Dev nD => (iprop(semVal (bar c 0) 0 ∗ semVal (bar c 1) 0) : sProp 𝕄)) ⊢ bigSep barCells (fun g => (semVal g 0 : sProp 𝕄)) :=
    Entails.of_eq (by
      rw [bigSep_map, bigSep_univ_prod]
      exact bigSep_congr fun c _ => (BI.bigSep_fin_two (fun b : Fin 2 => (semVal (bar c b) 0 : sProp 𝕄))).symm)
  have hat : bigSep barCells (fun g => (atPos ER g 0 ∅ 0 : sProp 𝕄))
      ⊢ bigSep Finset.univ (fun c : Dev nD => (iprop(atPos ER (bar c 0) 0 ∅ 0 ∗ atPos ER (bar c 1) 0 ∅ 0) : sProp 𝕄)) :=
    Entails.of_eq (by
      rw [bigSep_map, bigSep_univ_prod]
      exact bigSep_congr fun c _ => BI.bigSep_fin_two (fun b : Fin 2 => (atPos ER (bar c b) 0 ∅ 0 : sProp 𝕄)))
  have hopen : bigSep dmaCells (fun g => (openTok ER g : sProp 𝕄))
      ⊢ bigSep Finset.univ (fun c : Dev nD => (iprop((bigSep Finset.univ fun p : Fin 3 × Fin 4 => openTok ER (dma c (Fin.castLE (by decide) p.2) p.1))
        ∗ (bigSep Finset.univ fun p : Fin 3 × Fin 2 => openTok ER (dma c (Fin.natAdd 4 p.2) p.1))) : sProp 𝕄)) :=
    Entails.of_eq (by
      rw [bigSep_map, bigSep_univ_prod]
      exact bigSep_congr fun c _ => opens_eq c)
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(bundle c ∗ ((semVal (bar c 0) 0 ∗ semVal (bar c 1) 0) ∗ G c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells dmaCells toks)) from
    Entails.of_eq (bigSep_onDev (F := F) 0 (BI.own (ER (launchOf barCells dmaCells toks))))) $$ HG
  imod (Rounds.fund_launch ER (Rd I) cells_disjoint (fun g _ h => h) toks) $$ [Hv Hu] with ⟨%κ, -, #Hinv, #Hr, Hat, Hopen, Htok⟩
  · isplitl [Hv]
    · iapply hv $$ Hv
    · iexact Hu
  imodintro
  iapply (bigSep_with_persistent (R := records I κ) (Φ := fun c => iprop(linear c ∗ bundle c)) fun c _ => E0_intro I κ c)
  isplitr
  · unfold records
    isplitr; · iapply (invs_intro I κ); iexact Hinv
    iapply (rbars_intro (F := F)); iexact Hr
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hopen]; · iapply hopen $$ Hopen
    iapply (toks_around (F := F))
    iapply (Entails.of_eq (toks_eq (F := F))) $$ Htok
  · iexact HB

end Cert.MoeProof

end
-- ==== Proof.Run.lean ====
/-
  The run of @main: it ends with its arguments unchanged, its result at `rsOut`, and every counter at zero.
-/
module

public import proofs.«01_k».proof.Proof.Deal
public import proofs.«01_k».proof.Proof.Outs

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

theorem hX (c : Dev nD) : (II m).X c = V1 m c main_arg0 := by
  unfold II inp
  with_reducible rfl
theorem hA (c : Dev nD) : (II m).A c = V1 m c main_v1 := by
  unfold II inp
  with_reducible rfl

theorem not_arr0 (b : DevRef τ sig) (hb : b ∈ Sr0 \ ∅) (w : Fin cfg0.W) : b ≠ Proc.devRef .tc (Pipeline.arrRef spec0 w) := by
  rintro rfl
  have h := (Finset.mem_sdiff.mp (Finset.mem_sdiff.mp hb).1).2
  exact h (Finset.mem_map_of_mem _ (Finset.mem_image_of_mem _ (Finset.mem_univ w)))
theorem not_arr1 (b : DevRef τ sig) (hb : b ∈ Sr1 \ ∅) (w : Fin cfg1.W) : b ≠ Proc.devRef .tc (Pipeline.arrRef spec1 w) := by
  rintro rfl
  have h := (Finset.mem_sdiff.mp (Finset.mem_sdiff.mp hb).1).2
  exact h (Finset.mem_map_of_mem _ (Finset.mem_image_of_mem _ (Finset.mem_univ w)))

theorem rest0_eq (c : Dev nD) (b : DevRef τ sig) (hb : b ∈ Sr0 \ ∅) : V2 m (outs m) c b = V1 m c b := by
  rw [V2_eq]
  exact mid_of m c b (not_arr0 b hb 2) (not_arr0 b hb 3)
theorem rest1_eq (c : Dev nD) (b : DevRef τ sig) (hb : b ∈ Sr1 \ ∅) : V12 m (outs m) c b = V11 m (outs m) c b := by
  by_cases h : b = Proc.devRef .tc main_v2_1
  · subst h
    unfold V12
    rw [Function.update_self, outs_a', V11_a]
  · unfold V12
    rw [Function.update_of_ne h, Function.update_of_ne (not_arr1 b hb 1)]

theorem left0 (c : Dev nD) (w : Fin cfg0.W) :
    (dat0 (V1 m) (II m) c).arrAt w cfg0.N = V2 m (outs m) c (Proc.devRef .tc (Pipeline.arrRef spec0 w)) := by
  rw [V2_eq]
  fin_cases w
  · exact (arr0_0 (V1 m) (II m) c _).trans (mid_of m c main_arg0 (by decide) (by decide)).symm
  · exact (arr0_1 (V1 m) (II m) c _).trans (mid_of m c main_v1 (by decide) (by decide)).symm
  · exact (arr0_2 (V1 m) (II m) c).trans (mid_x m c).symm
  · exact (arr0_3 (V1 m) (II m) c).trans (mid_a m c).symm
theorem left1 (c : Dev nD) (w : Fin cfg1.W) :
    (dat1 (V11 m (outs m)) (II m) c).arrAt w cfg1.N = V12 m (outs m) c (Proc.devRef .tc (Pipeline.arrRef spec1 w)) := by
  fin_cases w
  · exact (arr1_0 (V11 m (outs m)) (II m) c _).trans (V12_of m (outs m) c main_v58 (by decide)).symm
  · exact (arr1_1 (V11 m (outs m)) (II m) c).trans (V12_o m c).symm

abbrev pd := pdats (V1 m) (V11 m (outs m)) (II m)
def R0 := reg0 (V1 m) (V11 m (outs m)) (II m) (V2 m (outs m)) (hX m) (hA m) (rest0_eq m) (left0 m)
def R1 := reg1 (V1 m) (V11 m (outs m)) (II m) (V12 m (outs m)) (II_P m) (rest1_eq m) (left1 m)

theorem unscoped_eq : ∀ sm : SemLoc sig, sm.isScoped .tc = false → sm = loc (.inl 0) ∨ sm = loc (.inl 1) := by decide

abbrev Tₙ (c : Dev nD) : sProp 𝕄 :=
  iprop(StableHlo.held (c : Thread nD τ) (Pipeline.ucRefs τ sig) (V12 m (outs m) c) ∗ (semVal (bar c 0) 0 ∗ semVal (bar c 1) 0))

theorem last_out (c : Dev nD) : iprop(StableHlo.held (c : Thread nD τ) (Pipeline.ucRefs τ sig) (V12 m (outs m) c) ∗ E (II m) 2 c)
    ⊢ iprop(Tₙ m c ∗ ∃ W, owes (c : Thread nD τ) (0 : CellTallies nD τ sig Unit) W) := by
  rw [E]
  iintro ⟨Hh, Hb, HO⟩
  isplitr [HO]
  · isplitl [Hh] <;> iassumption
  iexact HO

/-- What a device's final memory says. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3))
  ∧ s.mem ((c.tc : Thread nD τ).loc main_v59) = rsOut (II m) c

theorem fin_read (c : Dev nD) (s' : Phys nD τ sig (Elt F)) :
    iprop(Tₙ m c ∗ SI s') ⊢ (|={Set.univ}=> iprop(⌜Ends m c s'.mem ∧ s'.mem.sem (bar c 0) = 0 ∧ s'.mem.sem (bar c 1) = 0⌝ ∗ SI s') : sProp 𝕄) := by
  unfold Tₙ StableHlo.held
  iintro ⟨⟨Hh, Hb0, Hb1⟩, HSI⟩
  icombine HSI Hb0 gives %hb0
  icombine HSI Hb1 gives %hb1
  ihave Hr := (pointsTo_read_all (Pipeline.ucRefs τ sig) (fun b => ((c : Thread nD τ).1, b)) (V12 m (outs m) c) s') $$ [Hh HSI]
  · isplitl [Hh] <;> iassumption
  icases Hr with ⟨%h, HSI⟩
  imodintro
  isplitr
  · ipureintro
    refine ⟨⟨⟨?_, ?_, ?_, ?_⟩, ?_⟩, by simpa using hb0, by simpa using hb1⟩
    · exact (h (Proc.devRef .tc main_arg0) (Finset.mem_filter.mpr ⟨StableHlo.devRef_mem_tcRefs main_arg0, by decide⟩)).trans (V12_main_arg0 m (outs m) c)
    · exact (h (Proc.devRef .tc main_arg1) (Finset.mem_filter.mpr ⟨StableHlo.devRef_mem_tcRefs main_arg1, by decide⟩)).trans (V12_main_arg1 m (outs m) c)
    · exact (h (Proc.devRef .tc main_arg2) (Finset.mem_filter.mpr ⟨StableHlo.devRef_mem_tcRefs main_arg2, by decide⟩)).trans (V12_main_arg2 m (outs m) c)
    · exact (h (Proc.devRef .tc main_arg3) (Finset.mem_filter.mpr ⟨StableHlo.devRef_mem_tcRefs main_arg3, by decide⟩)).trans (V12_main_arg3 m (outs m) c)
    · exact (h (Proc.devRef .tc main_v59) (Finset.mem_filter.mpr ⟨StableHlo.devRef_mem_tcRefs main_v59, by decide⟩)).trans (V12_o m c)
  iexact HSI

theorem init_split :
    (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ G c))
          : sProp 𝕄) := by
  rw [← bigSep_sep']
  exact bigSep_mono fun c _ => by
    rw [← Pipeline.unscopedBufs_held (Ix := Unit) (Name := ℕ) (U := UU) (Lvl := ℕ) c (V0 m c)]
    exact BI.Entails.refl _

theorem hpre0 (c : Dev nD) : iprop(StableHlo.held (c : Thread nD τ) (Pipeline.ucRefs τ sig) (V1 m c) ∗ E (II m) 0 c) ⊢ (R0 m).pre c :=
  pre0 (V1 m) (V11 m (outs m)) (II m) (V2 m (outs m)) (hX m) (hA m) (rest0_eq m) (left0 m) c
theorem hpost0 (c : Dev nD) : (R0 m).post c ⊢ iprop(StableHlo.held (c : Thread nD τ) (Pipeline.ucRefs τ sig) (V2 m (outs m) c) ∗ E (II m) 1 c) :=
  post0 (V1 m) (V11 m (outs m)) (II m) (V2 m (outs m)) (hX m) (hA m) (rest0_eq m) (left0 m) c
theorem hpre1 (c : Dev nD) : iprop(StableHlo.held (c : Thread nD τ) (Pipeline.ucRefs τ sig) (V11 m (outs m) c) ∗ E (II m) 1 c) ⊢ (R1 m).pre c :=
  pre1 (V1 m) (V11 m (outs m)) (II m) (V12 m (outs m)) (II_P m) (rest1_eq m) (left1 m) c
theorem hpost1 (c : Dev nD) : (R1 m).post c ⊢ iprop(Tₙ m c ∗ ∃ W, owes (c : Thread nD τ) (0 : CellTallies nD τ sig Unit) W) :=
  (post1 (V1 m) (V11 m (outs m)) (II m) (V12 m (outs m)) (II_P m) (rest1_eq m) (left1 m) c).trans (last_out m c)

set_option backward.isDefEq.respectTransparency.types false in
/-- The whole program's run. -/
theorem run_main : θ_run (defs (F := F)) (onTc (τ := τ) (main (F := F))) ⟨m, fun _ => 0, ρ⟩
    (fun r => (∀ c : Dev nD, Ends m c r.2) ∧ r.2.sem = fun _ => 0) := by
  refine Pipeline.θ_run_regions_kit_dev_sems (pcfgs (F := F)) adm (pd m) () cellOf_inj EP defs₀ 𝒱₀ L lv m ρ main
    (segs m (outs m) 𝒱₀ L lv (E (II m)) () (pd m) (R0 m) (R1 m))
    (fun c Q => by
      rewrite [main_chain c, Pipeline.Seg.run_eq_chain,
        show (segs m (outs m) 𝒱₀ L lv (E (II m)) () (pd m) (R0 m) (R1 m) c).map Pipeline.Seg.prog = [
          StableHlo.seq hostOps0,
          Prog.lift (.customCall (Pipeline.entry 0) ()),
          StableHlo.seq (hostOps1 c),
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide) O₀ L_of_ne G (u₀ (F := F)) ?_
    (T₀ := fun c => iprop(StableHlo.held (c : Thread nD τ) (Pipeline.ucRefs τ sig) (V0 m c) ∗ E (II m) 0 c))
    (Tₙ := Tₙ m)
    (hch := fun c => ⟨.rfl, hpre0 m c, hpost0 m c, .rfl, .rfl, .rfl, .rfl, .rfl, .rfl, .rfl, .rfl,
      hpre1 m c, hpost1 m c⟩)
    (hinit := ?_) (QY := fun c s => Ends m c s ∧ s.sem (bar c 0) = 0 ∧ s.sem (bar c 1) = 0)
    (hfin := fin_read m)
    (hQ := fun s h hs => ⟨fun c => (h c).1, sem_eq_zero hs fun c sm hsm => ?_⟩)
  · unfold u₀ G
    iintro Hu
    ihave H := (ownU_pair _ _) $$ Hu
    icases H with ⟨HP, HX⟩
    imodintro
    isplitl [HP]; · iexact HP
    rw [bigSep_onDev]; iexact HX
  · iintro ⟨H, Hla⟩
    ihave H' := (init_split m ρ) $$ H
    icases H' with ⟨Hh, Hr⟩
    imod (E0_all ρ (II m)) $$ [Hr Hla] with HE
    · isplitl [Hr]; · iexact Hr
      iexact Hla
    imodintro
    rw [bigSep_sep']
    isplitl [Hh]; · iexact Hh
    iexact HE
  · rcases unscoped_eq sm hsm with rfl | rfl
    · exact (h c).2.1
    · exact (h c).2.2

end Cert.MoeProof

end
-- ==== Proof.Fits.lean ====
/-
  The precondition: no expert has more than 192 of a device's tokens.
-/
module

public import proofs.«01_k».proof.Pre_fits_KernelIdeal
public import proofs.«01_k».proof.Pre_fits_ReferenceIdeal
public import Idealize.ShloMosaic.Lib.StableHlo.Predicate
public import Idealize.ShloMosaic.Lib.Pointwise

@[expose] public section

noncomputable section

namespace Cert.MoeProof

open Idealize.ShloMosaic

theorem fits_facts : Cert.Pre_fits_KernelIdeal.Facts where
  bcast_S2048_S1x2048_1 := by decide
  bcast_S16_S16x1_0 := by decide
  bcast_S1x2048_S16x2048_0_1 := by decide
  bcast_S16x1_S16x2048_0_1 := by decide
  natLt_1_32 := by decide
  reducesTo_S16x2048_S16_d1 := by decide
  h_S_ := by decide
  bcast_S_S16 := by decide
  reducesTo_S16_S_d0 := by decide

theorem fits_facts_whole : Cert.Pre_fits_ReferenceIdeal.Facts where
  bcast_S8192_S1x8192_1 := by decide
  bcast_S16_S16x1_0 := by decide
  bcast_S1x8192_S16x8192_0_1 := by decide
  bcast_S16x1_S16x8192_0_1 := by decide
  natLt_1_32 := by decide
  reducesTo_S16x8192_S16_d1 := by decide
  h_S_ := by decide
  bcast_S_S16 := by decide
  reducesTo_S16_S_d0 := by decide

section
open Cert.Pre_fits_KernelIdeal

theorem andi_one (x y : BitVec 1) (h : IntOp.andi x y = 1#1) : x = 1#1 ∧ y = 1#1 := by
  revert x y
  decide

/-- Where the precondition holds of a device's assignments, each expert has at most 192 of them. -/
theorem fits_card [Facts] (x : FVec Ideal S2048x1024 .bf16) (a : IVec S2048 32) (w1 : FVec Ideal S4x1024x2048 .bf16)
    (w2 : FVec Ideal S4x2048x1024 .bf16) (h : fn x a w1 w2 = fun _ => 1#1) (e : Fin 16) :
    (Finset.univ.filter fun q : Fin 2048 => a (ix1 q) = BitVec.ofNat 32 e.val).card ≤ 192 := by
  have h0 := congrFun h ix0
  unfold fn at h0
  simp only [] at h0
  rw [Host.reduce_eq_fold] at h0
  have key : ∀ (s : Finset S16.Idx) (f : S16.Idx → BitVec 1), s.fold IntOp.andi 1#1 f = 1#1 → ∀ j ∈ s, f j = 1#1 := by
    classical
    intro s f
    induction s using Finset.induction_on with
    | empty => intro _ j hj; exact absurd hj (Finset.notMem_empty _)
    | insert b s hb ih =>
      intro hf j hj
      rw [Finset.fold_insert hb] at hf
      obtain ⟨h1, h2⟩ := andi_one _ _ hf
      rcases Finset.mem_insert.1 hj with rfl | hj
      · exact h1
      · exact ih h2 j hj
  have h1 := key _ _ h0 (ix1 e) (Finset.mem_filter.2 ⟨Finset.mem_univ _, funext fun k => k.elim0⟩)
  have hc := StableHlo.Predicate.toNat_reduce_count_cols (by decide)
    (cmpi .eq (broadcastInDim S16x2048 ![0, 1] Facts.bcast_S1x2048_S16x2048_0_1 (broadcastInDim S1x2048 ![1] Facts.bcast_S2048_S1x2048_1 a))
      (broadcastInDim S16x2048 ![0, 1] Facts.bcast_S16x1_S16x2048_0_1 (broadcastInDim S16x1 ![0] Facts.bcast_S16_S16x1_0 (iotaInDim S16 32 0))))
    Facts.natLt_1_32 Facts.reducesTo_S16x2048_S16_d1 Facts.h_S_ (ix1 e)
  have hb : ((Finset.univ : Finset (Fin 2048)).card : Nat) = 2048 := by rw [Finset.card_univ, Fintype.card_fin]
  have hl := hc.trans_le (Finset.card_filter_le _ _)
  have h2 := (StableHlo.Predicate.sle_iff_toNat (b := 192#32) (by omega) (by decide)).1 h1
  rw [hc] at h2
  refine le_trans (le_of_eq (congrArg Finset.card (Finset.filter_congr fun q _ => ?_))) h2
  have hj : (StableHlo.Predicate.ij ((ix1 e : S16.Idx) 0) q : S16x2048.Idx) = ix2 e q := eq_ix2 _
  rw [hj]
  pointwise
  exact StableHlo.Predicate.cmpi_eq_iff.symm
end

end Cert.MoeProof

end
-- ==== Proof.RefVal.lean ====
/-
  The reference's result at an index: the layers of the token's expert, zero if it has none.
-/
module

public import proofs.«01_k».proof.Proof.Gen.ReferenceIdeal.Run
public import Idealize.ShloMosaic.Lib.StableHlo.Predicate
public import Idealize.ShloMosaic.Lib.Pointwise

@[expose] public section

noncomputable section

namespace Cert.MoeRef

open Cert.ReferenceIdeal Cert.ReferenceIdeal.Gen
open Idealize.ShloMosaic Idealize.ShloMosaic.TcCoe Idealize.ShloMosaic.StableHlo

/-- Token `t` through the layers of expert `o`. -/
def lay (X : FVec Ideal S8192x1024 .bf16) (W1 : FVec Ideal S16x1024x2048 .bf16) (W2 : FVec Ideal S16x2048x1024 .bf16)
    (t : Fin 8192) (d : Fin 1024) (o : Nat) : EReal :=
  ∑ f : Fin 2048, max (∑ e : Fin 1024, X (ix2 t e) * W1 (ix3 ⟨o % 16, Nat.mod_lt _ (by decide)⟩ e f)) 0
    * W2 (ix3 ⟨o % 16, Nat.mod_lt _ (by decide)⟩ f d)

/-- The last of the first `n` numbers that `a` is, taken through `f`; zero if it is none. -/
def pick (f : Nat → EReal) (a : BitVec 32) : Nat → EReal
  | 0 => 0
  | n + 1 => if a = BitVec.ofNat 32 n then f n else pick f a n

theorem pick_hit (f : Nat → EReal) (e : Nat) : ∀ n, n ≤ 2 ^ 32 → e < n → pick f (BitVec.ofNat 32 e) n = f e
  | 0, _, h => absurd h (Nat.not_lt_zero _)
  | n + 1, hn, h => by
    unfold pick
    by_cases he : e = n
    · subst he
      rw [if_pos rfl]
    · rw [if_neg (fun q => he (by
        have q := congrArg BitVec.toNat q
        rw [BitVec.toNat_ofNat, BitVec.toNat_ofNat, Nat.mod_eq_of_lt (by omega), Nat.mod_eq_of_lt (by omega)] at q
        exact q))]
      exact pick_hit f e n (by omega) (by omega)

theorem pick_miss (f : Nat → EReal) (a : BitVec 32) : ∀ n, (∀ e, e < n → a ≠ BitVec.ofNat 32 e) → pick f a n = 0
  | 0, _ => rfl
  | n + 1, h => by
    unfold pick
    rw [if_neg (h n (Nat.lt_succ_self n))]
    exact pick_miss f a n fun e he => h e (by omega)

theorem step_at (X : FVec Ideal S8192x1024 .bf16) (A : IVec S8192 32) (W1 : FVec Ideal S16x1024x2048 .bf16)
    (W2 : FVec Ideal S16x2048x1024 .bf16) (o : Nat) (ho : o < 16) (h1 : S16x1024x2048.Slices ![o, 0, 0] S1x1024x2048)
    (h2 : S16x2048x1024.Slices ![o, 0, 0] S1x2048x1024) (rest : FVec Ideal S8192x1024 .f32) (t : Fin 8192) (d : Fin 1024)
    (hr : rest (ix2 t d) = pick (lay X W1 W2 t d) (A (ix1 t)) o) :
    select (broadcastInDim S8192x1024 ![0, 1] Facts₀.bcast_S8192x1_S8192x1024_0_1 (broadcastInDim S8192x1 ![0] Facts₀.bcast_S8192_S8192x1_0
        (cmpi .eq A (broadcastInDim S8192 ![] Facts₀.bcast_S_S8192 (constantI S_ 32 (BitVec.ofNat 32 o))))))
      (Host.dotGeneral dot_S8192x2048_S2048x1024_S8192x1024_1_0_0_1_n_n none
        (maximumf (Host.dotGeneral dot_S8192x1024_S1024x2048_S8192x2048_1_0_0_1_n_n none X
            (shapeCast S1024x2048 (extractStridedSlice S1x1024x2048 ![o, 0, 0] W1 h1) Facts₀.shapeCasts_S1x1024x2048_S1024x2048))
          (broadcastInDim S8192x2048 ![] Facts₀.bcast_S_S8192x2048 (constant S_ .f32 0x00000000#32)))
        (extf .f32 (shapeCast S2048x1024 (extractStridedSlice S1x2048x1024 ![o, 0, 0] W2 h2) Facts₀.shapeCasts_S1x2048x1024_S2048x1024)
          Facts₀.bitsLt_bf16_f32)) rest (ix2 t d)
      = pick (lay X W1 W2 t d) (A (ix1 t)) (o + 1) := by
  pointwise [dot_S8192x2048_S2048x1024_S8192x1024_1_0_0_1_n_n, dot_S8192x1024_S1024x2048_S8192x2048_1_0_0_1_n_n]
  show _ = if A (ix1 t) = BitVec.ofNat 32 o then lay X W1 W2 t d o else pick (lay X W1 W2 t d) (A (ix1 t)) o
  have ef : ∀ h, (⟨o, h⟩ : Fin 16) = ⟨o % 16, Nat.mod_lt _ (by decide)⟩ := fun h => Fin.ext (Nat.mod_eq_of_lt ho).symm
  by_cases h : A (ix1 t) = BitVec.ofNat 32 o
  · rw [if_pos h, StableHlo.Predicate.cmpi_eq_iff.2 h]
    show (∑ f : Fin 2048, max (∑ e : Fin 1024, X (ix2 t e) * W1 (ix3 (⟨o, ho⟩ : Fin 16) e f)) 0 * W2 (ix3 (⟨o, ho⟩ : Fin 16) f d) : EReal) = _
    rw [ef]
    rfl
  · rw [if_neg h]
    unfold Scalar.select
    exact (if_neg (fun q => h (StableHlo.Predicate.cmpi_eq_iff.1 q))).trans hr

variable (V : Valuation τ sig (Elt Ideal)) (t : Fin 8192) (d : Fin 1024)

/-- The reference's value at token `t`. -/
def rv (n : Nat) : EReal :=
  pick (lay (V (Proc.devRef .tc main_arg0)) (V (Proc.devRef .tc main_arg2)) (V (Proc.devRef .tc main_arg3)) t d)
    ((V (Proc.devRef .tc main_arg1) : IVec S8192 32) (ix1 t)) n

theorem at_v65 : (Value.res_main_v65 V : FVec Ideal S8192x1024 .f32) (ix2 t d) = rv V t d 5 := by
  unfold Value.res_main_v65 rv
  refine step_at _ _ _ _ 4 (by decide) _ _ _ t d ?_
  refine step_at _ _ _ _ 3 (by decide) _ _ _ t d ?_
  refine step_at _ _ _ _ 2 (by decide) _ _ _ t d ?_
  refine step_at _ _ _ _ 1 (by decide) _ _ _ t d ?_
  refine step_at _ _ _ _ 0 (by decide) _ _ _ t d ?_
  pointwise
  rfl

theorem at_v130 : (Value.res_main_v130 V : FVec Ideal S8192x1024 .f32) (ix2 t d) = rv V t d 10 := by
  unfold Value.res_main_v130 rv
  refine step_at _ _ _ _ 9 (by decide) _ _ _ t d ?_
  refine step_at _ _ _ _ 8 (by decide) _ _ _ t d ?_
  refine step_at _ _ _ _ 7 (by decide) _ _ _ t d ?_
  refine step_at _ _ _ _ 6 (by decide) _ _ _ t d ?_
  refine step_at _ _ _ _ 5 (by decide) _ _ _ t d ?_
  exact at_v65 V t d

theorem at_v195 : (Value.res_main_v195 V : FVec Ideal S8192x1024 .f32) (ix2 t d) = rv V t d 15 := by
  unfold Value.res_main_v195 rv
  refine step_at _ _ _ _ 14 (by decide) _ _ _ t d ?_
  refine step_at _ _ _ _ 13 (by decide) _ _ _ t d ?_
  refine step_at _ _ _ _ 12 (by decide) _ _ _ t d ?_
  refine step_at _ _ _ _ 11 (by decide) _ _ _ t d ?_
  refine step_at _ _ _ _ 10 (by decide) _ _ _ t d ?_
  exact at_v130 V t d

/-- The reference's result. -/
def res (m : (ℓ : Loc nD τ sig) → Buf (Elt Ideal) ℓ) : FVec Ideal S8192x1024 .f32 := fun i =>
  rv (launchContents m 0) (i 0) (i 1) 16

open Idealize.SL.Sem in
theorem run_res (m : (ℓ : Loc nD τ sig) → Buf (Elt Ideal) ℓ) (ρ : Dev nD → PrngReg) :
    θ_run defs (onTc (τ := τ) (main (F := Ideal))) ⟨m, fun _ => 0, ρ⟩ fun r =>
      r.2.mem (((0 : Dev nD).tc : Thread nD τ).loc main_v208) = res m
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3) :=
  (θ_run defs _ _).mono (fun _ h => ⟨(h 0).1.trans (funext fun i => by
    obtain ⟨t, d, rfl⟩ : ∃ (t : Fin 8192) (d : Fin 1024), i = ix2 t d := ⟨i 0, i 1, eq_ix2 i⟩
    show _ = rv (launchContents m 0) t d 16
    unfold rv
    refine step_at _ _ _ _ 15 (by decide) _ _ _ t d ?_
    exact at_v195 _ t d), (h 0).2⟩) (Value.run m ρ)

end Cert.MoeRef

end
-- ==== Proof.HostReads.lean ====
/-
  What the host operations between the two calls leave, as terms over the gathered arrays.
-/
module

public import proofs.«01_k».proof.Proof.Gen.KernelIdeal
public import proofs.«01_k».proof.Proof.Gen.KernelIdeal.Launch
public import Idealize.ShloMosaic.Lib.StableHlo.RunRead

@[expose] public section

noncomputable section

namespace Cert.MoeProof

open Cert.KernelIdeal Cert.KernelIdeal.Gen

open Idealize.ShloMosaic
open Idealize.ShloMosaic.TcCoe
open StableHlo (after)

variable {F : FTy → Type} [FloatOps F]

/-- The assignments as one line. -/
def hTok (B : IVec S64x128 32) : IVec S8192 32 := shapeCast S8192 B Facts₀.shapeCasts_S64x128_S8192
/-- The assignments in order. -/
def hSa (a : IVec S8192 32) : IVec S8192 32 := (Host.sort2 S8192 0 comparator_i32_i32_d0 a (iotaInDim S8192 32 0)).1
/-- The tokens in the order of their assignments. -/
def hOrd (a : IVec S8192 32) : IVec S8192 32 := (Host.sort2 S8192 0 comparator_i32_i32_d0 a (iotaInDim S8192 32 0)).2
/-- The first of the device's experts. -/
def hBase (c : Dev nD) : IVec S_ 32 :=
  muli (id (Host.remui (Host.divui (constantI S_ 32 (Dev.word c)) (constantI S_ 32 1#32)) (constantI S_ 32 4#32))) (constantI S_ 32 4#32)
/-- The device's experts. -/
def hExp (c : Dev nD) : IVec S4 32 := addi (broadcastInDim S4 ![] Facts₀.bcast_S_S4 (hBase c)) (iotaInDim S4 32 0)
/-- How many assignments come before each of the experts. -/
def hCnt (e : IVec S4 32) (sa : IVec S8192 32) : IVec S4 32 :=
  Host.reduce IntOp.addi
    ((extui 32 · Facts₀.natLt_1_32) (cmpi .slt
      (broadcastInDim S4x8192 ![0, 1] Facts₀.bcast_S1x8192_S4x8192_0_1 (broadcastInDim S1x8192 ![1] Facts₀.bcast_S8192_S1x8192_1 sa))
      (broadcastInDim S4x8192 ![0, 1] Facts₀.bcast_S4x1_S4x8192_0_1 (broadcastInDim S4x1 ![0] Facts₀.bcast_S4_S4x1_0 e))))
    (constantI S_ 32 0#32) Facts₀.reducesTo_S4x8192_S4_d1 Facts₀.h_S_
/-- Where each window starts. -/
def hStart (n : IVec S4 32) : IVec S4x1 32 :=
  broadcastInDim S4x1 ![0] Facts₀.bcast_S4_S4x1_0
    (select (cmpi .slt n (broadcastInDim S4 ![] Facts₀.bcast_S_S4 (constantI S_ 32 0#32)))
      (addi n (broadcastInDim S4 ![] Facts₀.bcast_S_S4 (constantI S_ 32 8192#32))) n)
/-- The windows of a line. -/
def hWin (x : IVec S8192 32) (i : IVec S4x1 32) : IVec S4x768 32 :=
  Host.gather gather_S8192_S4x1_S4x768_1_n_n_n_0_1_768 x i
/-- Which entries of the windows belong to their expert. -/
def hValid (e : IVec S4 32) (w : IVec S4x768 32) : IVec S4x768 1 :=
  cmpi .eq w (broadcastInDim S4x768 ![0, 1] Facts₀.bcast_S4x1_S4x768_0_1 (broadcastInDim S4x1 ![0] Facts₀.bcast_S4_S4x1_0 e))

theorem read1_v27 (c : Dev nD) (V : Valuation τ sig (Elt F)) :
    after (hostOps1 c) V (Proc.devRef .tc main_v27)
      = hWin (hOrd (hTok (V (Proc.devRef .tc main_v2_1))))
          (hStart (hCnt (hExp c) (hSa (hTok (V (Proc.devRef .tc main_v2_1)))))) := by
  after_reads_simp
  rfl
theorem read1_v37 (c : Dev nD) (V : Valuation τ sig (Elt F)) :
    after (hostOps1 c) V (Proc.devRef .tc main_v37)
      = hValid (hExp c) (hWin (hSa (hTok (V (Proc.devRef .tc main_v2_1))))
          (hStart (hCnt (hExp c) (hSa (hTok (V (Proc.devRef .tc main_v2_1))))))) := by
  after_reads_simp
  rfl
theorem read1_v38 (c : Dev nD) (V : Valuation τ sig (Elt F)) :
    after (hostOps1 c) V (Proc.devRef .tc main_v38)
      = shapeCast S3072 (after (hostOps1 c) V (Proc.devRef .tc main_v27)) Facts₀.shapeCasts_S4x768_S3072 := by
  after_reads_simp
  rfl

/-- A negative position counts from the end. -/
def hWrap (i : IVec S3072 32) : IVec S3072 32 :=
  select (cmpi .slt i (broadcastInDim S3072 ![] Facts₀.bcast_S_S3072 (constantI S_ 32 0#32)))
    (addi i (broadcastInDim S3072 ![] Facts₀.bcast_S_S3072 (constantI S_ 32 8192#32))) i
/-- A column of positions. -/
def hCol (i : IVec S3072 32) : IVec S3072x1 32 := broadcastInDim S3072x1 ![0] Facts₀.bcast_S3072_S3072x1_0 (hWrap i)
/-- Which positions are in range. -/
def hOk (i : IVec S3072x1 32) : IVec S3072 1 :=
  Host.reduce IntOp.andi
    (andi (cmpi .sge i (broadcastInDim S3072x1 ![] Facts₀.bcast_S_S3072x1 (constantI S_ 32 0#32)))
      (cmpi .sle i (broadcastInDim S3072x1 ![0, 1] Facts₀.bcast_S1x1_S3072x1_0_1
        (broadcastInDim S1x1 ![1] Facts₀.bcast_S1_S1x1_1 (constantI S1 32 8191#32)))))
    (constantI S_ 1 1#1) Facts₀.reducesTo_S3072x1_S3072_d1 Facts₀.h_S_
/-- The rows at the positions. -/
def hTake (x : FVec F S8192x1024 .bf16) (i : IVec S3072 32) : FVec F S3072x1024 .bf16 :=
  select (broadcastInDim S3072x1024 ![0] Facts₀.bcast_S3072_S3072x1024_0 (hOk (hCol i)))
    (Host.gather gather_S8192x1024_S3072x1_S3072x1024_1_0_n_n_0_1_11024 x (hCol i))
    (broadcastInDim S3072x1024 ![] Facts₀.bcast_S_S3072x1024 (constant S_ .bf16 0x7FC0#16))

theorem read2_v39 (V : Valuation τ sig (Elt F)) :
    after hostOps1_1 V (Proc.devRef .tc main_v39)
      = hTake (V (Proc.devRef .tc main_v2_0)) (V (Proc.devRef .tc main_v38)) := by
  after_reads_simp
  rfl

/-- The experts' first products. -/
def hUp (x : FVec F S3072x1024 .bf16) (w : FVec F S4x1024x2048 .bf16) : FVec F S4x768x2048 .f32 :=
  Host.dotGeneral dot_S4x768x1024_S4x1024x2048_S4x768x2048_2_1_1_2_0_0 none
    (shapeCast S4x768x1024 x Facts₀.shapeCasts_S3072x1024_S4x768x1024) w
/-- What is positive of them. -/
def hRelu (x : FVec F S4x768x2048 .f32) : FVec F S4x768x2048 .f32 :=
  maximumf x (broadcastInDim S4x768x2048 ![] Facts₀.bcast_S_S4x768x2048 (constant S_ .f32 0x00000000#32))
/-- The second products. -/
def hDown (h : FVec F S4x768x2048 .f32) (w : FVec F S4x2048x1024 .bf16) : FVec F S4x768x1024 .f32 :=
  Host.dotGeneral dot_S4x768x2048_S4x2048x1024_S4x768x1024_2_1_1_2_0_0 none (truncf .bf16 h Facts₀.bitsLt_bf16_f32) w
/-- Zero where the window's entry is not the expert's. -/
def hMask (v : IVec S4x768 1) (y : FVec F S4x768x1024 .f32) : FVec F S4x768x1024 .f32 :=
  select (broadcastInDim S4x768x1024 ![0, 1, 2] Facts₀.bcast_S4x768x1_S4x768x1024_0_1_2
      (broadcastInDim S4x768x1 ![0, 1] Facts₀.bcast_S4x768_S4x768x1_0_1 v))
    y (broadcastInDim S4x768x1024 ![] Facts₀.bcast_S_S4x768x1024 (id (constant S_ .f32 0x00000000#32)))
/-- A position out of range where the window's entry is not the expert's. -/
def hDrop (v : IVec S4x768 1) (i : IVec S4x768 32) : IVec S4x768 32 :=
  select v i (broadcastInDim S4x768 ![] Facts₀.bcast_S_S4x768 (id (constantI S_ 32 8192#32)))
/-- The rows put at their positions in an array of zeros. -/
def hPut (i : IVec S4x768 32) (y : FVec F S4x768x1024 .bf16) : FVec F S8192x1024 .bf16 :=
  Host.scatter scatter_S8192x1024_S3072x1_S3072x1024_1_0_0_1 (fun _ b => b)
    (broadcastInDim S8192x1024 ![] Facts₀.bcast_S_S8192x1024 (constant S_ .bf16 0x0000#16))
    (hCol (shapeCast S3072 i Facts₀.shapeCasts_S4x768_S3072))
    (shapeCast S3072x1024 y Facts₀.shapeCasts_S4x768x1024_S3072x1024)

theorem read3_v41 (V : Valuation τ sig (Elt F)) :
    after hostOps1_2 V (Proc.devRef .tc main_v41) = hUp (V (Proc.devRef .tc main_v39)) (V (Proc.devRef .tc main_arg2)) := by
  after_reads_simp
  rfl
theorem read4_v42 (V : Valuation τ sig (Elt F)) :
    after hostOps1_3 V (Proc.devRef .tc main_v42) = hRelu (V (Proc.devRef .tc main_v41)) := by
  after_reads_simp
  rfl
theorem read5_v44 (V : Valuation τ sig (Elt F)) :
    after hostOps1_4 V (Proc.devRef .tc main_v44) = hDown (V (Proc.devRef .tc main_v42)) (V (Proc.devRef .tc main_arg3)) := by
  after_reads_simp
  rfl
theorem read6_v46 (V : Valuation τ sig (Elt F)) :
    after hostOps1_5 (after hostOps1_4 V) (Proc.devRef .tc main_v46)
      = hMask (V (Proc.devRef .tc main_v37)) (after hostOps1_4 V (Proc.devRef .tc main_v44)) := by
  after_reads_simp
  rfl
theorem read7_v47 (V : Valuation τ sig (Elt F)) :
    after hostOps1_6 V (Proc.devRef .tc main_v47) = truncf .bf16 (V (Proc.devRef .tc main_v46)) Facts₀.bitsLt_bf16_f32 := by
  after_reads_simp
theorem read8_v48 (V : Valuation τ sig (Elt F)) :
    after hostOps1_7 (after hostOps1_6 V) (Proc.devRef .tc main_v48)
      = hDrop (V (Proc.devRef .tc main_v37)) (V (Proc.devRef .tc main_v27)) := by
  after_reads_simp
  rfl
theorem read9_v58 (V : Valuation τ sig (Elt F)) :
    after hostOps1_8 V (Proc.devRef .tc main_v58) = hPut (V (Proc.devRef .tc main_v48)) (V (Proc.devRef .tc main_v47)) := by
  after_reads_simp
  rfl

/-! The buffers a stretch does not write. -/

theorem keep2 (V : Valuation τ sig (Elt F)) :
    after hostOps1_1 V (Proc.devRef .tc main_v27) = V (Proc.devRef .tc main_v27)
    ∧ after hostOps1_1 V (Proc.devRef .tc main_v37) = V (Proc.devRef .tc main_v37)
    ∧ after hostOps1_1 V (Proc.devRef .tc main_arg2) = V (Proc.devRef .tc main_arg2)
    ∧ after hostOps1_1 V (Proc.devRef .tc main_arg3) = V (Proc.devRef .tc main_arg3) := by
  refine ⟨?_, ?_, ?_, ?_⟩ <;> after_reads_simp
theorem keep1 (c : Dev nD) (V : Valuation τ sig (Elt F)) :
    after (hostOps1 c) V (Proc.devRef .tc main_v2_0) = V (Proc.devRef .tc main_v2_0)
    ∧ after (hostOps1 c) V (Proc.devRef .tc main_arg2) = V (Proc.devRef .tc main_arg2)
    ∧ after (hostOps1 c) V (Proc.devRef .tc main_arg3) = V (Proc.devRef .tc main_arg3) := by
  refine ⟨?_, ?_, ?_⟩ <;> after_reads_simp
theorem keep34 (V : Valuation τ sig (Elt F)) :
    after hostOps1_3 (after hostOps1_2 V) (Proc.devRef .tc main_v27) = V (Proc.devRef .tc main_v27)
    ∧ after hostOps1_3 (after hostOps1_2 V) (Proc.devRef .tc main_v37) = V (Proc.devRef .tc main_v37)
    ∧ after hostOps1_3 (after hostOps1_2 V) (Proc.devRef .tc main_arg3) = V (Proc.devRef .tc main_arg3) := by
  refine ⟨?_, ?_, ?_⟩ <;> after_reads_simp
theorem keep56 (V : Valuation τ sig (Elt F)) :
    after hostOps1_5 (after hostOps1_4 V) (Proc.devRef .tc main_v27) = V (Proc.devRef .tc main_v27)
    ∧ after hostOps1_5 (after hostOps1_4 V) (Proc.devRef .tc main_v37) = V (Proc.devRef .tc main_v37) := by
  refine ⟨?_, ?_⟩ <;> after_reads_simp
theorem keep8 (V : Valuation τ sig (Elt F)) :
    after hostOps1_7 V (Proc.devRef .tc main_v47) = V (Proc.devRef .tc main_v47) := by
  after_reads_simp

/-- What device `c` adds to the result, from the gathered arrays and its experts' weights. -/
def hOut (c : Dev nD) (x : FVec F S8192x1024 .bf16) (a : IVec S8192 32) (w1 : FVec F S4x1024x2048 .bf16)
    (w2 : FVec F S4x2048x1024 .bf16) : FVec F S8192x1024 .bf16 :=
  let i := hWin (hOrd a) (hStart (hCnt (hExp c) (hSa a)))
  let v := hValid (hExp c) (hWin (hSa a) (hStart (hCnt (hExp c) (hSa a))))
  hPut (hDrop v i) (truncf .bf16 (hMask v (hDown (hRelu (hUp
    (hTake x (shapeCast S3072 i Facts₀.shapeCasts_S4x768_S3072)) w1)) w2)) Facts₀.bitsLt_bf16_f32)

theorem read_v58 (c : Dev nD) (V : Valuation τ sig (Elt F)) :
    after hostOps1_8 (after hostOps1_7 (after hostOps1_6 (after hostOps1_5
      (after hostOps1_4 (after hostOps1_3 (after hostOps1_2 (after hostOps1_1
        (after (hostOps1 c) V)))))))) (Proc.devRef .tc main_v58)
      = hOut c (V (Proc.devRef .tc main_v2_0)) (hTok (V (Proc.devRef .tc main_v2_1)))
          (V (Proc.devRef .tc main_arg2)) (V (Proc.devRef .tc main_arg3)) := by
  rw [read9_v58, read8_v48, keep8, read7_v47, read6_v46, (keep56 _).1, (keep56 _).2, read5_v44, read4_v42, read3_v41,
    (keep34 _).1, (keep34 _).2.1, (keep34 _).2.2, read2_v39, (keep2 _).1, (keep2 _).2.1, (keep2 _).2.2.1, (keep2 _).2.2.2,
    read1_v38, read1_v27, read1_v37, (keep1 _ _).1, (keep1 _ _).2.1, (keep1 _ _).2.2]
  rfl

end Cert.MoeProof

end
-- ==== Proof.HostSort.lean ====
/-
  The order of the assignments and the windows of it that the device's experts read.
-/
module

public import proofs.«01_k».proof.Proof.HostReads
public import Idealize.ShloMosaic.Lib.SortFacts
public import Idealize.ShloMosaic.Lib.StableHlo.Predicate
public import Idealize.ShloMosaic.Lib.Pointwise

@[expose] public section

noncomputable section

namespace Cert.MoeProof

open Cert.KernelIdeal Cert.KernelIdeal.Gen
open Idealize.ShloMosaic

/-- Token `q` goes before token `q'`. -/
def bef (a : IVec S8192 32) (q q' : Fin 8192) : Bool :=
  comparator_i32_i32_d0 (a (ix1 q), BitVec.ofNat 32 q.val) (a (ix1 q'), BitVec.ofNat 32 q'.val) == 1#1
/-- The token in place `n` of the order. -/
def sg (a : IVec S8192 32) : Fin 8192 → Fin 8192 := sortedFrom (bef a)

theorem bef_iff (a : IVec S8192 32) (q q' : Fin 8192) : bef a q q' = decide ((a (ix1 q)).toInt < (a (ix1 q')).toInt) := by
  unfold bef comparator_i32_i32_d0 IntOp.cmpi BitVec.slt
  by_cases h : (a (ix1 q)).toInt < (a (ix1 q')).toInt <;> simp [h]

theorem along_ix1 (j : S8192.Idx) (k : Fin 8192) : j.along (0 : Fin 1) k = ix1 k :=
  (Shape.Idx.along_rank1 j k).trans (eq_ix1 _)

theorem hSa_at (a : IVec S8192 32) (n : Fin 8192) : hSa a (ix1 n) = a (ix1 (sg a n)) := by
  unfold hSa Host.sort2
  rw [dif_pos (by decide : 0 < S8192.rank)]
  refine (congrArg a (along_ix1 _ _)).trans ?_
  refine congrArg (fun f => a (ix1 (sortedFrom f n))) (funext fun k => funext fun k' => ?_)
  exact congrArg₂ (fun i i' : S8192.Idx => comparator_i32_i32_d0 (a i, iotaInDim S8192 32 0 i) (a i', iotaInDim S8192 32 0 i') == 1#1)
    (along_ix1 (ix1 n) k) (along_ix1 (ix1 n) k')
theorem hOrd_at (a : IVec S8192 32) (n : Fin 8192) : hOrd a (ix1 n) = BitVec.ofNat 32 (sg a n).val := by
  unfold hOrd Host.sort2
  rw [dif_pos (by decide : 0 < S8192.rank)]
  refine (congrArg (iotaInDim S8192 32 0) (along_ix1 _ _)).trans ?_
  refine congrArg (fun f => BitVec.ofNat 32 (sortedFrom f n).val) (funext fun k => funext fun k' => ?_)
  exact congrArg₂ (fun i i' : S8192.Idx => comparator_i32_i32_d0 (a i, iotaInDim S8192 32 0 i) (a i', iotaInDim S8192 32 0 i') == 1#1)
    (along_ix1 (ix1 n) k) (along_ix1 (ix1 n) k')

theorem sg_surj (a : IVec S8192 32) : Function.Surjective (sg a) := sortedFrom_surjective _
theorem sg_inj (a : IVec S8192 32) : Function.Injective (sg a) := sortedFrom_injective _
theorem sg_mono (a : IVec S8192 32) (n n' : Fin 8192) (h : n ≤ n') : (a (ix1 (sg a n))).toInt ≤ (a (ix1 (sg a n'))).toInt := by
  rcases eq_or_lt_of_le h with rfl | h
  · exact le_refl _
  · have := sortedFrom_noInversion (bef a) (bef a)
      (fun q q' e => by rw [bef_iff] at e ⊢; simp only [decide_eq_true_eq, decide_eq_false_iff_not, not_lt] at *; omega)
      (fun q q' e => e)
      (fun q q' q'' e e' => by rw [bef_iff] at e e' ⊢; simp only [decide_eq_false_iff_not, not_lt] at *; omega) n n' h
    rw [bef_iff] at this
    exact not_lt.1 (of_decide_eq_false this)

/-- The device's expert `g`. -/
theorem hExp_at : ∀ (c : Dev nD) (g : Fin 4), hExp c (ix1 g) = BitVec.ofNat 32 (4 * c.val + g.val) := by
  decide

/-- How many of the ordered assignments come before `e`. -/
theorem hCnt_at (e : IVec S4 32) (sa : IVec S8192 32) (g : Fin 4) :
    (hCnt e sa (ix1 g)).toNat = (Finset.univ.filter fun q : Fin 8192 => (sa (ix1 q)).toInt < (e (ix1 g)).toInt).card := by
  unfold hCnt
  refine (StableHlo.Predicate.toNat_reduce_count_cols (by decide) _ _ _ _ _).trans (congrArg Finset.card (Finset.filter_congr fun q _ => ?_))
  have h : (StableHlo.Predicate.ij ((ix1 g : S4.Idx) 0) q : S4x8192.Idx) = ix2 g q := eq_ix2 _
  rw [h]
  pointwise
  unfold IntOp.cmpi BitVec.slt
  by_cases h : (sa (ix1 q)).toInt < (e (ix1 g)).toInt <;> simp [h]

theorem hStart_at (n : IVec S4 32) (g : Fin 4) (h : (n (ix1 g)).toNat < 2 ^ 31) : hStart n (ix2 g 0) = n (ix1 g) := by
  unfold hStart
  pointwise
  unfold Scalar.select IntOp.cmpi
  have : ¬ (n (ix1 g)).toInt < 0 := by rw [StableHlo.Predicate.toInt_eq_toNat_of_lt h]; omega
  simp [BitVec.slt, this]

/-- Where the window of `g` starts. -/
def lo (i : IVec S4x1 32) (g : Fin 4) : Nat := min (i (ix2 g 0)).toInt.toNat 7424

theorem lo_lt (i : IVec S4x1 32) (g : Fin 4) (k : Fin 768) : lo i g + k.val < 8192 := by
  have := k.isLt
  unfold lo
  omega

theorem hWin_at (x : IVec S8192 32) (i : IVec S4x1 32) (g : Fin 4) (k : Fin 768) :
    hWin x i (ix2 g k) = x (ix1 ⟨lo i g + k.val, lo_lt i g k⟩) := by
  unfold hWin Host.gather
  refine congrArg x (funext fun a => ?_)
  match a with
  | ⟨0, _⟩ =>
    refine Fin.ext ?_
    show GatherDims.start gather_S8192_S4x1_S4x768_1_n_n_n_0_1_768 (ix2 g k) i 0
      + GatherDims.batchCoord gather_S8192_S4x1_S4x768_1_n_n_n_0_1_768 (ix2 g k) 0
      + GatherDims.offCoord gather_S8192_S4x1_S4x768_1_n_n_n_0_1_768 (ix2 g k) 0 = lo i g + k.val
    rw [GatherDims.batchCoord_eq_zero _ _ _ (by decide)]
    unfold GatherDims.start GatherDims.offCoord
    rw [dif_pos (by decide), dif_pos (by decide)]
    have e : GatherDims.siIdx gather_S8192_S4x1_S4x768_1_n_n_n_0_1_768 (ix2 g k) ⟨0, by decide⟩ = (ix2 g 0 : S4x1.Idx) := by
      funext b
      match b with
      | ⟨0, _⟩ => rfl
      | ⟨1, _⟩ => rfl
    show min (i (GatherDims.siIdx gather_S8192_S4x1_S4x768_1_n_n_n_0_1_768 (ix2 g k) ⟨0, _⟩)).toInt.toNat 7424 + 0 + k.val = _
    rw [e]
    rfl

end Cert.MoeProof

end
-- ==== Proof.HostVal.lean ====
/-
  The host operations between the two calls, at an index.
-/
module

public import proofs.«01_k».proof.Proof.HostSort
public import Idealize.ShloMosaic.Lib.Pointwise
public import Idealize.ShloMosaic.Lib.Routing.Ops
public import Idealize.ShloMosaic.Lib.Routing.OpsSet
public import Idealize.ShloMosaic.Lib.Routing.OpsPair
public import Idealize.ShloMosaic.Lib.Pointwise.IndexBridge

@[expose] public section

noncomputable section

namespace Cert.MoeProof

open Cert.KernelIdeal Cert.KernelIdeal.Gen
open Idealize.ShloMosaic

/-- Entry `k` of window `g`, in the windows' one line. -/
def fl (g : Fin 4) (k : Fin 768) : Fin 3072 := ⟨768 * g.val + k.val, by omega⟩

theorem fl_surj (r : Fin 3072) : ∃ g k, r = fl g k :=
  ⟨⟨r.val / 768, by omega⟩, ⟨r.val % 768, by omega⟩, Fin.ext (by show r.val = 768 * (r.val / 768) + r.val % 768; omega)⟩

theorem cast_fl {α : Type} (x : S4x768.Idx → α) (g : Fin 4) (k : Fin 768) :
    shapeCast S3072 x Facts₀.shapeCasts_S4x768_S3072 (ix1 (fl g k)) = x (ix2 g k) := by
  refine shapeCast_apply x _ _ _ ?_
  rw [Shape.rowMajor_val_one, Shape.rowMajor_val_two]
  show g.val * 768 + k.val = 768 * g.val + k.val
  omega

theorem hCol_at (i : IVec S3072 32) (r : Fin 3072) (h : (i (ix1 r)).toNat < 2 ^ 31) : hCol i (ix2 r 0) = i (ix1 r) := by
  unfold hCol hWrap
  pointwise
  unfold Scalar.select IntOp.cmpi
  have : ¬ (i (ix1 r)).toInt < 0 := by rw [StableHlo.Predicate.toInt_eq_toNat_of_lt h]; omega
  simp [BitVec.slt, this]

theorem hOk_at (i : IVec S3072x1 32) (r : Fin 3072) (b : Fin 8192) (h : i (ix2 r 0) = BitVec.ofNat 32 b.val) : hOk i (ix1 r) = 1#1 := by
  have hb := b.isLt
  unfold hOk
  pointwise
  rw [Finset.univ_unique, Finset.fold_singleton]
  show IntOp.andi (IntOp.andi (IntOp.cmpi .sge (i (ix2 r 0)) 0#32) (IntOp.cmpi .sle (i (ix2 r 0)) 8191#32)) 1#1 = 1#1
  rw [h]
  have h1 : IntOp.cmpi .sge (BitVec.ofNat 32 b.val) 0#32 = 1#1 :=
    (StableHlo.Predicate.sle_ofNat_iff 0 b.val (by omega) (by omega)).2 (Nat.zero_le _)
  have h2 : IntOp.cmpi .sle (BitVec.ofNat 32 b.val) 8191#32 = 1#1 :=
    (StableHlo.Predicate.sle_ofNat_iff b.val 8191 (by omega) (by omega)).2 (by omega)
  rw [h1, h2]
  rfl

theorem hTake_at (x : FVec Ideal S8192x1024 .bf16) (i : IVec S3072 32) (r : Fin 3072) (d : Fin 1024) (b : Fin 8192)
    (h : i (ix1 r) = BitVec.ofNat 32 b.val) : hTake x i (ix2 r d) = x (ix2 b d) := by
  have hb := b.isLt
  have hc : hCol i (ix2 r 0) = BitVec.ofNat 32 b.val := by
    rw [hCol_at i r (by rw [h, BitVec.toNat_ofNat]; omega), h]
  unfold hTake
  pointwise
  rw [hOk_at _ r b hc]
  show Host.gather _ _ _ _ = _
  rw [ix2_eq_valueIdx, ix2_eq_valueIdx]
  exact Routing.gather_row _ rfl rfl rfl rfl rfl x _ r d b (by rw [← ix2_eq_valueIdx]; exact hc) (by decide)

theorem hUp_at (x : FVec Ideal S3072x1024 .bf16) (w : FVec Ideal S4x1024x2048 .bf16) (g : Fin 4) (k : Fin 768) (f : Fin 2048) :
    hUp x w (ix3 g k f) = ∑ d : Fin 1024, x (ix2 (fl g k) d) * w (ix3 g d f) := by
  unfold hUp
  pointwise [dot_S4x768x1024_S4x1024x2048_S4x768x2048_2_1_1_2_0_0]
  exact Finset.sum_congr rfl fun e _ => congrArg (fun q : Fin 3072 => x (ix2 q e) * w (ix3 g e f))
    (Fin.ext (by show g.val * 768 + k.val = 768 * g.val + k.val; omega))

theorem hRelu_at (x : FVec Ideal S4x768x2048 .f32) (j : S4x768x2048.Idx) : hRelu x j = max (x j) 0 := by
  unfold hRelu
  pointwise

theorem hDown_at (x : FVec Ideal S4x768x2048 .f32) (w : FVec Ideal S4x2048x1024 .bf16) (g : Fin 4) (k : Fin 768) (d : Fin 1024) :
    hDown x w (ix3 g k d) = ∑ f : Fin 2048, x (ix3 g k f) * w (ix3 g f d) := by
  unfold hDown
  pointwise [dot_S4x768x2048_S4x2048x1024_S4x768x1024_2_1_1_2_0_0]

theorem hMask_at (v : IVec S4x768 1) (y : FVec Ideal S4x768x1024 .f32) (g : Fin 4) (k : Fin 768) (d : Fin 1024)
    (h : v (ix2 g k) = 1#1) : hMask v y (ix3 g k d) = y (ix3 g k d) := by
  unfold hMask
  pointwise
  rw [h]
  rfl

theorem hDrop_at (v : IVec S4x768 1) (i : IVec S4x768 32) (g : Fin 4) (k : Fin 768) :
    hDrop v i (ix2 g k) = if v (ix2 g k) = 1#1 then i (ix2 g k) else 8192#32 := by
  unfold hDrop
  pointwise
  rfl

theorem hValid_at (e : IVec S4 32) (w : IVec S4x768 32) (g : Fin 4) (k : Fin 768) :
    hValid e w (ix2 g k) = 1#1 ↔ w (ix2 g k) = e (ix1 g) := by
  unfold hValid
  pointwise
  exact StableHlo.Predicate.cmpi_eq_iff

/-- Where row `r` of the windows' rows goes. -/
theorem lands (i : IVec S3072x1 32) (r : Fin 3072) (d d' : Fin 1024) (t : Fin 8192) :
    scatter_S8192x1024_S3072x1_S3072x1024_1_0_0_1.resultIdx? (ix2 r d) i = some (ix2 t d')
      ↔ (i (ix2 r 0)).toInt = (t.val : Int) ∧ d = d' := by
  have h0 : ScatterDims.start scatter_S8192x1024_S3072x1_S3072x1024_1_0_0_1 (ix2 r d) i 0 = (i (ix2 r 0)).toInt := by
    unfold ScatterDims.start
    rw [dif_pos (by decide)]
    refine congrArg (fun j => (i j).toInt) (funext fun b => ?_)
    match b with
    | ⟨0, _⟩ => rfl
    | ⟨1, _⟩ => rfl
  have h1 : ScatterDims.start scatter_S8192x1024_S3072x1_S3072x1024_1_0_0_1 (ix2 r d) i 1 = 0 := by
    unfold ScatterDims.start
    rw [dif_neg (by decide)]
  have w0 : ScatterDims.window scatter_S8192x1024_S3072x1_S3072x1024_1_0_0_1 (ix2 r d) 0 = 0 := by
    unfold ScatterDims.window
    rw [dif_neg (by decide)]
  have w1 : ScatterDims.window scatter_S8192x1024_S3072x1_S3072x1024_1_0_0_1 (ix2 r d) 1 = d.val := by
    unfold ScatterDims.window
    rw [dif_pos (by decide)]
    rfl
  rw [Routing.resultIdx?_eq_some]
  constructor
  · intro h
    have a0 := h 0
    have a1 := h 1
    rw [h0, w0] at a0
    rw [h1, w1] at a1
    have e0 : ((ix2 t d' : S8192x1024.Idx) 0).val = t.val := rfl
    have e1 : ((ix2 t d' : S8192x1024.Idx) 1).val = d'.val := rfl
    rw [e0] at a0
    rw [e1] at a1
    exact ⟨by omega, Fin.ext (by omega)⟩
  · rintro ⟨a0, rfl⟩ a
    match a with
    | ⟨0, _⟩ =>
      refine (congrArg₂ (fun (p : Int) (q : Nat) => p + (q : Int)) h0 w0).trans ?_
      show _ + ((0 : Nat) : Int) = (t.val : Int)
      omega
    | ⟨1, _⟩ =>
      refine (congrArg₂ (fun (p : Int) (q : Nat) => p + (q : Int)) h1 w1).trans ?_
      show 0 + ((d.val : Nat) : Int) = (d.val : Int)
      omega

theorem lands_col (i : IVec S4x768 32) (hi : ∀ g k, (i (ix2 g k)).toNat ≤ 8192) (g : Fin 4) (k : Fin 768) (d d' : Fin 1024) (t : Fin 8192) :
    scatter_S8192x1024_S3072x1_S3072x1024_1_0_0_1.resultIdx? (ix2 (fl g k) d)
        (hCol (shapeCast S3072 i Facts₀.shapeCasts_S4x768_S3072)) = some (ix2 t d')
      ↔ i (ix2 g k) = BitVec.ofNat 32 t.val ∧ d = d' := by
  have ht := t.isLt
  have hg := hi g k
  rw [lands, hCol_at _ _ (by rw [cast_fl]; omega), cast_fl, StableHlo.Predicate.toInt_eq_toNat_of_lt (by omega)]
  refine and_congr_left fun _ => ⟨fun h => BitVec.eq_of_toNat_eq ?_, fun h => ?_⟩
  · rw [BitVec.toNat_ofNat]; omega
  · rw [h, BitVec.toNat_ofNat]; omega

theorem castRows {α : Type} (y : S4x768x1024.Idx → α) (g : Fin 4) (k : Fin 768) (d : Fin 1024) :
    shapeCast S3072x1024 y Facts₀.shapeCasts_S4x768x1024_S3072x1024 (ix2 (fl g k) d) = y (ix3 g k d) := by
  refine shapeCast_apply y _ _ _ ?_
  rw [Shape.rowMajor_val_two, Shape.rowMajor_val_three]
  show (g.val * 768 + k.val) * 1024 + d.val = (768 * g.val + k.val) * 1024 + d.val
  omega

/-- A row put at token `t` by all of the windows' entries that name `t`. -/
theorem hPut_hit (i : IVec S4x768 32) (hi : ∀ g k, (i (ix2 g k)).toNat ≤ 8192) (y : FVec Ideal S4x768x1024 .bf16) (t : Fin 8192)
    (d : Fin 1024) (v : EReal) (hv : ∀ g k, i (ix2 g k) = BitVec.ofNat 32 t.val → y (ix3 g k d) = v) (g : Fin 4) (k : Fin 768)
    (hk : i (ix2 g k) = BitVec.ofNat 32 t.val) : hPut i y (ix2 t d) = v := by
  unfold hPut
  refine Routing.scatter_set_hit _ _ _ _ _ v (fun j hj => ?_) (ix2 (fl g k) d) ((lands_col i hi g k d d t).2 ⟨hk, rfl⟩)
  obtain ⟨g', k', e⟩ := fl_surj (j 0)
  obtain ⟨d', e'⟩ : ∃ d' : Fin 1024, j 1 = d' := ⟨_, rfl⟩
  have hj' : j = ix2 (fl g' k') d' := by rw [← e, ← e']; exact eq_ix2 j
  rw [hj'] at hj ⊢
  obtain ⟨h1, h2⟩ := (lands_col i hi g' k' _ d t).1 hj
  rw [castRows, h2]
  exact hv g' k' h1

/-- Zero at a token no entry names. -/
theorem hPut_miss (i : IVec S4x768 32) (hi : ∀ g k, (i (ix2 g k)).toNat ≤ 8192) (y : FVec Ideal S4x768x1024 .bf16) (t : Fin 8192)
    (d : Fin 1024) (h : ∀ g k, i (ix2 g k) ≠ BitVec.ofNat 32 t.val) : hPut i y (ix2 t d) = (0 : EReal) := by
  unfold hPut
  rw [Routing.scatter_set_miss]
  · pointwise
  · intro j hj
    obtain ⟨g', k', e⟩ := fl_surj (j 0)
    have hj' : j = ix2 (fl g' k') (j 1) := by rw [← e]; exact eq_ix2 j
    rw [hj'] at hj
    exact h g' k' ((lands_col i hi g' k' _ d t).1 hj).1

end Cert.MoeProof

end
-- ==== Proof.HostOut.lean ====
/-
  What a device adds to the result: its experts' layers at the tokens assigned to them, zero elsewhere.
-/
module

public import proofs.«01_k».proof.Proof.HostVal

@[expose] public section

noncomputable section

namespace Cert.MoeProof

open Cert.KernelIdeal Cert.KernelIdeal.Gen
open Idealize.ShloMosaic

/-- The tokens assigned to `e`. -/
def those (a : IVec S8192 32) (e : BitVec 32) : Finset (Fin 8192) := Finset.univ.filter fun q => a (ix1 q) = e

/-- The places in the order before those of `e`. -/
def before (a : IVec S8192 32) (e : BitVec 32) : Finset (Fin 8192) :=
  Finset.univ.filter fun q => (a (ix1 (sg a q))).toInt < e.toInt

theorem card_places (a : IVec S8192 32) (e : BitVec 32) :
    (Finset.univ.filter fun q : Fin 8192 => a (ix1 (sg a q)) = e).card ≤ (those a e).card := by
  refine Finset.card_le_card_of_injOn (sg a) (fun q hq => ?_) ((sg_inj a).injOn)
  simp only [Finset.coe_filter, Finset.mem_univ, true_and, Set.mem_setOf_eq, those] at hq ⊢
  exact hq

theorem before_le (a : IVec S8192 32) (e : BitVec 32) (n : Fin 8192) (h : a (ix1 (sg a n)) = e) : (before a e).card ≤ n.val := by
  have hs : before a e ⊆ Finset.univ.filter fun q : Fin 8192 => q.val < n.val := fun q hq => by
    simp only [before, Finset.mem_filter, Finset.mem_univ, true_and] at hq ⊢
    by_contra hc
    have := sg_mono a n q (Fin.le_def.2 (by omega))
    rw [h] at this
    omega
  refine (Finset.card_le_card hs).trans (le_of_eq ?_)
  rw [Routing.card_filter_fin 8192 fun x => x < n.val, Nat.count_eq_card_filter_range]
  have : (Finset.range 8192).filter (fun x => x < n.val) = Finset.range n.val := by
    ext x
    have := n.isLt
    simp only [Finset.mem_filter, Finset.mem_range]
    omega
  rw [this, Finset.card_range]

theorem lt_before (a : IVec S8192 32) (e : BitVec 32) (n : Fin 8192) (h : a (ix1 (sg a n)) = e) :
    n.val < (before a e).card + (those a e).card := by
  have hs : (Finset.univ.filter fun q : Fin 8192 => q.val < n.val + 1)
      ⊆ before a e ∪ Finset.univ.filter fun q : Fin 8192 => a (ix1 (sg a q)) = e := fun q hq => by
    simp only [before, Finset.mem_filter, Finset.mem_univ, true_and, Finset.mem_union] at hq ⊢
    have := sg_mono a q n (Fin.le_def.2 (by omega))
    rw [h] at this
    rcases lt_or_eq_of_le this with h1 | h1
    · exact .inl h1
    · exact .inr (BitVec.eq_of_toInt_eq h1)
  have h1 := (Finset.card_le_card hs).trans (Finset.card_union_le _ _)
  have h2 := card_places a e
  rw [Routing.card_filter_fin 8192 fun x => x < n.val + 1, Nat.count_eq_card_filter_range] at h1
  have : (Finset.range 8192).filter (fun x => x < n.val + 1) = Finset.range (n.val + 1) := by
    ext x
    have := n.isLt
    simp only [Finset.mem_filter, Finset.mem_range]
    omega
  rw [this, Finset.card_range] at h1
  omega

/-- Where the windows of device `c` start. -/
def wst (c : Dev nD) (a : IVec S8192 32) : IVec S4x1 32 := hStart (hCnt (hExp c) (hSa a))

/-- The device's expert `g`. -/
def ex (c : Dev nD) (g : Fin 4) : BitVec 32 := BitVec.ofNat 32 (4 * c.val + g.val)

theorem ex_inj (c : Dev nD) (g g' : Fin 4) (h : ex c g = ex c g') : g = g' := by
  have h := congrArg BitVec.toNat h
  have hc : c.val < 4 := c.isLt
  unfold ex at h
  rw [BitVec.toNat_ofNat, BitVec.toNat_ofNat] at h
  exact Fin.ext (by omega)

theorem lo_wst (c : Dev nD) (a : IVec S8192 32) (g : Fin 4) : lo (wst c a) g = min (before a (ex c g)).card 7424 := by
  have hn : (hCnt (hExp c) (hSa a) (ix1 g)).toNat = (before a (ex c g)).card := by
    rw [hCnt_at, hExp_at]
    refine congrArg Finset.card (Finset.filter_congr fun q _ => ?_)
    rw [hSa_at]
    rfl
  have hle : (before a (ex c g)).card ≤ 8192 := (Finset.card_filter_le _ _).trans (le_of_eq (by rw [Finset.card_univ, Fintype.card_fin]))
  unfold lo wst
  rw [hStart_at _ _ (by omega), StableHlo.Predicate.toInt_eq_toNat_of_lt (by omega), hn]
  rw [Int.toNat_natCast]

/-- Entry `k` of window `g`, as a place in the order. -/
def pl (c : Dev nD) (a : IVec S8192 32) (g : Fin 4) (k : Fin 768) : Fin 8192 := ⟨lo (wst c a) g + k.val, lo_lt _ g k⟩

/-- The window of an expert covers its tokens. -/
theorem covers (c : Dev nD) (a : IVec S8192 32) (g : Fin 4) (hcap : (those a (ex c g)).card ≤ 768) (t : Fin 8192)
    (h : a (ix1 t) = ex c g) : ∃ k, sg a (pl c a g k) = t := by
  obtain ⟨n, rfl⟩ := sg_surj a t
  have h1 := before_le a _ n h
  have h2 := lt_before a _ n h
  have h3 := lo_wst c a g
  have h4 := n.isLt
  refine ⟨⟨n.val - lo (wst c a) g, by omega⟩, congrArg (sg a) (Fin.ext ?_)⟩
  show lo (wst c a) g + (n.val - lo (wst c a) g) = n.val
  omega

/-- One row through one expert's layers. -/
def mlp (x : Fin 1024 → EReal) (w1 : Fin 1024 → Fin 2048 → EReal) (w2 : Fin 2048 → Fin 1024 → EReal) (d : Fin 1024) : EReal :=
  ∑ f : Fin 2048, max (∑ e : Fin 1024, x e * w1 e f) 0 * w2 f d

/-- The tokens of the windows. -/
def wi (c : Dev nD) (a : IVec S8192 32) : IVec S4x768 32 := hWin (hOrd a) (wst c a)
/-- Which of them are the experts'. -/
def wv (c : Dev nD) (a : IVec S8192 32) : IVec S4x768 1 := hValid (hExp c) (hWin (hSa a) (wst c a))

theorem wi_at (c : Dev nD) (a : IVec S8192 32) (g : Fin 4) (k : Fin 768) :
    wi c a (ix2 g k) = BitVec.ofNat 32 (sg a (pl c a g k)).val := by
  unfold wi
  rw [hWin_at, hOrd_at]
  rfl

theorem wv_at (c : Dev nD) (a : IVec S8192 32) (g : Fin 4) (k : Fin 768) :
    wv c a (ix2 g k) = 1#1 ↔ a (ix1 (sg a (pl c a g k))) = ex c g := by
  unfold wv
  rw [hValid_at, hWin_at, hSa_at, hExp_at]
  rfl

theorem drop_le (c : Dev nD) (a : IVec S8192 32) (g : Fin 4) (k : Fin 768) : (hDrop (wv c a) (wi c a) (ix2 g k)).toNat ≤ 8192 := by
  have := (sg a (pl c a g k)).isLt
  rw [hDrop_at, wi_at]
  split
  · rw [BitVec.toNat_ofNat]; omega
  · decide

/-- The entries put at token `t` are those of `t` in the window of its own expert. -/
theorem drop_iff (c : Dev nD) (a : IVec S8192 32) (g : Fin 4) (k : Fin 768) (t : Fin 8192) :
    hDrop (wv c a) (wi c a) (ix2 g k) = BitVec.ofNat 32 t.val ↔ sg a (pl c a g k) = t ∧ a (ix1 t) = ex c g := by
  have h0 := (sg a (pl c a g k)).isLt
  have h1 := t.isLt
  rw [hDrop_at, wi_at]
  constructor
  · intro h
    split at h
    · next hv =>
      have e : sg a (pl c a g k) = t := by
        have h := congrArg BitVec.toNat h
        rw [BitVec.toNat_ofNat, BitVec.toNat_ofNat] at h
        exact Fin.ext (by omega)
      exact ⟨e, e ▸ (wv_at c a g k).1 hv⟩
    · have h := congrArg BitVec.toNat h
      rw [BitVec.toNat_ofNat, BitVec.toNat_ofNat] at h
      omega
  · rintro ⟨rfl, h⟩
    rw [if_pos ((wv_at c a g k).2 h)]

theorem hOut_own (c : Dev nD) (x : FVec Ideal S8192x1024 .bf16) (a : IVec S8192 32) (w1 : FVec Ideal S4x1024x2048 .bf16)
    (w2 : FVec Ideal S4x2048x1024 .bf16) (g : Fin 4) (hcap : (those a (ex c g)).card ≤ 768) (t : Fin 8192) (d : Fin 1024)
    (h : a (ix1 t) = ex c g) :
    hOut c x a w1 w2 (ix2 t d) = mlp (fun e => x (ix2 t e)) (fun e f => w1 (ix3 g e f)) (fun f d => w2 (ix3 g f d)) d := by
  obtain ⟨k, hk⟩ := covers c a g hcap t h
  refine hPut_hit (hDrop (wv c a) (wi c a)) (drop_le c a) _ t d _ (fun g' k' e => ?_) g k ((drop_iff c a g k t).2 ⟨hk, h⟩)
  obtain ⟨e1, e2⟩ := (drop_iff c a g' k' t).1 e
  obtain rfl := ex_inj c _ _ (e2.symm.trans h)
  show hMask (wv c a) (hDown (hRelu (hUp (hTake x (shapeCast S3072 (wi c a) Facts₀.shapeCasts_S4x768_S3072)) w1)) w2) (ix3 g' k' d) = _
  rw [hMask_at _ _ _ _ _ ((wv_at c a g' k').2 (e1.symm ▸ e2)), hDown_at]
  refine Finset.sum_congr rfl fun f _ => ?_
  rw [hRelu_at, hUp_at]
  refine congrArg (fun s => max s 0 * w2 (ix3 g' f d)) (Finset.sum_congr rfl fun e _ => ?_)
  rw [hTake_at x _ _ e t (by rw [cast_fl, wi_at, e1])]

theorem hOut_other (c : Dev nD) (x : FVec Ideal S8192x1024 .bf16) (a : IVec S8192 32) (w1 : FVec Ideal S4x1024x2048 .bf16)
    (w2 : FVec Ideal S4x2048x1024 .bf16) (t : Fin 8192) (d : Fin 1024) (h : ∀ g, a (ix1 t) ≠ ex c g) :
    hOut c x a w1 w2 (ix2 t d) = (0 : EReal) :=
  hPut_miss (hDrop (wv c a) (wi c a)) (drop_le c a) _ t d fun g k e => h g ((drop_iff c a g k t).1 e).2

end Cert.MoeProof

end
-- ==== Proof.Value.lean ====
/-
  The kernel's result and the reference's are the same at every index.
-/
module

public import proofs.«01_k».proof.Proof.Run
public import proofs.«01_k».proof.Proof.HostOut
public import proofs.«01_k».proof.Proof.Fits
public import proofs.«01_k».proof.Proof.RefVal
public import Idealize.ShloMosaic.Lib.Layout
public import Idealize.ShloMosaic.Lib.Pointwise

@[expose] public section

noncomputable section

namespace Cert.MoeProof

open Cert.KernelIdeal Cert.KernelIdeal.Gen
open Idealize.ShloMosaic
open Idealize.ShloMosaic.TcCoe

theorem pair_ix2 {a b : Nat} (i : Fin a) (j : Fin b) : (Shape.pair i j : (⟨2, ![a, b]⟩ : Shape).Idx) = ix2 i j := eq_ix2 _

/-! ## The sum of the four devices' parts -/

/-- Row `i` of block `c`. -/
def row (c : Dev nD) (i : Fin 2048) : Fin 8192 := ⟨2048 * c.val + i.val, by have : c.val < 4 := c.isLt; omega⟩

variable (I : Inp Ideal)

theorem own_read (c : Dev nD) (i : Fin 2048) (d : Fin 1024) :
    (((Memref.whole cc1_stg0_0 : Memref sig .tc .vmem S8192x1024 .bf16).access (Rect.unit (s := S8192x1024) (k1_off2 c) S2048x1024.size (k1_off2_inb c))).read (Elt Ideal) (I.P c))
      (ix2 i d) = I.P c (ix2 (row c i) d) := by
  refine congrArg (I.P c) (funext fun a => Fin.ext ?_)
  have h := k1_off2_eq c
  match a with
  | ⟨0, _⟩ =>
    show k1_off2 c 0 + 1 * i.val = 2048 * c.val + i.val
    rw [h]; show 2048 * c.val + 1 * i.val = _; omega
  | ⟨1, _⟩ =>
    show k1_off2 c 1 + 1 * d.val = d.val
    rw [h]; show 0 + 1 * d.val = _; omega

theorem slot_read (c : Dev nD) (j : Fin 3) (h : ∀ a, (![j.val, 0, 0] : Fin 3 → Nat) a + S1x2048x1024.size a ≤ S3x2048x1024.size a)
    (i : Fin 2048) (d : Fin 1024) :
    (((Memref.whole cc1_scratch0 : Memref sig .tc .vmem S3x2048x1024 .bf16).access (Rect.unit (s := S3x2048x1024) ![j.val, 0, 0] S1x2048x1024.size h)).read (Elt Ideal) (cmb I c))
      (ix3 0 i d) = I.P (pr j.rev c) (ix2 (row c i) d) := by
  have e : (Rect.unit (s := S3x2048x1024) ![j.val, 0, 0] S1x2048x1024.size h).emb (ix3 0 i d) = ix3 j i d := by
    funext a
    refine Fin.ext ?_
    match a with
    | ⟨0, _⟩ => show j.val + 1 * 0 = j.val; omega
    | ⟨1, _⟩ => show 0 + 1 * i.val = i.val; omega
    | ⟨2, _⟩ => show 0 + 1 * d.val = d.val; omega
  show cmb I c ((Rect.unit (s := S3x2048x1024) ![j.val, 0, 0] S1x2048x1024.size h).emb (ix3 0 i d)) = _
  rw [e]
  unfold cmb
  exact congrArg (I.P (pr j.rev c)) (pair_ix2 _ _)

theorem sum_at (s : Vec Ideal S2048x1024 .bf16) (s0 s1 s2 : Vec Ideal S1x2048x1024 .bf16) (i : Fin 2048) (d : Fin 1024) :
    k1_pay1 (k1_pay2 s s0) s1 s2 (ix2 i d)
      = (s (ix2 i d) + s0 (ix3 0 i d) + s1 (ix3 0 i d) + s2 (ix3 0 i d) : EReal) := by
  unfold k1_pay1 k1_pay2
  pointwise

theorem rsOut_at (c : Dev nD) (i : Fin 2048) (d : Fin 1024) :
    rsOut I c (ix2 i d) = (I.P c (ix2 (row c i) d) + I.P (pr 2 c) (ix2 (row c i) d) + I.P (pr 1 c) (ix2 (row c i) d)
      + I.P (pr 0 c) (ix2 (row c i) d) : EReal) := by
  have h0 := slot_read I c 0 inb_S3x2048x1024_S1x2048x1024_0_0_0 i d
  have h1 := slot_read I c 1 inb_S3x2048x1024_S1x2048x1024_1_0_0 i d
  have h2 := slot_read I c 2 inb_S3x2048x1024_S1x2048x1024_2_0_0 i d
  have h := own_read I c i d
  refine (sum_at _ _ _ _ i d).trans ?_
  exact congr (congrArg _ (congr (congrArg _ (congr (congrArg _ h) h0)) h1)) h2

/-! ## The inputs, as the whole arrays -/

variable (m : (ℓ : Loc nD τ sig) → Buf (Elt Ideal) ℓ)

/-- Every device holds its block of the four whole arrays. -/
structure Shared (X : (⟨2, ![8192, 1024]⟩ : Shape).Idx → EReal) (A : (⟨1, ![8192]⟩ : Shape).Idx → BitVec 32)
    (W1 : (⟨3, ![16, 1024, 2048]⟩ : Shape).Idx → EReal) (W2 : (⟨3, ![16, 2048, 1024]⟩ : Shape).Idx → EReal) : Prop where
  x : ∀ (c : Dev nD) (i : Fin 2048) (e : Fin 1024) (t : Fin 8192), t.val = c.val * 2048 + i.val →
    (m (c, main_arg0) : FVec Ideal S2048x1024 .f32) (ix2 i e) = X (ix2 t e)
  a : ∀ (c : Dev nD) (i : Fin 2048) (t : Fin 8192), t.val = c.val * 2048 + i.val →
    (m (c, main_arg1) : IVec S2048 32) (ix1 i) = A (ix1 t)
  w1 : ∀ (c : Dev nD) (g : Fin 4) (e : Fin 1024) (f : Fin 2048) (o : Fin 16), o.val = c.val * 4 + g.val →
    (m (c, main_arg2) : FVec Ideal S4x1024x2048 .f32) (ix3 g e f) = W1 (ix3 o e f)
  w2 : ∀ (c : Dev nD) (g : Fin 4) (f : Fin 2048) (d : Fin 1024) (o : Fin 16), o.val = c.val * 4 + g.val →
    (m (c, main_arg3) : FVec Ideal S4x2048x1024 .f32) (ix3 g f d) = W2 (ix3 o f d)

variable {m} {X : (⟨2, ![8192, 1024]⟩ : Shape).Idx → EReal} {A : (⟨1, ![8192]⟩ : Shape).Idx → BitVec 32}
    {W1 : (⟨3, ![16, 1024, 2048]⟩ : Shape).Idx → EReal} {W2 : (⟨3, ![16, 2048, 1024]⟩ : Shape).Idx → EReal}

theorem Shared.agx_at (S : Shared m X A W1 W2) (t : Fin 8192) (e : Fin 1024) : agx (II m) (ix2 t e) = X (ix2 t e) := by
  have ht := t.isLt
  refine Eq.trans ?_ (S.x ⟨t.val / 2048, by show _ < 4; omega⟩ ⟨t.val % 2048, Nat.mod_lt _ (by decide)⟩ e t ?_)
  · unfold agx
    refine (congrFun (hX m _) _).trans ((congrFun (V1_of m _ _ (by decide)) _).trans ?_)
    exact congrArg (m _) (pair_ix2 _ _)
  · show t.val = t.val / 2048 * 2048 + t.val % 2048
    omega

theorem V1_assign (c : Dev nD) : (V1 m c main_v1 : IVec S16x128 32) = shapeCast S16x128 (m (c, main_arg1) : IVec S2048 32) shapeCasts_S2048_S16x128 := by
  unfold V1 hostOps0
  after_reads_simp
  rfl

theorem assign_at (c : Dev nD) (r : Fin 16) (k : Fin 128) (i : Fin 2048) (h : i.val = r.val * 128 + k.val) :
    (II m).A c (ix2 r k) = (m (c, main_arg1) : IVec S2048 32) (ix1 i) := by
  refine (congrFun (hA m c) _).trans ((congrFun (V1_assign c) _).trans ?_)
  refine shapeCast_apply (s := S2048) (t := S16x128) _ _ _ _ ?_
  rw [Shape.rowMajor_val_one, Shape.rowMajor_val_two]
  show i.val = r.val * 128 + k.val
  exact h

theorem Shared.tok_at (S : Shared m X A W1 W2) (t : Fin 8192) : hTok (aga (II m)) (ix1 t) = A (ix1 t) := by
  have ht := t.isLt
  refine Eq.trans ?_ (S.a ⟨t.val / 2048, by show _ < 4; omega⟩ ⟨t.val % 2048, Nat.mod_lt _ (by decide)⟩ t ?_)
  · have e : hTok (aga (II m)) (ix1 t) = aga (II m) (ix2 (⟨t.val / 128, by omega⟩ : Fin 64) (⟨t.val % 128, Nat.mod_lt _ (by decide)⟩ : Fin 128)) := by
      unfold hTok
      refine shapeCast_apply _ _ _ _ ?_
      rw [Shape.rowMajor_val_one, Shape.rowMajor_val_two]
      show t.val / 128 * 128 + t.val % 128 = t.val
      omega
    refine e.trans ?_
    unfold aga
    have key := assign_at (m := m) ⟨t.val / 2048, by show _ < 4; omega⟩ ⟨t.val / 128 % 16, Nat.mod_lt _ (by decide)⟩
      ⟨t.val % 128, Nat.mod_lt _ (by decide)⟩ ⟨t.val % 2048, Nat.mod_lt _ (by decide)⟩
      (by show t.val % 2048 = t.val / 128 % 16 * 128 + t.val % 128; omega)
    refine Eq.trans ?_ key
    have q : (⟨t.val / 128 / 16, by show _ < 4; omega⟩ : Dev nD) = ⟨t.val / 2048, by show _ < 4; omega⟩ :=
      Fin.ext (by show t.val / 128 / 16 = t.val / 2048; omega)
    exact (congrArg ((II m).A _) (pair_ix2 _ _)).trans (congrFun (congrArg (II m).A q) _)
  · show t.val = t.val / 2048 * 2048 + t.val % 2048
    omega

/-! ## One device's part -/

theorem part_eq (c : Dev nD) : (II m).P c = hOut c (agx (II m)) (hTok (aga (II m)))
    (m (c, main_arg2) : FVec Ideal S4x1024x2048 .f32) (m (c, main_arg3) : FVec Ideal S4x2048x1024 .f32) := by
  refine (II_P m c).trans ((congrFun (V11_eq m c) _).trans ?_)
  unfold host
  refine (read_v58 c (mid m c)).trans ?_
  rw [mid_x, mid_a, mid_of m c main_arg2 (by decide) (by decide), mid_of m c main_arg3 (by decide) (by decide),
    V1_of m c main_arg2 (by decide), V1_of m c main_arg3 (by decide)]

theorem mlp_congr {x x' : Fin 1024 → EReal} {w1 w1' : Fin 1024 → Fin 2048 → EReal} {w2 w2' : Fin 2048 → Fin 1024 → EReal}
    (hx : ∀ e, x e = x' e) (h1 : ∀ e f, w1 e f = w1' e f) (h2 : ∀ f d, w2 f d = w2' f d) (d : Fin 1024) :
    mlp x w1 w2 d = mlp x' w1' w2' d := by
  rw [show x = x' from funext hx, show w1 = w1' from funext fun e => funext (h1 e), show w2 = w2' from funext fun f => funext (h2 f)]

theorem Shared.own (S : Shared m X A W1 W2) (hcap : ∀ e : Fin 16, (those (hTok (aga (II m))) (BitVec.ofNat 32 e.val)).card ≤ 768)
    (c : Dev nD) (g : Fin 4) (t : Fin 8192) (d : Fin 1024) (h : A (ix1 t) = ex c g) :
    (II m).P c (ix2 t d) = Cert.MoeRef.lay X W1 W2 t d (4 * c.val + g.val) := by
  have hc : c.val < 4 := c.isLt
  have hg := g.isLt
  refine (congrFun (part_eq c) _).trans ?_
  refine (hOut_own c _ _ _ _ g (hcap ⟨4 * c.val + g.val, by omega⟩) t d ((S.tok_at t).trans h)).trans ?_
  refine (mlp_congr (fun e => S.agx_at t e)
    (fun e f => S.w1 c g e f ⟨(4 * c.val + g.val) % 16, Nat.mod_lt _ (by decide)⟩ ?_)
    (fun f d => S.w2 c g f d ⟨(4 * c.val + g.val) % 16, Nat.mod_lt _ (by decide)⟩ ?_) d).trans ?_
  · show (4 * c.val + g.val) % 16 = c.val * 4 + g.val
    omega
  · show (4 * c.val + g.val) % 16 = c.val * 4 + g.val
    omega
  · rfl

theorem Shared.other (S : Shared m X A W1 W2) (c : Dev nD) (t : Fin 8192) (d : Fin 1024) (h : ∀ g, A (ix1 t) ≠ ex c g) :
    (II m).P c (ix2 t d) = (0 : EReal) := by
  refine (congrFun (part_eq c) _).trans ?_
  exact hOut_other c _ _ _ _ t d fun g e => h g ((S.tok_at t).symm.trans e)

/-! ## The sum, as the reference has it -/

theorem ex_dev {c c' : Dev nD} {g g' : Fin 4} (h : ex c g = ex c' g') : c = c' := by
  have hc : c.val < 4 := c.isLt
  have hc' : c'.val < 4 := c'.isLt
  have hg := g.isLt
  have hg' := g'.isLt
  have := congrArg BitVec.toNat h
  unfold ex at this
  rw [BitVec.toNat_ofNat, BitVec.toNat_ofNat, Nat.mod_eq_of_lt (by omega), Nat.mod_eq_of_lt (by omega)] at this
  exact Fin.ext (by omega)

/-- One of the four places a part is added at is the owner's. -/
theorem owner_place : ∀ c o : Dev nD,
    (c = o ∧ pr 2 c ≠ o ∧ pr 1 c ≠ o ∧ pr 0 c ≠ o) ∨ (c ≠ o ∧ pr 2 c = o ∧ pr 1 c ≠ o ∧ pr 0 c ≠ o)
      ∨ (c ≠ o ∧ pr 2 c ≠ o ∧ pr 1 c = o ∧ pr 0 c ≠ o) ∨ (c ≠ o ∧ pr 2 c ≠ o ∧ pr 1 c ≠ o ∧ pr 0 c = o) := by
  decide

theorem sum_own (c o : Dev nD) (p : Dev nD → EReal) (v : EReal) (h : p o = v) (h' : ∀ c', c' ≠ o → p c' = 0) :
    p c + p (pr 2 c) + p (pr 1 c) + p (pr 0 c) = v := by
  rcases owner_place c o with ⟨a0, a1, a2, a3⟩ | ⟨a0, a1, a2, a3⟩ | ⟨a0, a1, a2, a3⟩ | ⟨a0, a1, a2, a3⟩
  · rw [h' _ a1, h' _ a2, h' _ a3, a0, h, add_zero, add_zero, add_zero]
  · rw [h' _ a0, a1, h' _ a2, h' _ a3, h, zero_add, add_zero, add_zero]
  · rw [h' _ a0, h' _ a1, a2, h' _ a3, h, zero_add, zero_add, add_zero]
  · rw [h' _ a0, h' _ a1, h' _ a2, a3, h, zero_add, zero_add, zero_add]

theorem Shared.sum (S : Shared m X A W1 W2) (hcap : ∀ e : Fin 16, (those (hTok (aga (II m))) (BitVec.ofNat 32 e.val)).card ≤ 768)
    (c : Dev nD) (i : Fin 2048) (d : Fin 1024) :
    rsOut (II m) c (ix2 i d) = Cert.MoeRef.pick (Cert.MoeRef.lay X W1 W2 (row c i) d) (A (ix1 (row c i))) 16 := by
  refine (rsOut_at (II m) c i d).trans ?_
  by_cases h : ∃ (o : Dev nD) (g : Fin 4), A (ix1 (row c i)) = ex o g
  · obtain ⟨o, g, h⟩ := h
    have ho : o.val < 4 := o.isLt
    have hg := g.isLt
    refine (sum_own c o (fun c' => (II m).P c' (ix2 (row c i) d)) _ (S.own hcap o g (row c i) d h) fun c' ne => ?_).trans ?_
    · exact S.other c' (row c i) d fun g' e => ne (ex_dev (e.symm.trans h))
    · rw [h]
      exact (Cert.MoeRef.pick_hit _ (4 * o.val + g.val) 16 (by decide) (by omega)).symm
  · have z : ∀ c' : Dev nD, (II m).P c' (ix2 (row c i) d) = (0 : EReal) := fun c' =>
      S.other c' (row c i) d fun g e => h ⟨c', g, e⟩
    refine (sum_own c c (fun c' => (II m).P c' (ix2 (row c i) d)) 0 (z c) fun c' _ => z c').trans ?_
    refine (Cert.MoeRef.pick_miss _ _ 16 fun e he ha => ?_).symm
    refine h ⟨⟨e / 4, by show _ < 4; omega⟩, ⟨e % 4, Nat.mod_lt _ (by decide)⟩, ha.trans ?_⟩
    show BitVec.ofNat 32 e = BitVec.ofNat 32 (4 * (e / 4) + e % 4)
    rw [Nat.div_add_mod]

/-! ## No expert has too many tokens -/

theorem Shared.cap (S : Shared m X A W1 W2) [Cert.Pre_fits_KernelIdeal.Facts]
    (hpre : ∀ c : Dev nD, Cert.Pre_fits_KernelIdeal.fn (F := Ideal) (m (c, main_arg0)) (m (c, main_arg1)) (m (c, main_arg2)) (m (c, main_arg3)) = fun _ => 1#1)
    (e : Fin 16) : (those (hTok (aga (II m))) (BitVec.ofNat 32 e.val)).card ≤ 768 := by
  classical
  have each : ∀ c : Dev nD, (Finset.univ.filter fun q : Fin 2048 => (m (c, main_arg1) : IVec S2048 32) (ix1 q) = BitVec.ofNat 32 e.val).card ≤ 192 :=
    fun c => fits_card _ _ _ _ (hpre c) e
  have sub : those (hTok (aga (II m))) (BitVec.ofNat 32 e.val)
      ⊆ (Finset.univ : Finset (Dev nD)).biUnion fun c => (Finset.univ.filter fun q : Fin 2048 => (m (c, main_arg1) : IVec S2048 32) (ix1 q) = BitVec.ofNat 32 e.val).image (row c) := by
    intro t ht
    have hl := t.isLt
    have h : hTok (aga (II m)) (ix1 t) = BitVec.ofNat 32 e.val := (Finset.mem_filter.mp ht).2
    refine Finset.mem_biUnion.mpr ⟨⟨t.val / 2048, by show _ < 4; omega⟩, Finset.mem_univ _, Finset.mem_image.mpr
      ⟨⟨t.val % 2048, Nat.mod_lt _ (by decide)⟩, Finset.mem_filter.mpr ⟨Finset.mem_univ _, ?_⟩, ?_⟩⟩
    · refine (S.a _ _ t ?_).trans ((S.tok_at t).symm.trans h)
      show t.val = t.val / 2048 * 2048 + t.val % 2048
      omega
    · refine Fin.ext ?_
      show 2048 * (t.val / 2048) + t.val % 2048 = t.val
      omega
  refine (Finset.card_le_card sub).trans (Finset.card_biUnion_le.trans ?_)
  refine (Finset.sum_le_card_nsmul _ _ 192 fun c _ => Finset.card_image_le.trans (each c)).trans ?_
  rw [Finset.card_univ, Fintype.card_fin]
  decide

/-- Blocks of the whole arrays are shared. -/
theorem shared_of_blocks
    (h : ∀ c : Dev nD,
      m ((c.tc : Thread nD τ).loc main_arg0) = Layout.block ⟨2, ![2048, 1024]⟩ ⟨2, ![8192, 1024]⟩ 0 4 c X
      ∧ m ((c.tc : Thread nD τ).loc main_arg1) = Layout.block ⟨1, ![2048]⟩ ⟨1, ![8192]⟩ 0 4 c A
      ∧ m ((c.tc : Thread nD τ).loc main_arg2) = Layout.block ⟨3, ![4, 1024, 2048]⟩ ⟨3, ![16, 1024, 2048]⟩ 0 4 c W1
      ∧ m ((c.tc : Thread nD τ).loc main_arg3) = Layout.block ⟨3, ![4, 2048, 1024]⟩ ⟨3, ![16, 2048, 1024]⟩ 0 4 c W2) :
    Shared m X A W1 W2 where
  x c i e t ht := (congrFun (h c).1 (ix2 i e)).trans (congrArg X (funext fun b => Fin.ext (by
    match b with
    | ⟨0, _⟩ => exact ht.symm
    | ⟨1, _⟩ => rfl)))
  a c i t ht := (congrFun (h c).2.1 (ix1 i)).trans (congrArg A (funext fun b => Fin.ext (by
    match b with
    | ⟨0, _⟩ => exact ht.symm)))
  w1 c g e f o ho := (congrFun (h c).2.2.1 (ix3 g e f)).trans (congrArg W1 (funext fun b => Fin.ext (by
    match b with
    | ⟨0, _⟩ => exact ho.symm
    | ⟨1, _⟩ => rfl
    | ⟨2, _⟩ => rfl)))
  w2 c g f d o ho := (congrFun (h c).2.2.2 (ix3 g f d)).trans (congrArg W2 (funext fun b => Fin.ext (by
    match b with
    | ⟨0, _⟩ => exact ho.symm
    | ⟨1, _⟩ => rfl
    | ⟨2, _⟩ => rfl)))

/-- The kernel's result on device `c` is block `c` of the reference's. -/
theorem value_eq [Cert.Pre_fits_KernelIdeal.Facts]
    (hpre : ∀ c : Dev nD, Cert.Pre_fits_KernelIdeal.fn (F := Ideal) (m (c, main_arg0)) (m (c, main_arg1)) (m (c, main_arg2)) (m (c, main_arg3)) = fun _ => 1#1)
    (m' : (ℓ : Loc Cert.ReferenceIdeal.nD Cert.ReferenceIdeal.τ Cert.ReferenceIdeal.sig) → Buf (Elt Ideal) ℓ)
    (S : Shared m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)))
    (c : Dev nD) :
    rsOut (II m) c = Layout.block ⟨2, ![2048, 1024]⟩ ⟨2, ![8192, 1024]⟩ 0 4 c (Cert.MoeRef.res m') := by
  funext x
  obtain ⟨i, d, rfl⟩ : ∃ (i : Fin 2048) (d : Fin 1024), x = ix2 i d := ⟨x 0, x 1, eq_ix2 x⟩
  refine (S.sum (S.cap hpre) c i d).trans ?_
  have e : (Layout.block ⟨2, ![2048, 1024]⟩ ⟨2, ![8192, 1024]⟩ 0 4 c (Cert.MoeRef.res m') : FVec Ideal S2048x1024 .f32) (ix2 i d)
      = Cert.MoeRef.res m' (ix2 (row c i) d) := congrArg (Cert.MoeRef.res m') (funext fun b => Fin.ext (by
    match b with
    | ⟨0, _⟩ => show c.val * 2048 + i.val = 2048 * c.val + i.val; omega
    | ⟨1, _⟩ => rfl))
  exact Eq.trans rfl e.symm

end Cert.MoeProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Fits
public import proofs.«01_k».proof.Proof.RefVal
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_fits_KernelIdeal.Facts := Cert.MoeProof.fits_facts
instance : Cert.Pre_fits_ReferenceIdeal.Facts := Cert.MoeProof.fits_facts_whole

/-! The two kernel programs have one text, so one run serves both: each body, each launch and each window of
    the host program is the same function. -/

theorem body0_same : Cert.Kernel.cc0__ag_body (F := Bits) = Cert.KernelIdeal.cc0__ag_body (F := Bits) := by rfl

theorem body1_same : Cert.Kernel.cc1__rs_body (F := Bits) = Cert.KernelIdeal.cc1__rs_body (F := Bits) := by rfl

theorem labels_same : Cert.Kernel.defs₀ (F := Bits) = Cert.KernelIdeal.defs₀ (F := Bits) := by
  unfold Cert.Kernel.defs₀ Cert.KernelIdeal.defs₀
  refine congrArg Defs.onTc (funext fun l => ?_)
  match l with
  | 0 => exact funext fun a => by rfl
  | 1 => exact funext fun a => by rfl

theorem defs_same : Cert.Kernel.defs (F := Bits) = Cert.KernelIdeal.defs (F := Bits) :=
  congrArg (Pipeline.defs (Cert.KernelIdeal.pcfgs (F := Bits))) labels_same

set_option maxHeartbeats 1000000 in
theorem main_same (c : Dev Cert.Kernel.nD) :
    Cert.Kernel.main (F := Bits) c = Cert.KernelIdeal.main (F := Bits) c := by
  unfold Cert.Kernel.main Cert.KernelIdeal.main
  rfl

/-- A run of the second program is a run of the first. -/
theorem run_same (s) (Q) (h : θ_run (Cert.KernelIdeal.defs (F := Bits))
      (onTc (τ := Cert.KernelIdeal.τ) (Cert.KernelIdeal.main (F := Bits))) s Q) :
    θ_run (Cert.Kernel.defs (F := Bits)) (onTc (τ := Cert.Kernel.τ) (Cert.Kernel.main (F := Bits))) s Q :=
  (congrArg₂ (fun D p => θ_run D p s Q) defs_same
    (congrArg (onTc (τ := Cert.Kernel.τ)) (funext main_same))).mpr h

theorem frame_kernel : Cert.quiescent_Kernel := fun m ρ _ =>
  run_same _ _ ((θ_run (Cert.KernelIdeal.defs (F := Bits)) _ _).mono
    (fun _ h => ⟨fun c => (h.1 c).1, h.2⟩) (Cert.MoeProof.run_main (F := Bits) m ρ))

theorem frame_ideal : Cert.quiescent_KernelIdeal := fun m ρ _ =>
  (θ_run (Cert.KernelIdeal.defs (F := Ideal)) _ _).mono (fun _ h => ⟨fun c => (h.1 c).1, h.2⟩) (Cert.MoeProof.run_main (F := Ideal) m ρ)

theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

theorem frame_ideal_fits : Cert.quiescent_KernelIdeal_pre_fits_KernelIdeal := fun m ρ _ =>
  (θ_run (Cert.KernelIdeal.defs (F := Ideal)) _ _).mono (fun _ h => ⟨fun c => (h.1 c).1, h.2⟩) (Cert.MoeProof.run_main (F := Ideal) m ρ)

theorem frame_reference_fits : Cert.quiescent_ReferenceIdeal_pre_fits_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

theorem same_values : Cert.algebraic_KernelIdeal_ReferenceIdeal_pre_fits_KernelIdeal := fun m g m' g' hpre hargs =>
  ⟨Cert.MoeRef.res m',
    (θ_run (Cert.KernelIdeal.defs (F := Ideal)) _ _).mono
      (fun _ h c => ⟨(h.1 c).2.trans (Cert.MoeProof.value_eq hpre m' (Cert.MoeProof.shared_of_blocks hargs) c), (h.1 c).1⟩)
      (Cert.MoeProof.run_main (F := Ideal) m g),
    Cert.MoeRef.run_res m' g'⟩

theorem claim : Cert.Claim :=
  ⟨Cert.Kernel.Gen.facts, Cert.KernelIdeal.Gen.facts, Cert.ReferenceIdeal.Gen.facts, Cert.MoeProof.fits_facts, Cert.MoeProof.fits_facts_whole,
    frame_kernel, frame_ideal, frame_ideal_fits, frame_reference, frame_reference_fits, trivial, same_values⟩

end Cert.Proof

end
